-- ==== Defs.lean ====
def Pre_CtxFirst (m : (ℓ : Loc Cert.CtxFirst.nD Cert.CtxFirst.τ Cert.CtxFirst.sig) → Buf (Elt Bits) ℓ) : Prop :=
  True

def Pre_CtxFirstIdeal (m : (ℓ : Loc Cert.CtxFirstIdeal.nD Cert.CtxFirstIdeal.τ Cert.CtxFirstIdeal.sig) → Buf (Elt Ideal) ℓ) : Prop :=
  True

def Pre_CtxFirstIdeal_finite_first [hPre_finite_first : Cert.Pre_finite_first.Facts] (m : (ℓ : Loc Cert.CtxFirstIdeal.nD Cert.CtxFirstIdeal.τ Cert.CtxFirstIdeal.sig) → Buf (Elt Ideal) ℓ) : Prop :=
  ∀ c : Dev Cert.CtxFirstIdeal.nD,
    (Cert.Pre_finite_first.fn (F := Ideal) (m ((c.tc : Thread Cert.CtxFirstIdeal.nD Cert.CtxFirstIdeal.τ).loc Cert.CtxFirstIdeal.main_arg0))) = (fun _ => 1#1)

def Pre_CtxFirstRefIdeal (m : (ℓ : Loc Cert.CtxFirstRefIdeal.nD Cert.CtxFirstRefIdeal.τ Cert.CtxFirstRefIdeal.sig) → Buf (Elt Ideal) ℓ) : Prop :=
  True

def Pre_CtxFirstRefIdeal_finite_first [hPre_finite_first : Cert.Pre_finite_first.Facts] (m : (ℓ : Loc Cert.CtxFirstRefIdeal.nD Cert.CtxFirstRefIdeal.τ Cert.CtxFirstRefIdeal.sig) → Buf (Elt Ideal) ℓ) : Prop :=
  ∀ c : Dev Cert.CtxFirstRefIdeal.nD,
    (Cert.Pre_finite_first.fn (F := Ideal) (m ((c.tc : Thread Cert.CtxFirstRefIdeal.nD Cert.CtxFirstRefIdeal.τ).loc Cert.CtxFirstRefIdeal.main_arg0))) = (fun _ => 1#1)

def Pre_CtxNext (m : (ℓ : Loc Cert.CtxNext.nD Cert.CtxNext.τ Cert.CtxNext.sig) → Buf (Elt Bits) ℓ) : Prop :=
  True

def Pre_CtxNextIdeal (m : (ℓ : Loc Cert.CtxNextIdeal.nD Cert.CtxNextIdeal.τ Cert.CtxNextIdeal.sig) → Buf (Elt Ideal) ℓ) : Prop :=
  True

def Pre_CtxNextIdeal_finite_next [hPre_finite_next : Cert.Pre_finite_next.Facts] (m : (ℓ : Loc Cert.CtxNextIdeal.nD Cert.CtxNextIdeal.τ Cert.CtxNextIdeal.sig) → Buf (Elt Ideal) ℓ) : Prop :=
  ∀ c : Dev Cert.CtxNextIdeal.nD,
    (Cert.Pre_finite_next.fn (F := Ideal) (m ((c.tc : Thread Cert.CtxNextIdeal.nD Cert.CtxNextIdeal.τ).loc Cert.CtxNextIdeal.main_arg0)) (m ((c.tc : Thread Cert.CtxNextIdeal.nD Cert.CtxNextIdeal.τ).loc Cert.CtxNextIdeal.main_arg1)) (m ((c.tc : Thread Cert.CtxNextIdeal.nD Cert.CtxNextIdeal.τ).loc Cert.CtxNextIdeal.main_arg2))) = (fun _ => 1#1)

def Pre_CtxNextRefIdeal (m : (ℓ : Loc Cert.CtxNextRefIdeal.nD Cert.CtxNextRefIdeal.τ Cert.CtxNextRefIdeal.sig) → Buf (Elt Ideal) ℓ) : Prop :=
  True

def Pre_CtxNextRefIdeal_finite_next [hPre_finite_next : Cert.Pre_finite_next.Facts] (m : (ℓ : Loc Cert.CtxNextRefIdeal.nD Cert.CtxNextRefIdeal.τ Cert.CtxNextRefIdeal.sig) → Buf (Elt Ideal) ℓ) : Prop :=
  ∀ c : Dev Cert.CtxNextRefIdeal.nD,
    (Cert.Pre_finite_next.fn (F := Ideal) (m ((c.tc : Thread Cert.CtxNextRefIdeal.nD Cert.CtxNextRefIdeal.τ).loc Cert.CtxNextRefIdeal.main_arg0)) (m ((c.tc : Thread Cert.CtxNextRefIdeal.nD Cert.CtxNextRefIdeal.τ).loc Cert.CtxNextRefIdeal.main_arg1)) (m ((c.tc : Thread Cert.CtxNextRefIdeal.nD Cert.CtxNextRefIdeal.τ).loc Cert.CtxNextRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InCtx (m : (ℓ : Loc Cert.InCtx.nD Cert.InCtx.τ Cert.InCtx.sig) → Buf (Elt Bits) ℓ) : Prop :=
  True

def Pre_InCtxIdeal (m : (ℓ : Loc Cert.InCtxIdeal.nD Cert.InCtxIdeal.τ Cert.InCtxIdeal.sig) → Buf (Elt Ideal) ℓ) : Prop :=
  True

def Pre_InCtxRefIdeal (m : (ℓ : Loc Cert.InCtxRefIdeal.nD Cert.InCtxRefIdeal.τ Cert.InCtxRefIdeal.sig) → Buf (Elt Ideal) ℓ) : Prop :=
  True

def Pre_OutIn (m : (ℓ : Loc Cert.OutIn.nD Cert.OutIn.τ Cert.OutIn.sig) → Buf (Elt Bits) ℓ) : Prop :=
  True

def Pre_OutInIdeal (m : (ℓ : Loc Cert.OutInIdeal.nD Cert.OutInIdeal.τ Cert.OutInIdeal.sig) → Buf (Elt Ideal) ℓ) : Prop :=
  True

def Pre_OutInRefIdeal (m : (ℓ : Loc Cert.OutInRefIdeal.nD Cert.OutInRefIdeal.τ Cert.OutInRefIdeal.sig) → Buf (Elt Ideal) ℓ) : Prop :=
  True

def Pre_OutInLat (m : (ℓ : Loc Cert.OutInLat.nD Cert.OutInLat.τ Cert.OutInLat.sig) → Buf (Elt Bits) ℓ) : Prop :=
  True

def Pre_OutInLatIdeal (m : (ℓ : Loc Cert.OutInLatIdeal.nD Cert.OutInLatIdeal.τ Cert.OutInLatIdeal.sig) → Buf (Elt Ideal) ℓ) : Prop :=
  True

def Pre_OutInLatRefIdeal (m : (ℓ : Loc Cert.OutInLatRefIdeal.nD Cert.OutInLatRefIdeal.τ Cert.OutInLatRefIdeal.sig) → Buf (Elt Ideal) ℓ) : Prop :=
  True

def Pre_OutCtx (m : (ℓ : Loc Cert.OutCtx.nD Cert.OutCtx.τ Cert.OutCtx.sig) → Buf (Elt Bits) ℓ) : Prop :=
  True

def Pre_OutCtxIdeal (m : (ℓ : Loc Cert.OutCtxIdeal.nD Cert.OutCtxIdeal.τ Cert.OutCtxIdeal.sig) → Buf (Elt Ideal) ℓ) : Prop :=
  True

def Pre_OutCtxRefIdeal (m : (ℓ : Loc Cert.OutCtxRefIdeal.nD Cert.OutCtxRefIdeal.τ Cert.OutCtxRefIdeal.sig) → Buf (Elt Ideal) ℓ) : Prop :=
  True

def Pre_OutLat (m : (ℓ : Loc Cert.OutLat.nD Cert.OutLat.τ Cert.OutLat.sig) → Buf (Elt Bits) ℓ) : Prop :=
  True

def Pre_OutLatIdeal (m : (ℓ : Loc Cert.OutLatIdeal.nD Cert.OutLatIdeal.τ Cert.OutLatIdeal.sig) → Buf (Elt Ideal) ℓ) : Prop :=
  True

def Pre_OutLatRefIdeal (m : (ℓ : Loc Cert.OutLatRefIdeal.nD Cert.OutLatRefIdeal.τ Cert.OutLatRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_mod [hPre_finite_mod : Cert.Pre_finite_mod.Facts] (m : (ℓ : Loc Cert.ModIdeal.nD Cert.ModIdeal.τ Cert.ModIdeal.sig) → Buf (Elt Ideal) ℓ) : Prop :=
  ∀ c : Dev Cert.ModIdeal.nD,
    (Cert.Pre_finite_mod.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_mod [hPre_finite_mod : Cert.Pre_finite_mod.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_mod.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_CtxFirst [hCtxFirst : Cert.CtxFirst.Facts] : Prop :=
  ∀ (m : (ℓ : Loc Cert.CtxFirst.nD Cert.CtxFirst.τ Cert.CtxFirst.sig) → Buf (Elt Bits) ℓ) (g : Dev Cert.CtxFirst.nD → PrngReg), Pre_CtxFirst m →
    θ_run (Cert.CtxFirst.defs (F := Bits)) (onTc (τ := Cert.CtxFirst.τ) (Cert.CtxFirst.main (F := Bits))) ⟨m, fun _ => 0, g⟩ (fun r => (∀ c : Dev Cert.CtxFirst.nD,
      r.2.mem ((c.tc : Thread Cert.CtxFirst.nD Cert.CtxFirst.τ).loc Cert.CtxFirst.main_arg0) = m ((c.tc : Thread Cert.CtxFirst.nD Cert.CtxFirst.τ).loc Cert.CtxFirst.main_arg0))
      ∧ r.2.sem = fun _ => 0)

def quiescent_CtxFirstIdeal [hCtxFirstIdeal : Cert.CtxFirstIdeal.Facts] : Prop :=
  ∀ (m : (ℓ : Loc Cert.CtxFirstIdeal.nD Cert.CtxFirstIdeal.τ Cert.CtxFirstIdeal.sig) → Buf (Elt Ideal) ℓ) (g : Dev Cert.CtxFirstIdeal.nD → PrngReg), Pre_CtxFirstIdeal m →
    θ_run (Cert.CtxFirstIdeal.defs (F := Ideal)) (onTc (τ := Cert.CtxFirstIdeal.τ) (Cert.CtxFirstIdeal.main (F := Ideal))) ⟨m, fun _ => 0, g⟩ (fun r => (∀ c : Dev Cert.CtxFirstIdeal.nD,
      r.2.mem ((c.tc : Thread Cert.CtxFirstIdeal.nD Cert.CtxFirstIdeal.τ).loc Cert.CtxFirstIdeal.main_arg0) = m ((c.tc : Thread Cert.CtxFirstIdeal.nD Cert.CtxFirstIdeal.τ).loc Cert.CtxFirstIdeal.main_arg0))
      ∧ r.2.sem = fun _ => 0)

def quiescent_CtxFirstIdeal_pre_finite_first [hCtxFirstIdeal : Cert.CtxFirstIdeal.Facts] [hPre_finite_first : Cert.Pre_finite_first.Facts] : Prop :=
  ∀ (m : (ℓ : Loc Cert.CtxFirstIdeal.nD Cert.CtxFirstIdeal.τ Cert.CtxFirstIdeal.sig) → Buf (Elt Ideal) ℓ) (g : Dev Cert.CtxFirstIdeal.nD → PrngReg), Pre_CtxFirstIdeal_finite_first m →
    θ_run (Cert.CtxFirstIdeal.defs (F := Ideal)) (onTc (τ := Cert.CtxFirstIdeal.τ) (Cert.CtxFirstIdeal.main (F := Ideal))) ⟨m, fun _ => 0, g⟩ (fun r => (∀ c : Dev Cert.CtxFirstIdeal.nD,
      r.2.mem ((c.tc : Thread Cert.CtxFirstIdeal.nD Cert.CtxFirstIdeal.τ).loc Cert.CtxFirstIdeal.main_arg0) = m ((c.tc : Thread Cert.CtxFirstIdeal.nD Cert.CtxFirstIdeal.τ).loc Cert.CtxFirstIdeal.main_arg0))
      ∧ r.2.sem = fun _ => 0)

def quiescent_CtxFirstRefIdeal [hCtxFirstRefIdeal : Cert.CtxFirstRefIdeal.Facts] : Prop :=
  ∀ (m : (ℓ : Loc Cert.CtxFirstRefIdeal.nD Cert.CtxFirstRefIdeal.τ Cert.CtxFirstRefIdeal.sig) → Buf (Elt Ideal) ℓ) (g : Dev Cert.CtxFirstRefIdeal.nD → PrngReg), Pre_CtxFirstRefIdeal m →
    θ_run (Cert.CtxFirstRefIdeal.defs (F := Ideal)) (onTc (τ := Cert.CtxFirstRefIdeal.τ) (Cert.CtxFirstRefIdeal.main (F := Ideal))) ⟨m, fun _ => 0, g⟩ (fun r => (∀ c : Dev Cert.CtxFirstRefIdeal.nD,
      r.2.mem ((c.tc : Thread Cert.CtxFirstRefIdeal.nD Cert.CtxFirstRefIdeal.τ).loc Cert.CtxFirstRefIdeal.main_arg0) = m ((c.tc : Thread Cert.CtxFirstRefIdeal.nD Cert.CtxFirstRefIdeal.τ).loc Cert.CtxFirstRefIdeal.main_arg0))
      ∧ r.2.sem = fun _ => 0)

def quiescent_CtxFirstRefIdeal_pre_finite_first [hCtxFirstRefIdeal : Cert.CtxFirstRefIdeal.Facts] [hPre_finite_first : Cert.Pre_finite_first.Facts] : Prop :=
  ∀ (m : (ℓ : Loc Cert.CtxFirstRefIdeal.nD Cert.CtxFirstRefIdeal.τ Cert.CtxFirstRefIdeal.sig) → Buf (Elt Ideal) ℓ) (g : Dev Cert.CtxFirstRefIdeal.nD → PrngReg), Pre_CtxFirstRefIdeal_finite_first m →
    θ_run (Cert.CtxFirstRefIdeal.defs (F := Ideal)) (onTc (τ := Cert.CtxFirstRefIdeal.τ) (Cert.CtxFirstRefIdeal.main (F := Ideal))) ⟨m, fun _ => 0, g⟩ (fun r => (∀ c : Dev Cert.CtxFirstRefIdeal.nD,
      r.2.mem ((c.tc : Thread Cert.CtxFirstRefIdeal.nD Cert.CtxFirstRefIdeal.τ).loc Cert.CtxFirstRefIdeal.main_arg0) = m ((c.tc : Thread Cert.CtxFirstRefIdeal.nD Cert.CtxFirstRefIdeal.τ).loc Cert.CtxFirstRefIdeal.main_arg0))
      ∧ r.2.sem = fun _ => 0)

def quiescent_CtxNext [hCtxNext : Cert.CtxNext.Facts] : Prop :=
  ∀ (m : (ℓ : Loc Cert.CtxNext.nD Cert.CtxNext.τ Cert.CtxNext.sig) → Buf (Elt Bits) ℓ) (g : Dev Cert.CtxNext.nD → PrngReg), Pre_CtxNext m →
    θ_run (Cert.CtxNext.defs (F := Bits)) (onTc (τ := Cert.CtxNext.τ) (Cert.CtxNext.main (F := Bits))) ⟨m, fun _ => 0, g⟩ (fun r => (∀ c : Dev Cert.CtxNext.nD,
      r.2.mem ((c.tc : Thread Cert.CtxNext.nD Cert.CtxNext.τ).loc Cert.CtxNext.main_arg0) = m ((c.tc : Thread Cert.CtxNext.nD Cert.CtxNext.τ).loc Cert.CtxNext.main_arg0)
      ∧ r.2.mem ((c.tc : Thread Cert.CtxNext.nD Cert.CtxNext.τ).loc Cert.CtxNext.main_arg1) = m ((c.tc : Thread Cert.CtxNext.nD Cert.CtxNext.τ).loc Cert.CtxNext.main_arg1)
      ∧ r.2.mem ((c.tc : Thread Cert.CtxNext.nD Cert.CtxNext.τ).loc Cert.CtxNext.main_arg2) = m ((c.tc : Thread Cert.CtxNext.nD Cert.CtxNext.τ).loc Cert.CtxNext.main_arg2))
      ∧ r.2.sem = fun _ => 0)

def quiescent_CtxNextIdeal [hCtxNextIdeal : Cert.CtxNextIdeal.Facts] : Prop :=
  ∀ (m : (ℓ : Loc Cert.CtxNextIdeal.nD Cert.CtxNextIdeal.τ Cert.CtxNextIdeal.sig) → Buf (Elt Ideal) ℓ) (g : Dev Cert.CtxNextIdeal.nD → PrngReg), Pre_CtxNextIdeal m →
    θ_run (Cert.CtxNextIdeal.defs (F := Ideal)) (onTc (τ := Cert.CtxNextIdeal.τ) (Cert.CtxNextIdeal.main (F := Ideal))) ⟨m, fun _ => 0, g⟩ (fun r => (∀ c : Dev Cert.CtxNextIdeal.nD,
      r.2.mem ((c.tc : Thread Cert.CtxNextIdeal.nD Cert.CtxNextIdeal.τ).loc Cert.CtxNextIdeal.main_arg0) = m ((c.tc : Thread Cert.CtxNextIdeal.nD Cert.CtxNextIdeal.τ).loc Cert.CtxNextIdeal.main_arg0)
      ∧ r.2.mem ((c.tc : Thread Cert.CtxNextIdeal.nD Cert.CtxNextIdeal.τ).loc Cert.CtxNextIdeal.main_arg1) = m ((c.tc : Thread Cert.CtxNextIdeal.nD Cert.CtxNextIdeal.τ).loc Cert.CtxNextIdeal.main_arg1)
      ∧ r.2.mem ((c.tc : Thread Cert.CtxNextIdeal.nD Cert.CtxNextIdeal.τ).loc Cert.CtxNextIdeal.main_arg2) = m ((c.tc : Thread Cert.CtxNextIdeal.nD Cert.CtxNextIdeal.τ).loc Cert.CtxNextIdeal.main_arg2))
      ∧ r.2.sem = fun _ => 0)

def quiescent_CtxNextIdeal_pre_finite_next [hCtxNextIdeal : Cert.CtxNextIdeal.Facts] [hPre_finite_next : Cert.Pre_finite_next.Facts] : Prop :=
  ∀ (m : (ℓ : Loc Cert.CtxNextIdeal.nD Cert.CtxNextIdeal.τ Cert.CtxNextIdeal.sig) → Buf (Elt Ideal) ℓ) (g : Dev Cert.CtxNextIdeal.nD → PrngReg), Pre_CtxNextIdeal_finite_next m →
    θ_run (Cert.CtxNextIdeal.defs (F := Ideal)) (onTc (τ := Cert.CtxNextIdeal.τ) (Cert.CtxNextIdeal.main (F := Ideal))) ⟨m, fun _ => 0, g⟩ (fun r => (∀ c : Dev Cert.CtxNextIdeal.nD,
      r.2.mem ((c.tc : Thread Cert.CtxNextIdeal.nD Cert.CtxNextIdeal.τ).loc Cert.CtxNextIdeal.main_arg0) = m ((c.tc : Thread Cert.CtxNextIdeal.nD Cert.CtxNextIdeal.τ).loc Cert.CtxNextIdeal.main_arg0)
      ∧ r.2.mem ((c.tc : Thread Cert.CtxNextIdeal.nD Cert.CtxNextIdeal.τ).loc Cert.CtxNextIdeal.main_arg1) = m ((c.tc : Thread Cert.CtxNextIdeal.nD Cert.CtxNextIdeal.τ).loc Cert.CtxNextIdeal.main_arg1)
      ∧ r.2.mem ((c.tc : Thread Cert.CtxNextIdeal.nD Cert.CtxNextIdeal.τ).loc Cert.CtxNextIdeal.main_arg2) = m ((c.tc : Thread Cert.CtxNextIdeal.nD Cert.CtxNextIdeal.τ).loc Cert.CtxNextIdeal.main_arg2))
      ∧ r.2.sem = fun _ => 0)

def quiescent_CtxNextRefIdeal [hCtxNextRefIdeal : Cert.CtxNextRefIdeal.Facts] : Prop :=
  ∀ (m : (ℓ : Loc Cert.CtxNextRefIdeal.nD Cert.CtxNextRefIdeal.τ Cert.CtxNextRefIdeal.sig) → Buf (Elt Ideal) ℓ) (g : Dev Cert.CtxNextRefIdeal.nD → PrngReg), Pre_CtxNextRefIdeal m →
    θ_run (Cert.CtxNextRefIdeal.defs (F := Ideal)) (onTc (τ := Cert.CtxNextRefIdeal.τ) (Cert.CtxNextRefIdeal.main (F := Ideal))) ⟨m, fun _ => 0, g⟩ (fun r => (∀ c : Dev Cert.CtxNextRefIdeal.nD,
      r.2.mem ((c.tc : Thread Cert.CtxNextRefIdeal.nD Cert.CtxNextRefIdeal.τ).loc Cert.CtxNextRefIdeal.main_arg0) = m ((c.tc : Thread Cert.CtxNextRefIdeal.nD Cert.CtxNextRefIdeal.τ).loc Cert.CtxNextRefIdeal.main_arg0)
      ∧ r.2.mem ((c.tc : Thread Cert.CtxNextRefIdeal.nD Cert.CtxNextRefIdeal.τ).loc Cert.CtxNextRefIdeal.main_arg1) = m ((c.tc : Thread Cert.CtxNextRefIdeal.nD Cert.CtxNextRefIdeal.τ).loc Cert.CtxNextRefIdeal.main_arg1)
      ∧ r.2.mem ((c.tc : Thread Cert.CtxNextRefIdeal.nD Cert.CtxNextRefIdeal.τ).loc Cert.CtxNextRefIdeal.main_arg2) = m ((c.tc : Thread Cert.CtxNextRefIdeal.nD Cert.CtxNextRefIdeal.τ).loc Cert.CtxNextRefIdeal.main_arg2))
      ∧ r.2.sem = fun _ => 0)

def quiescent_CtxNextRefIdeal_pre_finite_next [hCtxNextRefIdeal : Cert.CtxNextRefIdeal.Facts] [hPre_finite_next : Cert.Pre_finite_next.Facts] : Prop :=
  ∀ (m : (ℓ : Loc Cert.CtxNextRefIdeal.nD Cert.CtxNextRefIdeal.τ Cert.CtxNextRefIdeal.sig) → Buf (Elt Ideal) ℓ) (g : Dev Cert.CtxNextRefIdeal.nD → PrngReg), Pre_CtxNextRefIdeal_finite_next m →
    θ_run (Cert.CtxNextRefIdeal.defs (F := Ideal)) (onTc (τ := Cert.CtxNextRefIdeal.τ) (Cert.CtxNextRefIdeal.main (F := Ideal))) ⟨m, fun _ => 0, g⟩ (fun r => (∀ c : Dev Cert.CtxNextRefIdeal.nD,
      r.2.mem ((c.tc : Thread Cert.CtxNextRefIdeal.nD Cert.CtxNextRefIdeal.τ).loc Cert.CtxNextRefIdeal.main_arg0) = m ((c.tc : Thread Cert.CtxNextRefIdeal.nD Cert.CtxNextRefIdeal.τ).loc Cert.CtxNextRefIdeal.main_arg0)
      ∧ r.2.mem ((c.tc : Thread Cert.CtxNextRefIdeal.nD Cert.CtxNextRefIdeal.τ).loc Cert.CtxNextRefIdeal.main_arg1) = m ((c.tc : Thread Cert.CtxNextRefIdeal.nD Cert.CtxNextRefIdeal.τ).loc Cert.CtxNextRefIdeal.main_arg1)
      ∧ r.2.mem ((c.tc : Thread Cert.CtxNextRefIdeal.nD Cert.CtxNextRefIdeal.τ).loc Cert.CtxNextRefIdeal.main_arg2) = m ((c.tc : Thread Cert.CtxNextRefIdeal.nD Cert.CtxNextRefIdeal.τ).loc Cert.CtxNextRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InCtx [hInCtx : Cert.InCtx.Facts] : Prop :=
  ∀ (m : (ℓ : Loc Cert.InCtx.nD Cert.InCtx.τ Cert.InCtx.sig) → Buf (Elt Bits) ℓ) (g : Dev Cert.InCtx.nD → PrngReg), Pre_InCtx m →
    θ_run (Cert.InCtx.defs (F := Bits)) (onTc (τ := Cert.InCtx.τ) (Cert.InCtx.main (F := Bits))) ⟨m, fun _ => 0, g⟩ (fun r => (∀ c : Dev Cert.InCtx.nD,
      r.2.mem ((c.tc : Thread Cert.InCtx.nD Cert.InCtx.τ).loc Cert.InCtx.main_arg0) = m ((c.tc : Thread Cert.InCtx.nD Cert.InCtx.τ).loc Cert.InCtx.main_arg0)
      ∧ r.2.mem ((c.tc : Thread Cert.InCtx.nD Cert.InCtx.τ).loc Cert.InCtx.main_arg1) = m ((c.tc : Thread Cert.InCtx.nD Cert.InCtx.τ).loc Cert.InCtx.main_arg1)
      ∧ r.2.mem ((c.tc : Thread Cert.InCtx.nD Cert.InCtx.τ).loc Cert.InCtx.main_arg2) = m ((c.tc : Thread Cert.InCtx.nD Cert.InCtx.τ).loc Cert.InCtx.main_arg2)
      ∧ r.2.mem ((c.tc : Thread Cert.InCtx.nD Cert.InCtx.τ).loc Cert.InCtx.main_arg3) = m ((c.tc : Thread Cert.InCtx.nD Cert.InCtx.τ).loc Cert.InCtx.main_arg3))
      ∧ r.2.sem = fun _ => 0)

def quiescent_InCtxIdeal [hInCtxIdeal : Cert.InCtxIdeal.Facts] : Prop :=
  ∀ (m : (ℓ : Loc Cert.InCtxIdeal.nD Cert.InCtxIdeal.τ Cert.InCtxIdeal.sig) → Buf (Elt Ideal) ℓ) (g : Dev Cert.InCtxIdeal.nD → PrngReg), Pre_InCtxIdeal m →
    θ_run (Cert.InCtxIdeal.defs (F := Ideal)) (onTc (τ := Cert.InCtxIdeal.τ) (Cert.InCtxIdeal.main (F := Ideal))) ⟨m, fun _ => 0, g⟩ (fun r => (∀ c : Dev Cert.InCtxIdeal.nD,
      r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
      ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
      ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
      ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ r.2.sem = fun _ => 0)

def quiescent_InCtxRefIdeal [hInCtxRefIdeal : Cert.InCtxRefIdeal.Facts] : Prop :=
  ∀ (m : (ℓ : Loc Cert.InCtxRefIdeal.nD Cert.InCtxRefIdeal.τ Cert.InCtxRefIdeal.sig) → Buf (Elt Ideal) ℓ) (g : Dev Cert.InCtxRefIdeal.nD → PrngReg), Pre_InCtxRefIdeal m →
    θ_run (Cert.InCtxRefIdeal.defs (F := Ideal)) (onTc (τ := Cert.InCtxRefIdeal.τ) (Cert.InCtxRefIdeal.main (F := Ideal))) ⟨m, fun _ => 0, g⟩ (fun r => (∀ c : Dev Cert.InCtxRefIdeal.nD,
      r.2.mem ((c.tc : Thread Cert.InCtxRefIdeal.nD Cert.InCtxRefIdeal.τ).loc Cert.InCtxRefIdeal.main_arg0) = m ((c.tc : Thread Cert.InCtxRefIdeal.nD Cert.InCtxRefIdeal.τ).loc Cert.InCtxRefIdeal.main_arg0)
      ∧ r.2.mem ((c.tc : Thread Cert.InCtxRefIdeal.nD Cert.InCtxRefIdeal.τ).loc Cert.InCtxRefIdeal.main_arg1) = m ((c.tc : Thread Cert.InCtxRefIdeal.nD Cert.InCtxRefIdeal.τ).loc Cert.InCtxRefIdeal.main_arg1)
      ∧ r.2.mem ((c.tc : Thread Cert.InCtxRefIdeal.nD Cert.InCtxRefIdeal.τ).loc Cert.InCtxRefIdeal.main_arg2) = m ((c.tc : Thread Cert.InCtxRefIdeal.nD Cert.InCtxRefIdeal.τ).loc Cert.InCtxRefIdeal.main_arg2)
      ∧ r.2.mem ((c.tc : Thread Cert.InCtxRefIdeal.nD Cert.InCtxRefIdeal.τ).loc Cert.InCtxRefIdeal.main_arg3) = m ((c.tc : Thread Cert.InCtxRefIdeal.nD Cert.InCtxRefIdeal.τ).loc Cert.InCtxRefIdeal.main_arg3))
      ∧ r.2.sem = fun _ => 0)

def quiescent_OutIn [hOutIn : Cert.OutIn.Facts] : Prop :=
  ∀ (m : (ℓ : Loc Cert.OutIn.nD Cert.OutIn.τ Cert.OutIn.sig) → Buf (Elt Bits) ℓ) (g : Dev Cert.OutIn.nD → PrngReg), Pre_OutIn m →
    θ_run (Cert.OutIn.defs (F := Bits)) (onTc (τ := Cert.OutIn.τ) (Cert.OutIn.main (F := Bits))) ⟨m, fun _ => 0, g⟩ (fun r => (∀ c : Dev Cert.OutIn.nD,
      r.2.mem ((c.tc : Thread Cert.OutIn.nD Cert.OutIn.τ).loc Cert.OutIn.main_arg0) = m ((c.tc : Thread Cert.OutIn.nD Cert.OutIn.τ).loc Cert.OutIn.main_arg0)
      ∧ r.2.mem ((c.tc : Thread Cert.OutIn.nD Cert.OutIn.τ).loc Cert.OutIn.main_arg1) = m ((c.tc : Thread Cert.OutIn.nD Cert.OutIn.τ).loc Cert.OutIn.main_arg1)
      ∧ r.2.mem ((c.tc : Thread Cert.OutIn.nD Cert.OutIn.τ).loc Cert.OutIn.main_arg2) = m ((c.tc : Thread Cert.OutIn.nD Cert.OutIn.τ).loc Cert.OutIn.main_arg2)
      ∧ r.2.mem ((c.tc : Thread Cert.OutIn.nD Cert.OutIn.τ).loc Cert.OutIn.main_arg3) = m ((c.tc : Thread Cert.OutIn.nD Cert.OutIn.τ).loc Cert.OutIn.main_arg3)
      ∧ r.2.mem ((c.tc : Thread Cert.OutIn.nD Cert.OutIn.τ).loc Cert.OutIn.main_arg4) = m ((c.tc : Thread Cert.OutIn.nD Cert.OutIn.τ).loc Cert.OutIn.main_arg4)
      ∧ r.2.mem ((c.tc : Thread Cert.OutIn.nD Cert.OutIn.τ).loc Cert.OutIn.main_arg5) = m ((c.tc : Thread Cert.OutIn.nD Cert.OutIn.τ).loc Cert.OutIn.main_arg5)
      ∧ r.2.mem ((c.tc : Thread Cert.OutIn.nD Cert.OutIn.τ).loc Cert.OutIn.main_arg6) = m ((c.tc : Thread Cert.OutIn.nD Cert.OutIn.τ).loc Cert.OutIn.main_arg6)
      ∧ r.2.mem ((c.tc : Thread Cert.OutIn.nD Cert.OutIn.τ).loc Cert.OutIn.main_arg7) = m ((c.tc : Thread Cert.OutIn.nD Cert.OutIn.τ).loc Cert.OutIn.main_arg7)
      ∧ r.2.mem ((c.tc : Thread Cert.OutIn.nD Cert.OutIn.τ).loc Cert.OutIn.main_arg8) = m ((c.tc : Thread Cert.OutIn.nD Cert.OutIn.τ).loc Cert.OutIn.main_arg8)
      ∧ r.2.mem ((c.tc : Thread Cert.OutIn.nD Cert.OutIn.τ).loc Cert.OutIn.main_arg9) = m ((c.tc : Thread Cert.OutIn.nD Cert.OutIn.τ).loc Cert.OutIn.main_arg9))
      ∧ r.2.sem = fun _ => 0)

def quiescent_OutInIdeal [hOutInIdeal : Cert.OutInIdeal.Facts] : Prop :=
  ∀ (m : (ℓ : Loc Cert.OutInIdeal.nD Cert.OutInIdeal.τ Cert.OutInIdeal.sig) → Buf (Elt Ideal) ℓ) (g : Dev Cert.OutInIdeal.nD → PrngReg), Pre_OutInIdeal m →
    θ_run (Cert.OutInIdeal.defs (F := Ideal)) (onTc (τ := Cert.OutInIdeal.τ) (Cert.OutInIdeal.main (F := Ideal))) ⟨m, fun _ => 0, g⟩ (fun r => (∀ c : Dev Cert.OutInIdeal.nD,
      r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
      ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
      ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
      ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
      ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
      ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5)
      ∧ r.2.mem ((c.tc : Thread Cert.OutInIdeal.nD Cert.OutInIdeal.τ).loc Cert.OutInIdeal.main_arg6) = m ((c.tc : Thread Cert.OutInIdeal.nD Cert.OutInIdeal.τ).loc Cert.OutInIdeal.main_arg6)
      ∧ r.2.mem ((c.tc : Thread Cert.OutInIdeal.nD Cert.OutInIdeal.τ).loc Cert.OutInIdeal.main_arg7) = m ((c.tc : Thread Cert.OutInIdeal.nD Cert.OutInIdeal.τ).loc Cert.OutInIdeal.main_arg7)
      ∧ r.2.mem ((c.tc : Thread Cert.OutInIdeal.nD Cert.OutInIdeal.τ).loc Cert.OutInIdeal.main_arg8) = m ((c.tc : Thread Cert.OutInIdeal.nD Cert.OutInIdeal.τ).loc Cert.OutInIdeal.main_arg8)
      ∧ r.2.mem ((c.tc : Thread Cert.OutInIdeal.nD Cert.OutInIdeal.τ).loc Cert.OutInIdeal.main_arg9) = m ((c.tc : Thread Cert.OutInIdeal.nD Cert.OutInIdeal.τ).loc Cert.OutInIdeal.main_arg9))
      ∧ r.2.sem = fun _ => 0)

def quiescent_OutInRefIdeal [hOutInRefIdeal : Cert.OutInRefIdeal.Facts] : Prop :=
  ∀ (m : (ℓ : Loc Cert.OutInRefIdeal.nD Cert.OutInRefIdeal.τ Cert.OutInRefIdeal.sig) → Buf (Elt Ideal) ℓ) (g : Dev Cert.OutInRefIdeal.nD → PrngReg), Pre_OutInRefIdeal m →
    θ_run (Cert.OutInRefIdeal.defs (F := Ideal)) (onTc (τ := Cert.OutInRefIdeal.τ) (Cert.OutInRefIdeal.main (F := Ideal))) ⟨m, fun _ => 0, g⟩ (fun r => (∀ c : Dev Cert.OutInRefIdeal.nD,
      r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1)
      ∧ r.2.mem ((c.tc : Thread Cert.OutInRefIdeal.nD Cert.OutInRefIdeal.τ).loc Cert.OutInRefIdeal.main_arg2) = m ((c.tc : Thread Cert.OutInRefIdeal.nD Cert.OutInRefIdeal.τ).loc Cert.OutInRefIdeal.main_arg2)
      ∧ r.2.mem ((c.tc : Thread Cert.OutInRefIdeal.nD Cert.OutInRefIdeal.τ).loc Cert.OutInRefIdeal.main_arg3) = m ((c.tc : Thread Cert.OutInRefIdeal.nD Cert.OutInRefIdeal.τ).loc Cert.OutInRefIdeal.main_arg3)
      ∧ r.2.mem ((c.tc : Thread Cert.OutInRefIdeal.nD Cert.OutInRefIdeal.τ).loc Cert.OutInRefIdeal.main_arg4) = m ((c.tc : Thread Cert.OutInRefIdeal.nD Cert.OutInRefIdeal.τ).loc Cert.OutInRefIdeal.main_arg4)
      ∧ r.2.mem ((c.tc : Thread Cert.OutInRefIdeal.nD Cert.OutInRefIdeal.τ).loc Cert.OutInRefIdeal.main_arg5) = m ((c.tc : Thread Cert.OutInRefIdeal.nD Cert.OutInRefIdeal.τ).loc Cert.OutInRefIdeal.main_arg5)
      ∧ r.2.mem ((c.tc : Thread Cert.OutInRefIdeal.nD Cert.OutInRefIdeal.τ).loc Cert.OutInRefIdeal.main_arg6) = m ((c.tc : Thread Cert.OutInRefIdeal.nD Cert.OutInRefIdeal.τ).loc Cert.OutInRefIdeal.main_arg6)
      ∧ r.2.mem ((c.tc : Thread Cert.OutInRefIdeal.nD Cert.OutInRefIdeal.τ).loc Cert.OutInRefIdeal.main_arg7) = m ((c.tc : Thread Cert.OutInRefIdeal.nD Cert.OutInRefIdeal.τ).loc Cert.OutInRefIdeal.main_arg7)
      ∧ r.2.mem ((c.tc : Thread Cert.OutInRefIdeal.nD Cert.OutInRefIdeal.τ).loc Cert.OutInRefIdeal.main_arg8) = m ((c.tc : Thread Cert.OutInRefIdeal.nD Cert.OutInRefIdeal.τ).loc Cert.OutInRefIdeal.main_arg8)
      ∧ r.2.mem ((c.tc : Thread Cert.OutInRefIdeal.nD Cert.OutInRefIdeal.τ).loc Cert.OutInRefIdeal.main_arg9) = m ((c.tc : Thread Cert.OutInRefIdeal.nD Cert.OutInRefIdeal.τ).loc Cert.OutInRefIdeal.main_arg9))
      ∧ r.2.sem = fun _ => 0)

def quiescent_OutInLat [hOutInLat : Cert.OutInLat.Facts] : Prop :=
  ∀ (m : (ℓ : Loc Cert.OutInLat.nD Cert.OutInLat.τ Cert.OutInLat.sig) → Buf (Elt Bits) ℓ) (g : Dev Cert.OutInLat.nD → PrngReg), Pre_OutInLat m →
    θ_run (Cert.OutInLat.defs (F := Bits)) (onTc (τ := Cert.OutInLat.τ) (Cert.OutInLat.main (F := Bits))) ⟨m, fun _ => 0, g⟩ (fun r => (∀ c : Dev Cert.OutInLat.nD,
      r.2.mem ((c.tc : Thread Cert.OutInLat.nD Cert.OutInLat.τ).loc Cert.OutInLat.main_arg0) = m ((c.tc : Thread Cert.OutInLat.nD Cert.OutInLat.τ).loc Cert.OutInLat.main_arg0)
      ∧ r.2.mem ((c.tc : Thread Cert.OutInLat.nD Cert.OutInLat.τ).loc Cert.OutInLat.main_arg1) = m ((c.tc : Thread Cert.OutInLat.nD Cert.OutInLat.τ).loc Cert.OutInLat.main_arg1)
      ∧ r.2.mem ((c.tc : Thread Cert.OutInLat.nD Cert.OutInLat.τ).loc Cert.OutInLat.main_arg2) = m ((c.tc : Thread Cert.OutInLat.nD Cert.OutInLat.τ).loc Cert.OutInLat.main_arg2)
      ∧ r.2.mem ((c.tc : Thread Cert.OutInLat.nD Cert.OutInLat.τ).loc Cert.OutInLat.main_arg3) = m ((c.tc : Thread Cert.OutInLat.nD Cert.OutInLat.τ).loc Cert.OutInLat.main_arg3)
      ∧ r.2.mem ((c.tc : Thread Cert.OutInLat.nD Cert.OutInLat.τ).loc Cert.OutInLat.main_arg4) = m ((c.tc : Thread Cert.OutInLat.nD Cert.OutInLat.τ).loc Cert.OutInLat.main_arg4)
      ∧ r.2.mem ((c.tc : Thread Cert.OutInLat.nD Cert.OutInLat.τ).loc Cert.OutInLat.main_arg5) = m ((c.tc : Thread Cert.OutInLat.nD Cert.OutInLat.τ).loc Cert.OutInLat.main_arg5)
      ∧ r.2.mem ((c.tc : Thread Cert.OutInLat.nD Cert.OutInLat.τ).loc Cert.OutInLat.main_arg6) = m ((c.tc : Thread Cert.OutInLat.nD Cert.OutInLat.τ).loc Cert.OutInLat.main_arg6)
      ∧ r.2.mem ((c.tc : Thread Cert.OutInLat.nD Cert.OutInLat.τ).loc Cert.OutInLat.main_arg7) = m ((c.tc : Thread Cert.OutInLat.nD Cert.OutInLat.τ).loc Cert.OutInLat.main_arg7)
      ∧ r.2.mem ((c.tc : Thread Cert.OutInLat.nD Cert.OutInLat.τ).loc Cert.OutInLat.main_arg8) = m ((c.tc : Thread Cert.OutInLat.nD Cert.OutInLat.τ).loc Cert.OutInLat.main_arg8)
      ∧ r.2.mem ((c.tc : Thread Cert.OutInLat.nD Cert.OutInLat.τ).loc Cert.OutInLat.main_arg9) = m ((c.tc : Thread Cert.OutInLat.nD Cert.OutInLat.τ).loc Cert.OutInLat.main_arg9))
      ∧ r.2.sem = fun _ => 0)

def quiescent_OutInLatIdeal [hOutInLatIdeal : Cert.OutInLatIdeal.Facts] : Prop :=
  ∀ (m : (ℓ : Loc Cert.OutInLatIdeal.nD Cert.OutInLatIdeal.τ Cert.OutInLatIdeal.sig) → Buf (Elt Ideal) ℓ) (g : Dev Cert.OutInLatIdeal.nD → PrngReg), Pre_OutInLatIdeal m →
    θ_run (Cert.OutInLatIdeal.defs (F := Ideal)) (onTc (τ := Cert.OutInLatIdeal.τ) (Cert.OutInLatIdeal.main (F := Ideal))) ⟨m, fun _ => 0, g⟩ (fun r => (∀ c : Dev Cert.OutInLatIdeal.nD,
      r.2.mem ((c.tc : Thread Cert.OutInLatIdeal.nD Cert.OutInLatIdeal.τ).loc Cert.OutInLatIdeal.main_arg0) = m ((c.tc : Thread Cert.OutInLatIdeal.nD Cert.OutInLatIdeal.τ).loc Cert.OutInLatIdeal.main_arg0)
      ∧ r.2.mem ((c.tc : Thread Cert.OutInLatIdeal.nD Cert.OutInLatIdeal.τ).loc Cert.OutInLatIdeal.main_arg1) = m ((c.tc : Thread Cert.OutInLatIdeal.nD Cert.OutInLatIdeal.τ).loc Cert.OutInLatIdeal.main_arg1)
      ∧ r.2.mem ((c.tc : Thread Cert.OutInLatIdeal.nD Cert.OutInLatIdeal.τ).loc Cert.OutInLatIdeal.main_arg2) = m ((c.tc : Thread Cert.OutInLatIdeal.nD Cert.OutInLatIdeal.τ).loc Cert.OutInLatIdeal.main_arg2)
      ∧ r.2.mem ((c.tc : Thread Cert.OutInLatIdeal.nD Cert.OutInLatIdeal.τ).loc Cert.OutInLatIdeal.main_arg3) = m ((c.tc : Thread Cert.OutInLatIdeal.nD Cert.OutInLatIdeal.τ).loc Cert.OutInLatIdeal.main_arg3)
      ∧ r.2.mem ((c.tc : Thread Cert.OutInLatIdeal.nD Cert.OutInLatIdeal.τ).loc Cert.OutInLatIdeal.main_arg4) = m ((c.tc : Thread Cert.OutInLatIdeal.nD Cert.OutInLatIdeal.τ).loc Cert.OutInLatIdeal.main_arg4)
      ∧ r.2.mem ((c.tc : Thread Cert.OutInLatIdeal.nD Cert.OutInLatIdeal.τ).loc Cert.OutInLatIdeal.main_arg5) = m ((c.tc : Thread Cert.OutInLatIdeal.nD Cert.OutInLatIdeal.τ).loc Cert.OutInLatIdeal.main_arg5)
      ∧ r.2.mem ((c.tc : Thread Cert.OutInLatIdeal.nD Cert.OutInLatIdeal.τ).loc Cert.OutInLatIdeal.main_arg6) = m ((c.tc : Thread Cert.OutInLatIdeal.nD Cert.OutInLatIdeal.τ).loc Cert.OutInLatIdeal.main_arg6)
      ∧ r.2.mem ((c.tc : Thread Cert.OutInLatIdeal.nD Cert.OutInLatIdeal.τ).loc Cert.OutInLatIdeal.main_arg7) = m ((c.tc : Thread Cert.OutInLatIdeal.nD Cert.OutInLatIdeal.τ).loc Cert.OutInLatIdeal.main_arg7)
      ∧ r.2.mem ((c.tc : Thread Cert.OutInLatIdeal.nD Cert.OutInLatIdeal.τ).loc Cert.OutInLatIdeal.main_arg8) = m ((c.tc : Thread Cert.OutInLatIdeal.nD Cert.OutInLatIdeal.τ).loc Cert.OutInLatIdeal.main_arg8)
      ∧ r.2.mem ((c.tc : Thread Cert.OutInLatIdeal.nD Cert.OutInLatIdeal.τ).loc Cert.OutInLatIdeal.main_arg9) = m ((c.tc : Thread Cert.OutInLatIdeal.nD Cert.OutInLatIdeal.τ).loc Cert.OutInLatIdeal.main_arg9))
      ∧ r.2.sem = fun _ => 0)

def quiescent_OutInLatRefIdeal [hOutInLatRefIdeal : Cert.OutInLatRefIdeal.Facts] : Prop :=
  ∀ (m : (ℓ : Loc Cert.OutInLatRefIdeal.nD Cert.OutInLatRefIdeal.τ Cert.OutInLatRefIdeal.sig) → Buf (Elt Ideal) ℓ) (g : Dev Cert.OutInLatRefIdeal.nD → PrngReg), Pre_OutInLatRefIdeal m →
    θ_run (Cert.OutInLatRefIdeal.defs (F := Ideal)) (onTc (τ := Cert.OutInLatRefIdeal.τ) (Cert.OutInLatRefIdeal.main (F := Ideal))) ⟨m, fun _ => 0, g⟩ (fun r => (∀ c : Dev Cert.OutInLatRefIdeal.nD,
      r.2.mem ((c.tc : Thread Cert.OutInLatRefIdeal.nD Cert.OutInLatRefIdeal.τ).loc Cert.OutInLatRefIdeal.main_arg0) = m ((c.tc : Thread Cert.OutInLatRefIdeal.nD Cert.OutInLatRefIdeal.τ).loc Cert.OutInLatRefIdeal.main_arg0)
      ∧ r.2.mem ((c.tc : Thread Cert.OutInLatRefIdeal.nD Cert.OutInLatRefIdeal.τ).loc Cert.OutInLatRefIdeal.main_arg1) = m ((c.tc : Thread Cert.OutInLatRefIdeal.nD Cert.OutInLatRefIdeal.τ).loc Cert.OutInLatRefIdeal.main_arg1)
      ∧ r.2.mem ((c.tc : Thread Cert.OutInLatRefIdeal.nD Cert.OutInLatRefIdeal.τ).loc Cert.OutInLatRefIdeal.main_arg2) = m ((c.tc : Thread Cert.OutInLatRefIdeal.nD Cert.OutInLatRefIdeal.τ).loc Cert.OutInLatRefIdeal.main_arg2)
      ∧ r.2.mem ((c.tc : Thread Cert.OutInLatRefIdeal.nD Cert.OutInLatRefIdeal.τ).loc Cert.OutInLatRefIdeal.main_arg3) = m ((c.tc : Thread Cert.OutInLatRefIdeal.nD Cert.OutInLatRefIdeal.τ).loc Cert.OutInLatRefIdeal.main_arg3)
      ∧ r.2.mem ((c.tc : Thread Cert.OutInLatRefIdeal.nD Cert.OutInLatRefIdeal.τ).loc Cert.OutInLatRefIdeal.main_arg4) = m ((c.tc : Thread Cert.OutInLatRefIdeal.nD Cert.OutInLatRefIdeal.τ).loc Cert.OutInLatRefIdeal.main_arg4)
      ∧ r.2.mem ((c.tc : Thread Cert.OutInLatRefIdeal.nD Cert.OutInLatRefIdeal.τ).loc Cert.OutInLatRefIdeal.main_arg5) = m ((c.tc : Thread Cert.OutInLatRefIdeal.nD Cert.OutInLatRefIdeal.τ).loc Cert.OutInLatRefIdeal.main_arg5)
      ∧ r.2.mem ((c.tc : Thread Cert.OutInLatRefIdeal.nD Cert.OutInLatRefIdeal.τ).loc Cert.OutInLatRefIdeal.main_arg6) = m ((c.tc : Thread Cert.OutInLatRefIdeal.nD Cert.OutInLatRefIdeal.τ).loc Cert.OutInLatRefIdeal.main_arg6)
      ∧ r.2.mem ((c.tc : Thread Cert.OutInLatRefIdeal.nD Cert.OutInLatRefIdeal.τ).loc Cert.OutInLatRefIdeal.main_arg7) = m ((c.tc : Thread Cert.OutInLatRefIdeal.nD Cert.OutInLatRefIdeal.τ).loc Cert.OutInLatRefIdeal.main_arg7)
      ∧ r.2.mem ((c.tc : Thread Cert.OutInLatRefIdeal.nD Cert.OutInLatRefIdeal.τ).loc Cert.OutInLatRefIdeal.main_arg8) = m ((c.tc : Thread Cert.OutInLatRefIdeal.nD Cert.OutInLatRefIdeal.τ).loc Cert.OutInLatRefIdeal.main_arg8)
      ∧ r.2.mem ((c.tc : Thread Cert.OutInLatRefIdeal.nD Cert.OutInLatRefIdeal.τ).loc Cert.OutInLatRefIdeal.main_arg9) = m ((c.tc : Thread Cert.OutInLatRefIdeal.nD Cert.OutInLatRefIdeal.τ).loc Cert.OutInLatRefIdeal.main_arg9))
      ∧ r.2.sem = fun _ => 0)

def quiescent_OutCtx [hOutCtx : Cert.OutCtx.Facts] : Prop :=
  ∀ (m : (ℓ : Loc Cert.OutCtx.nD Cert.OutCtx.τ Cert.OutCtx.sig) → Buf (Elt Bits) ℓ) (g : Dev Cert.OutCtx.nD → PrngReg), Pre_OutCtx m →
    θ_run (Cert.OutCtx.defs (F := Bits)) (onTc (τ := Cert.OutCtx.τ) (Cert.OutCtx.main (F := Bits))) ⟨m, fun _ => 0, g⟩ (fun r => (∀ c : Dev Cert.OutCtx.nD,
      r.2.mem ((c.tc : Thread Cert.OutCtx.nD Cert.OutCtx.τ).loc Cert.OutCtx.main_arg0) = m ((c.tc : Thread Cert.OutCtx.nD Cert.OutCtx.τ).loc Cert.OutCtx.main_arg0)
      ∧ r.2.mem ((c.tc : Thread Cert.OutCtx.nD Cert.OutCtx.τ).loc Cert.OutCtx.main_arg1) = m ((c.tc : Thread Cert.OutCtx.nD Cert.OutCtx.τ).loc Cert.OutCtx.main_arg1)
      ∧ r.2.mem ((c.tc : Thread Cert.OutCtx.nD Cert.OutCtx.τ).loc Cert.OutCtx.main_arg2) = m ((c.tc : Thread Cert.OutCtx.nD Cert.OutCtx.τ).loc Cert.OutCtx.main_arg2)
      ∧ r.2.mem ((c.tc : Thread Cert.OutCtx.nD Cert.OutCtx.τ).loc Cert.OutCtx.main_arg3) = m ((c.tc : Thread Cert.OutCtx.nD Cert.OutCtx.τ).loc Cert.OutCtx.main_arg3)
      ∧ r.2.mem ((c.tc : Thread Cert.OutCtx.nD Cert.OutCtx.τ).loc Cert.OutCtx.main_arg4) = m ((c.tc : Thread Cert.OutCtx.nD Cert.OutCtx.τ).loc Cert.OutCtx.main_arg4)
      ∧ r.2.mem ((c.tc : Thread Cert.OutCtx.nD Cert.OutCtx.τ).loc Cert.OutCtx.main_arg5) = m ((c.tc : Thread Cert.OutCtx.nD Cert.OutCtx.τ).loc Cert.OutCtx.main_arg5)
      ∧ r.2.mem ((c.tc : Thread Cert.OutCtx.nD Cert.OutCtx.τ).loc Cert.OutCtx.main_arg6) = m ((c.tc : Thread Cert.OutCtx.nD Cert.OutCtx.τ).loc Cert.OutCtx.main_arg6)
      ∧ r.2.mem ((c.tc : Thread Cert.OutCtx.nD Cert.OutCtx.τ).loc Cert.OutCtx.main_arg7) = m ((c.tc : Thread Cert.OutCtx.nD Cert.OutCtx.τ).loc Cert.OutCtx.main_arg7))
      ∧ r.2.sem = fun _ => 0)

def quiescent_OutCtxIdeal [hOutCtxIdeal : Cert.OutCtxIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg), Pre_OutCtxIdeal m →
    θ_run (Cert.OutCtxIdeal.defs (F := Ideal)) (onTc (τ := Cert.OutCtxIdeal.τ) (Cert.OutCtxIdeal.main (F := Ideal))) ⟨m, fun _ => 0, g⟩ (fun r => (∀ c : Dev Cert.OutCtxIdeal.nD,
      r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
      ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
      ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
      ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
      ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4)
      ∧ r.2.mem ((c.tc : Thread Cert.OutCtxIdeal.nD Cert.OutCtxIdeal.τ).loc Cert.OutCtxIdeal.main_arg5) = m ((c.tc : Thread Cert.OutCtxIdeal.nD Cert.OutCtxIdeal.τ).loc Cert.OutCtxIdeal.main_arg5)
      ∧ r.2.mem ((c.tc : Thread Cert.OutCtxIdeal.nD Cert.OutCtxIdeal.τ).loc Cert.OutCtxIdeal.main_arg6) = m ((c.tc : Thread Cert.OutCtxIdeal.nD Cert.OutCtxIdeal.τ).loc Cert.OutCtxIdeal.main_arg6)
      ∧ r.2.mem ((c.tc : Thread Cert.OutCtxIdeal.nD Cert.OutCtxIdeal.τ).loc Cert.OutCtxIdeal.main_arg7) = m ((c.tc : Thread Cert.OutCtxIdeal.nD Cert.OutCtxIdeal.τ).loc Cert.OutCtxIdeal.main_arg7))
      ∧ r.2.sem = fun _ => 0)

def quiescent_OutCtxRefIdeal [hOutCtxRefIdeal : Cert.OutCtxRefIdeal.Facts] : Prop :=
  ∀ (m : (ℓ : Loc Cert.OutCtxRefIdeal.nD Cert.OutCtxRefIdeal.τ Cert.OutCtxRefIdeal.sig) → Buf (Elt Ideal) ℓ) (g : Dev Cert.OutCtxRefIdeal.nD → PrngReg), Pre_OutCtxRefIdeal m →
    θ_run (Cert.OutCtxRefIdeal.defs (F := Ideal)) (onTc (τ := Cert.OutCtxRefIdeal.τ) (Cert.OutCtxRefIdeal.main (F := Ideal))) ⟨m, fun _ => 0, g⟩ (fun r => (∀ c : Dev Cert.OutCtxRefIdeal.nD,
      r.2.mem ((c.tc : Thread Cert.OutCtxRefIdeal.nD Cert.OutCtxRefIdeal.τ).loc Cert.OutCtxRefIdeal.main_arg0) = m ((c.tc : Thread Cert.OutCtxRefIdeal.nD Cert.OutCtxRefIdeal.τ).loc Cert.OutCtxRefIdeal.main_arg0)
      ∧ r.2.mem ((c.tc : Thread Cert.OutCtxRefIdeal.nD Cert.OutCtxRefIdeal.τ).loc Cert.OutCtxRefIdeal.main_arg1) = m ((c.tc : Thread Cert.OutCtxRefIdeal.nD Cert.OutCtxRefIdeal.τ).loc Cert.OutCtxRefIdeal.main_arg1)
      ∧ r.2.mem ((c.tc : Thread Cert.OutCtxRefIdeal.nD Cert.OutCtxRefIdeal.τ).loc Cert.OutCtxRefIdeal.main_arg2) = m ((c.tc : Thread Cert.OutCtxRefIdeal.nD Cert.OutCtxRefIdeal.τ).loc Cert.OutCtxRefIdeal.main_arg2)
      ∧ r.2.mem ((c.tc : Thread Cert.OutCtxRefIdeal.nD Cert.OutCtxRefIdeal.τ).loc Cert.OutCtxRefIdeal.main_arg3) = m ((c.tc : Thread Cert.OutCtxRefIdeal.nD Cert.OutCtxRefIdeal.τ).loc Cert.OutCtxRefIdeal.main_arg3)
      ∧ r.2.mem ((c.tc : Thread Cert.OutCtxRefIdeal.nD Cert.OutCtxRefIdeal.τ).loc Cert.OutCtxRefIdeal.main_arg4) = m ((c.tc : Thread Cert.OutCtxRefIdeal.nD Cert.OutCtxRefIdeal.τ).loc Cert.OutCtxRefIdeal.main_arg4)
      ∧ r.2.mem ((c.tc : Thread Cert.OutCtxRefIdeal.nD Cert.OutCtxRefIdeal.τ).loc Cert.OutCtxRefIdeal.main_arg5) = m ((c.tc : Thread Cert.OutCtxRefIdeal.nD Cert.OutCtxRefIdeal.τ).loc Cert.OutCtxRefIdeal.main_arg5)
      ∧ r.2.mem ((c.tc : Thread Cert.OutCtxRefIdeal.nD Cert.OutCtxRefIdeal.τ).loc Cert.OutCtxRefIdeal.main_arg6) = m ((c.tc : Thread Cert.OutCtxRefIdeal.nD Cert.OutCtxRefIdeal.τ).loc Cert.OutCtxRefIdeal.main_arg6)
      ∧ r.2.mem ((c.tc : Thread Cert.OutCtxRefIdeal.nD Cert.OutCtxRefIdeal.τ).loc Cert.OutCtxRefIdeal.main_arg7) = m ((c.tc : Thread Cert.OutCtxRefIdeal.nD Cert.OutCtxRefIdeal.τ).loc Cert.OutCtxRefIdeal.main_arg7))
      ∧ r.2.sem = fun _ => 0)

def quiescent_OutLat [hOutLat : Cert.OutLat.Facts] : Prop :=
  ∀ (m : (ℓ : Loc Cert.OutLat.nD Cert.OutLat.τ Cert.OutLat.sig) → Buf (Elt Bits) ℓ) (g : Dev Cert.OutLat.nD → PrngReg), Pre_OutLat m →
    θ_run (Cert.OutLat.defs (F := Bits)) (onTc (τ := Cert.OutLat.τ) (Cert.OutLat.main (F := Bits))) ⟨m, fun _ => 0, g⟩ (fun r => (∀ c : Dev Cert.OutLat.nD,
      r.2.mem ((c.tc : Thread Cert.OutLat.nD Cert.OutLat.τ).loc Cert.OutLat.main_arg0) = m ((c.tc : Thread Cert.OutLat.nD Cert.OutLat.τ).loc Cert.OutLat.main_arg0)
      ∧ r.2.mem ((c.tc : Thread Cert.OutLat.nD Cert.OutLat.τ).loc Cert.OutLat.main_arg1) = m ((c.tc : Thread Cert.OutLat.nD Cert.OutLat.τ).loc Cert.OutLat.main_arg1)
      ∧ r.2.mem ((c.tc : Thread Cert.OutLat.nD Cert.OutLat.τ).loc Cert.OutLat.main_arg2) = m ((c.tc : Thread Cert.OutLat.nD Cert.OutLat.τ).loc Cert.OutLat.main_arg2)
      ∧ r.2.mem ((c.tc : Thread Cert.OutLat.nD Cert.OutLat.τ).loc Cert.OutLat.main_arg3) = m ((c.tc : Thread Cert.OutLat.nD Cert.OutLat.τ).loc Cert.OutLat.main_arg3)
      ∧ r.2.mem ((c.tc : Thread Cert.OutLat.nD Cert.OutLat.τ).loc Cert.OutLat.main_arg4) = m ((c.tc : Thread Cert.OutLat.nD Cert.OutLat.τ).loc Cert.OutLat.main_arg4)
      ∧ r.2.mem ((c.tc : Thread Cert.OutLat.nD Cert.OutLat.τ).loc Cert.OutLat.main_arg5) = m ((c.tc : Thread Cert.OutLat.nD Cert.OutLat.τ).loc Cert.OutLat.main_arg5)
      ∧ r.2.mem ((c.tc : Thread Cert.OutLat.nD Cert.OutLat.τ).loc Cert.OutLat.main_arg6) = m ((c.tc : Thread Cert.OutLat.nD Cert.OutLat.τ).loc Cert.OutLat.main_arg6)
      ∧ r.2.mem ((c.tc : Thread Cert.OutLat.nD Cert.OutLat.τ).loc Cert.OutLat.main_arg7) = m ((c.tc : Thread Cert.OutLat.nD Cert.OutLat.τ).loc Cert.OutLat.main_arg7))
      ∧ r.2.sem = fun _ => 0)

def quiescent_OutLatIdeal [hOutLatIdeal : Cert.OutLatIdeal.Facts] : Prop :=
  ∀ (m : (ℓ : Loc Cert.OutLatIdeal.nD Cert.OutLatIdeal.τ Cert.OutLatIdeal.sig) → Buf (Elt Ideal) ℓ) (g : Dev Cert.OutLatIdeal.nD → PrngReg), Pre_OutLatIdeal m →
    θ_run (Cert.OutLatIdeal.defs (F := Ideal)) (onTc (τ := Cert.OutLatIdeal.τ) (Cert.OutLatIdeal.main (F := Ideal))) ⟨m, fun _ => 0, g⟩ (fun r => (∀ c : Dev Cert.OutLatIdeal.nD,
      r.2.mem ((c.tc : Thread Cert.OutLatIdeal.nD Cert.OutLatIdeal.τ).loc Cert.OutLatIdeal.main_arg0) = m ((c.tc : Thread Cert.OutLatIdeal.nD Cert.OutLatIdeal.τ).loc Cert.OutLatIdeal.main_arg0)
      ∧ r.2.mem ((c.tc : Thread Cert.OutLatIdeal.nD Cert.OutLatIdeal.τ).loc Cert.OutLatIdeal.main_arg1) = m ((c.tc : Thread Cert.OutLatIdeal.nD Cert.OutLatIdeal.τ).loc Cert.OutLatIdeal.main_arg1)
      ∧ r.2.mem ((c.tc : Thread Cert.OutLatIdeal.nD Cert.OutLatIdeal.τ).loc Cert.OutLatIdeal.main_arg2) = m ((c.tc : Thread Cert.OutLatIdeal.nD Cert.OutLatIdeal.τ).loc Cert.OutLatIdeal.main_arg2)
      ∧ r.2.mem ((c.tc : Thread Cert.OutLatIdeal.nD Cert.OutLatIdeal.τ).loc Cert.OutLatIdeal.main_arg3) = m ((c.tc : Thread Cert.OutLatIdeal.nD Cert.OutLatIdeal.τ).loc Cert.OutLatIdeal.main_arg3)
      ∧ r.2.mem ((c.tc : Thread Cert.OutLatIdeal.nD Cert.OutLatIdeal.τ).loc Cert.OutLatIdeal.main_arg4) = m ((c.tc : Thread Cert.OutLatIdeal.nD Cert.OutLatIdeal.τ).loc Cert.OutLatIdeal.main_arg4)
      ∧ r.2.mem ((c.tc : Thread Cert.OutLatIdeal.nD Cert.OutLatIdeal.τ).loc Cert.OutLatIdeal.main_arg5) = m ((c.tc : Thread Cert.OutLatIdeal.nD Cert.OutLatIdeal.τ).loc Cert.OutLatIdeal.main_arg5)
      ∧ r.2.mem ((c.tc : Thread Cert.OutLatIdeal.nD Cert.OutLatIdeal.τ).loc Cert.OutLatIdeal.main_arg6) = m ((c.tc : Thread Cert.OutLatIdeal.nD Cert.OutLatIdeal.τ).loc Cert.OutLatIdeal.main_arg6)
      ∧ r.2.mem ((c.tc : Thread Cert.OutLatIdeal.nD Cert.OutLatIdeal.τ).loc Cert.OutLatIdeal.main_arg7) = m ((c.tc : Thread Cert.OutLatIdeal.nD Cert.OutLatIdeal.τ).loc Cert.OutLatIdeal.main_arg7))
      ∧ r.2.sem = fun _ => 0)

def quiescent_OutLatRefIdeal [hOutLatRefIdeal : Cert.OutLatRefIdeal.Facts] : Prop :=
  ∀ (m : (ℓ : Loc Cert.OutLatRefIdeal.nD Cert.OutLatRefIdeal.τ Cert.OutLatRefIdeal.sig) → Buf (Elt Ideal) ℓ) (g : Dev Cert.OutLatRefIdeal.nD → PrngReg), Pre_OutLatRefIdeal m →
    θ_run (Cert.OutLatRefIdeal.defs (F := Ideal)) (onTc (τ := Cert.OutLatRefIdeal.τ) (Cert.OutLatRefIdeal.main (F := Ideal))) ⟨m, fun _ => 0, g⟩ (fun r => (∀ c : Dev Cert.OutLatRefIdeal.nD,
      r.2.mem ((c.tc : Thread Cert.OutLatRefIdeal.nD Cert.OutLatRefIdeal.τ).loc Cert.OutLatRefIdeal.main_arg0) = m ((c.tc : Thread Cert.OutLatRefIdeal.nD Cert.OutLatRefIdeal.τ).loc Cert.OutLatRefIdeal.main_arg0)
      ∧ r.2.mem ((c.tc : Thread Cert.OutLatRefIdeal.nD Cert.OutLatRefIdeal.τ).loc Cert.OutLatRefIdeal.main_arg1) = m ((c.tc : Thread Cert.OutLatRefIdeal.nD Cert.OutLatRefIdeal.τ).loc Cert.OutLatRefIdeal.main_arg1)
      ∧ r.2.mem ((c.tc : Thread Cert.OutLatRefIdeal.nD Cert.OutLatRefIdeal.τ).loc Cert.OutLatRefIdeal.main_arg2) = m ((c.tc : Thread Cert.OutLatRefIdeal.nD Cert.OutLatRefIdeal.τ).loc Cert.OutLatRefIdeal.main_arg2)
      ∧ r.2.mem ((c.tc : Thread Cert.OutLatRefIdeal.nD Cert.OutLatRefIdeal.τ).loc Cert.OutLatRefIdeal.main_arg3) = m ((c.tc : Thread Cert.OutLatRefIdeal.nD Cert.OutLatRefIdeal.τ).loc Cert.OutLatRefIdeal.main_arg3)
      ∧ r.2.mem ((c.tc : Thread Cert.OutLatRefIdeal.nD Cert.OutLatRefIdeal.τ).loc Cert.OutLatRefIdeal.main_arg4) = m ((c.tc : Thread Cert.OutLatRefIdeal.nD Cert.OutLatRefIdeal.τ).loc Cert.OutLatRefIdeal.main_arg4)
      ∧ r.2.mem ((c.tc : Thread Cert.OutLatRefIdeal.nD Cert.OutLatRefIdeal.τ).loc Cert.OutLatRefIdeal.main_arg5) = m ((c.tc : Thread Cert.OutLatRefIdeal.nD Cert.OutLatRefIdeal.τ).loc Cert.OutLatRefIdeal.main_arg5)
      ∧ r.2.mem ((c.tc : Thread Cert.OutLatRefIdeal.nD Cert.OutLatRefIdeal.τ).loc Cert.OutLatRefIdeal.main_arg6) = m ((c.tc : Thread Cert.OutLatRefIdeal.nD Cert.OutLatRefIdeal.τ).loc Cert.OutLatRefIdeal.main_arg6)
      ∧ r.2.mem ((c.tc : Thread Cert.OutLatRefIdeal.nD Cert.OutLatRefIdeal.τ).loc Cert.OutLatRefIdeal.main_arg7) = m ((c.tc : Thread Cert.OutLatRefIdeal.nD Cert.OutLatRefIdeal.τ).loc Cert.OutLatRefIdeal.main_arg7))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModIdeal_pre_finite_mod [hModIdeal : Cert.ModIdeal.Facts] [hPre_finite_mod : Cert.Pre_finite_mod.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_mod m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ModRefIdeal_pre_finite_mod [hModRefIdeal : Cert.ModRefIdeal.Facts] [hPre_finite_mod : Cert.Pre_finite_mod.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_mod m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_CtxFirst_CtxFirstIdeal : Prop :=
  True

def algebraic_CtxFirstIdeal_CtxFirstRefIdeal_pre_finite_first [hCtxFirstIdeal : Cert.CtxFirstIdeal.Facts] [hCtxFirstRefIdeal : Cert.CtxFirstRefIdeal.Facts] [hPre_finite_first : Cert.Pre_finite_first.Facts] : Prop :=
  ∀ (m : (ℓ : Loc Cert.CtxFirstIdeal.nD Cert.CtxFirstIdeal.τ Cert.CtxFirstIdeal.sig) → Buf (Elt Ideal) ℓ) (g : Dev Cert.CtxFirstIdeal.nD → PrngReg)
    (m' : (ℓ : Loc Cert.CtxFirstRefIdeal.nD Cert.CtxFirstRefIdeal.τ Cert.CtxFirstRefIdeal.sig) → Buf (Elt Ideal) ℓ) (g' : Dev Cert.CtxFirstRefIdeal.nD → PrngReg), Pre_CtxFirstIdeal_finite_first m →
    (∀ c : Dev Cert.CtxFirstIdeal.nD,
      m' ((c.tc : Thread Cert.CtxFirstRefIdeal.nD Cert.CtxFirstRefIdeal.τ).loc Cert.CtxFirstRefIdeal.main_arg0) = m ((c.tc : Thread Cert.CtxFirstIdeal.nD Cert.CtxFirstIdeal.τ).loc Cert.CtxFirstIdeal.main_arg0)) →
    ∃ (v0 : (c : Dev Cert.CtxFirstIdeal.nD) → Buf (Elt Ideal) ((c.tc : Thread Cert.CtxFirstIdeal.nD Cert.CtxFirstIdeal.τ).loc Cert.CtxFirstIdeal.main_v0_0)) (v1 : (c : Dev Cert.CtxFirstIdeal.nD) → Buf (Elt Ideal) ((c.tc : Thread Cert.CtxFirstIdeal.nD Cert.CtxFirstIdeal.τ).loc Cert.CtxFirstIdeal.main_v0_1)) (v2 : (c : Dev Cert.CtxFirstIdeal.nD) → Buf (Elt Ideal) ((c.tc : Thread Cert.CtxFirstIdeal.nD Cert.CtxFirstIdeal.τ).loc Cert.CtxFirstIdeal.main_v0_2)),
      θ_run (Cert.CtxFirstIdeal.defs (F := Ideal)) (onTc (τ := Cert.CtxFirstIdeal.τ) (Cert.CtxFirstIdeal.main (F := Ideal))) ⟨m, fun _ => 0, g⟩ (fun r => ∀ c : Dev Cert.CtxFirstIdeal.nD,
          r.2.mem ((c.tc : Thread Cert.CtxFirstIdeal.nD Cert.CtxFirstIdeal.τ).loc Cert.CtxFirstIdeal.main_v0_0) = v0 c
          ∧ r.2.mem ((c.tc : Thread Cert.CtxFirstIdeal.nD Cert.CtxFirstIdeal.τ).loc Cert.CtxFirstIdeal.main_v0_1) = v1 c
          ∧ r.2.mem ((c.tc : Thread Cert.CtxFirstIdeal.nD Cert.CtxFirstIdeal.τ).loc Cert.CtxFirstIdeal.main_v0_2) = v2 c
          ∧ r.2.mem ((c.tc : Thread Cert.CtxFirstIdeal.nD Cert.CtxFirstIdeal.τ).loc Cert.CtxFirstIdeal.main_arg0) = m ((c.tc : Thread Cert.CtxFirstIdeal.nD Cert.CtxFirstIdeal.τ).loc Cert.CtxFirstIdeal.main_arg0))
      ∧ θ_run (Cert.CtxFirstRefIdeal.defs (F := Ideal)) (onTc (τ := Cert.CtxFirstRefIdeal.τ) (Cert.CtxFirstRefIdeal.main (F := Ideal))) ⟨m', fun _ => 0, g'⟩ (fun r => ∀ c : Dev Cert.CtxFirstRefIdeal.nD,
          r.2.mem ((c.tc : Thread Cert.CtxFirstRefIdeal.nD Cert.CtxFirstRefIdeal.τ).loc Cert.CtxFirstRefIdeal.main_v27) = v0 c
          ∧ r.2.mem ((c.tc : Thread Cert.CtxFirstRefIdeal.nD Cert.CtxFirstRefIdeal.τ).loc Cert.CtxFirstRefIdeal.main_v33) = v1 c
          ∧ r.2.mem ((c.tc : Thread Cert.CtxFirstRefIdeal.nD Cert.CtxFirstRefIdeal.τ).loc Cert.CtxFirstRefIdeal.main_v37) = v2 c
          ∧ r.2.mem ((c.tc : Thread Cert.CtxFirstRefIdeal.nD Cert.CtxFirstRefIdeal.τ).loc Cert.CtxFirstRefIdeal.main_arg0) = m' ((c.tc : Thread Cert.CtxFirstRefIdeal.nD Cert.CtxFirstRefIdeal.τ).loc Cert.CtxFirstRefIdeal.main_arg0))

def preserves_CtxNext_CtxNextIdeal : Prop :=
  True

def algebraic_CtxNextIdeal_CtxNextRefIdeal_pre_finite_next [hCtxNextIdeal : Cert.CtxNextIdeal.Facts] [hCtxNextRefIdeal : Cert.CtxNextRefIdeal.Facts] [hPre_finite_next : Cert.Pre_finite_next.Facts] : Prop :=
  ∀ (m : (ℓ : Loc Cert.CtxNextIdeal.nD Cert.CtxNextIdeal.τ Cert.CtxNextIdeal.sig) → Buf (Elt Ideal) ℓ) (g : Dev Cert.CtxNextIdeal.nD → PrngReg)
    (m' : (ℓ : Loc Cert.CtxNextRefIdeal.nD Cert.CtxNextRefIdeal.τ Cert.CtxNextRefIdeal.sig) → Buf (Elt Ideal) ℓ) (g' : Dev Cert.CtxNextRefIdeal.nD → PrngReg), Pre_CtxNextIdeal_finite_next m →
    (∀ c : Dev Cert.CtxNextIdeal.nD,
      m' ((c.tc : Thread Cert.CtxNextRefIdeal.nD Cert.CtxNextRefIdeal.τ).loc Cert.CtxNextRefIdeal.main_arg0) = m ((c.tc : Thread Cert.CtxNextIdeal.nD Cert.CtxNextIdeal.τ).loc Cert.CtxNextIdeal.main_arg0)
      ∧ m' ((c.tc : Thread Cert.CtxNextRefIdeal.nD Cert.CtxNextRefIdeal.τ).loc Cert.CtxNextRefIdeal.main_arg1) = m ((c.tc : Thread Cert.CtxNextIdeal.nD Cert.CtxNextIdeal.τ).loc Cert.CtxNextIdeal.main_arg1)
      ∧ m' ((c.tc : Thread Cert.CtxNextRefIdeal.nD Cert.CtxNextRefIdeal.τ).loc Cert.CtxNextRefIdeal.main_arg2) = m ((c.tc : Thread Cert.CtxNextIdeal.nD Cert.CtxNextIdeal.τ).loc Cert.CtxNextIdeal.main_arg2)) →
    ∃ (v0 : (c : Dev Cert.CtxNextIdeal.nD) → Buf (Elt Ideal) ((c.tc : Thread Cert.CtxNextIdeal.nD Cert.CtxNextIdeal.τ).loc Cert.CtxNextIdeal.main_v0_0)) (v1 : (c : Dev Cert.CtxNextIdeal.nD) → Buf (Elt Ideal) ((c.tc : Thread Cert.CtxNextIdeal.nD Cert.CtxNextIdeal.τ).loc Cert.CtxNextIdeal.main_v0_1)) (v2 : (c : Dev Cert.CtxNextIdeal.nD) → Buf (Elt Ideal) ((c.tc : Thread Cert.CtxNextIdeal.nD Cert.CtxNextIdeal.τ).loc Cert.CtxNextIdeal.main_v0_2)),
      θ_run (Cert.CtxNextIdeal.defs (F := Ideal)) (onTc (τ := Cert.CtxNextIdeal.τ) (Cert.CtxNextIdeal.main (F := Ideal))) ⟨m, fun _ => 0, g⟩ (fun r => ∀ c : Dev Cert.CtxNextIdeal.nD,
          r.2.mem ((c.tc : Thread Cert.CtxNextIdeal.nD Cert.CtxNextIdeal.τ).loc Cert.CtxNextIdeal.main_v0_0) = v0 c
          ∧ r.2.mem ((c.tc : Thread Cert.CtxNextIdeal.nD Cert.CtxNextIdeal.τ).loc Cert.CtxNextIdeal.main_v0_1) = v1 c
          ∧ r.2.mem ((c.tc : Thread Cert.CtxNextIdeal.nD Cert.CtxNextIdeal.τ).loc Cert.CtxNextIdeal.main_v0_2) = v2 c
          ∧ r.2.mem ((c.tc : Thread Cert.CtxNextIdeal.nD Cert.CtxNextIdeal.τ).loc Cert.CtxNextIdeal.main_arg0) = m ((c.tc : Thread Cert.CtxNextIdeal.nD Cert.CtxNextIdeal.τ).loc Cert.CtxNextIdeal.main_arg0)
          ∧ r.2.mem ((c.tc : Thread Cert.CtxNextIdeal.nD Cert.CtxNextIdeal.τ).loc Cert.CtxNextIdeal.main_arg1) = m ((c.tc : Thread Cert.CtxNextIdeal.nD Cert.CtxNextIdeal.τ).loc Cert.CtxNextIdeal.main_arg1)
          ∧ r.2.mem ((c.tc : Thread Cert.CtxNextIdeal.nD Cert.CtxNextIdeal.τ).loc Cert.CtxNextIdeal.main_arg2) = m ((c.tc : Thread Cert.CtxNextIdeal.nD Cert.CtxNextIdeal.τ).loc Cert.CtxNextIdeal.main_arg2))
      ∧ θ_run (Cert.CtxNextRefIdeal.defs (F := Ideal)) (onTc (τ := Cert.CtxNextRefIdeal.τ) (Cert.CtxNextRefIdeal.main (F := Ideal))) ⟨m', fun _ => 0, g'⟩ (fun r => ∀ c : Dev Cert.CtxNextRefIdeal.nD,
          r.2.mem ((c.tc : Thread Cert.CtxNextRefIdeal.nD Cert.CtxNextRefIdeal.τ).loc Cert.CtxNextRefIdeal.main_v27) = v0 c
          ∧ r.2.mem ((c.tc : Thread Cert.CtxNextRefIdeal.nD Cert.CtxNextRefIdeal.τ).loc Cert.CtxNextRefIdeal.main_v34) = v1 c
          ∧ r.2.mem ((c.tc : Thread Cert.CtxNextRefIdeal.nD Cert.CtxNextRefIdeal.τ).loc Cert.CtxNextRefIdeal.main_v39) = v2 c
          ∧ r.2.mem ((c.tc : Thread Cert.CtxNextRefIdeal.nD Cert.CtxNextRefIdeal.τ).loc Cert.CtxNextRefIdeal.main_arg0) = m' ((c.tc : Thread Cert.CtxNextRefIdeal.nD Cert.CtxNextRefIdeal.τ).loc Cert.CtxNextRefIdeal.main_arg0)
          ∧ r.2.mem ((c.tc : Thread Cert.CtxNextRefIdeal.nD Cert.CtxNextRefIdeal.τ).loc Cert.CtxNextRefIdeal.main_arg1) = m' ((c.tc : Thread Cert.CtxNextRefIdeal.nD Cert.CtxNextRefIdeal.τ).loc Cert.CtxNextRefIdeal.main_arg1)
          ∧ r.2.mem ((c.tc : Thread Cert.CtxNextRefIdeal.nD Cert.CtxNextRefIdeal.τ).loc Cert.CtxNextRefIdeal.main_arg2) = m' ((c.tc : Thread Cert.CtxNextRefIdeal.nD Cert.CtxNextRefIdeal.τ).loc Cert.CtxNextRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)) (v3 : (c : Dev Cert.InProjIdeal.nD) → Buf (Elt Ideal) ((c.tc : Thread Cert.InProjIdeal.nD Cert.InProjIdeal.τ).loc Cert.InProjIdeal.main_v4_3)) (v4 : (c : Dev Cert.InProjIdeal.nD) → Buf (Elt Ideal) ((c.tc : Thread Cert.InProjIdeal.nD Cert.InProjIdeal.τ).loc Cert.InProjIdeal.main_v4_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_v4_3) = v3 c
          ∧ r.2.mem ((c.tc : Thread Cert.InProjIdeal.nD Cert.InProjIdeal.τ).loc Cert.InProjIdeal.main_v4_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v29) = v3 c
          ∧ r.2.mem ((c.tc : Thread Cert.InProjRefIdeal.nD Cert.InProjRefIdeal.τ).loc Cert.InProjRefIdeal.main_v30) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InCtx_InCtxIdeal : Prop :=
  True

def algebraic_InCtxIdeal_InCtxRefIdeal [hInCtxIdeal : Cert.InCtxIdeal.Facts] [hInCtxRefIdeal : Cert.InCtxRefIdeal.Facts] : Prop :=
  ∀ (m : (ℓ : Loc Cert.InCtxIdeal.nD Cert.InCtxIdeal.τ Cert.InCtxIdeal.sig) → Buf (Elt Ideal) ℓ) (g : Dev Cert.InCtxIdeal.nD → PrngReg)
    (m' : (ℓ : Loc Cert.InCtxRefIdeal.nD Cert.InCtxRefIdeal.τ Cert.InCtxRefIdeal.sig) → Buf (Elt Ideal) ℓ) (g' : Dev Cert.InCtxRefIdeal.nD → PrngReg), Pre_InCtxIdeal m →
    (∀ c : Dev Cert.InCtxIdeal.nD,
      m' ((c.tc : Thread Cert.InCtxRefIdeal.nD Cert.InCtxRefIdeal.τ).loc Cert.InCtxRefIdeal.main_arg0) = m ((c.tc : Thread Cert.InCtxIdeal.nD Cert.InCtxIdeal.τ).loc Cert.InCtxIdeal.main_arg0)
      ∧ m' ((c.tc : Thread Cert.InCtxRefIdeal.nD Cert.InCtxRefIdeal.τ).loc Cert.InCtxRefIdeal.main_arg1) = m ((c.tc : Thread Cert.InCtxIdeal.nD Cert.InCtxIdeal.τ).loc Cert.InCtxIdeal.main_arg1)
      ∧ m' ((c.tc : Thread Cert.InCtxRefIdeal.nD Cert.InCtxRefIdeal.τ).loc Cert.InCtxRefIdeal.main_arg2) = m ((c.tc : Thread Cert.InCtxIdeal.nD Cert.InCtxIdeal.τ).loc Cert.InCtxIdeal.main_arg2)
      ∧ m' ((c.tc : Thread Cert.InCtxRefIdeal.nD Cert.InCtxRefIdeal.τ).loc Cert.InCtxRefIdeal.main_arg3) = m ((c.tc : Thread Cert.InCtxIdeal.nD Cert.InCtxIdeal.τ).loc Cert.InCtxIdeal.main_arg3)) →
    ∃ (v0 : (c : Dev Cert.InCtxIdeal.nD) → Buf (Elt Ideal) ((c.tc : Thread Cert.InCtxIdeal.nD Cert.InCtxIdeal.τ).loc Cert.InCtxIdeal.main_v4_0)) (v1 : (c : Dev Cert.InCtxIdeal.nD) → Buf (Elt Ideal) ((c.tc : Thread Cert.InCtxIdeal.nD Cert.InCtxIdeal.τ).loc Cert.InCtxIdeal.main_v4_1)) (v2 : (c : Dev Cert.InCtxIdeal.nD) → Buf (Elt Ideal) ((c.tc : Thread Cert.InCtxIdeal.nD Cert.InCtxIdeal.τ).loc Cert.InCtxIdeal.main_v4_2)) (v3 : (c : Dev Cert.InCtxIdeal.nD) → Buf (Elt Ideal) ((c.tc : Thread Cert.InCtxIdeal.nD Cert.InCtxIdeal.τ).loc Cert.InCtxIdeal.main_v4_3)) (v4 : (c : Dev Cert.InCtxIdeal.nD) → Buf (Elt Ideal) ((c.tc : Thread Cert.InCtxIdeal.nD Cert.InCtxIdeal.τ).loc Cert.InCtxIdeal.main_v4_4)),
      θ_run (Cert.InCtxIdeal.defs (F := Ideal)) (onTc (τ := Cert.InCtxIdeal.τ) (Cert.InCtxIdeal.main (F := Ideal))) ⟨m, fun _ => 0, g⟩ (fun r => ∀ c : Dev Cert.InCtxIdeal.nD,
          r.2.mem ((c.tc : Thread Cert.InCtxIdeal.nD Cert.InCtxIdeal.τ).loc Cert.InCtxIdeal.main_v4_0) = v0 c
          ∧ r.2.mem ((c.tc : Thread Cert.InCtxIdeal.nD Cert.InCtxIdeal.τ).loc Cert.InCtxIdeal.main_v4_1) = v1 c
          ∧ r.2.mem ((c.tc : Thread Cert.InCtxIdeal.nD Cert.InCtxIdeal.τ).loc Cert.InCtxIdeal.main_v4_2) = v2 c
          ∧ r.2.mem ((c.tc : Thread Cert.InCtxIdeal.nD Cert.InCtxIdeal.τ).loc Cert.InCtxIdeal.main_v4_3) = v3 c
          ∧ r.2.mem ((c.tc : Thread Cert.InCtxIdeal.nD Cert.InCtxIdeal.τ).loc Cert.InCtxIdeal.main_v4_4) = v4 c
          ∧ r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
          ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
          ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
          ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ θ_run (Cert.InCtxRefIdeal.defs (F := Ideal)) (onTc (τ := Cert.InCtxRefIdeal.τ) (Cert.InCtxRefIdeal.main (F := Ideal))) ⟨m', fun _ => 0, g'⟩ (fun r => ∀ c : Dev Cert.InCtxRefIdeal.nD,
          r.2.mem ((c.tc : Thread Cert.InCtxRefIdeal.nD Cert.InCtxRefIdeal.τ).loc Cert.InCtxRefIdeal.main_v26) = v0 c
          ∧ r.2.mem ((c.tc : Thread Cert.InCtxRefIdeal.nD Cert.InCtxRefIdeal.τ).loc Cert.InCtxRefIdeal.main_v27) = v1 c
          ∧ r.2.mem ((c.tc : Thread Cert.InCtxRefIdeal.nD Cert.InCtxRefIdeal.τ).loc Cert.InCtxRefIdeal.main_v28) = v2 c
          ∧ r.2.mem ((c.tc : Thread Cert.InCtxRefIdeal.nD Cert.InCtxRefIdeal.τ).loc Cert.InCtxRefIdeal.main_v29) = v3 c
          ∧ r.2.mem ((c.tc : Thread Cert.InCtxRefIdeal.nD Cert.InCtxRefIdeal.τ).loc Cert.InCtxRefIdeal.main_v30) = v4 c
          ∧ r.2.mem ((c.tc : Thread Cert.InCtxRefIdeal.nD Cert.InCtxRefIdeal.τ).loc Cert.InCtxRefIdeal.main_arg0) = m' ((c.tc : Thread Cert.InCtxRefIdeal.nD Cert.InCtxRefIdeal.τ).loc Cert.InCtxRefIdeal.main_arg0)
          ∧ r.2.mem ((c.tc : Thread Cert.InCtxRefIdeal.nD Cert.InCtxRefIdeal.τ).loc Cert.InCtxRefIdeal.main_arg1) = m' ((c.tc : Thread Cert.InCtxRefIdeal.nD Cert.InCtxRefIdeal.τ).loc Cert.InCtxRefIdeal.main_arg1)
          ∧ r.2.mem ((c.tc : Thread Cert.InCtxRefIdeal.nD Cert.InCtxRefIdeal.τ).loc Cert.InCtxRefIdeal.main_arg2) = m' ((c.tc : Thread Cert.InCtxRefIdeal.nD Cert.InCtxRefIdeal.τ).loc Cert.InCtxRefIdeal.main_arg2)
          ∧ r.2.mem ((c.tc : Thread Cert.InCtxRefIdeal.nD Cert.InCtxRefIdeal.τ).loc Cert.InCtxRefIdeal.main_arg3) = m' ((c.tc : Thread Cert.InCtxRefIdeal.nD Cert.InCtxRefIdeal.τ).loc Cert.InCtxRefIdeal.main_arg3))

def preserves_OutIn_OutInIdeal : Prop :=
  True

def algebraic_OutInIdeal_OutInRefIdeal [hOutInIdeal : Cert.OutInIdeal.Facts] [hOutInRefIdeal : Cert.OutInRefIdeal.Facts] : Prop :=
  ∀ (m : (ℓ : Loc Cert.OutInIdeal.nD Cert.OutInIdeal.τ Cert.OutInIdeal.sig) → Buf (Elt Ideal) ℓ) (g : Dev Cert.OutInIdeal.nD → PrngReg)
    (m' : (ℓ : Loc Cert.OutInRefIdeal.nD Cert.OutInRefIdeal.τ Cert.OutInRefIdeal.sig) → Buf (Elt Ideal) ℓ) (g' : Dev Cert.OutInRefIdeal.nD → PrngReg), Pre_OutInIdeal m →
    (∀ c : Dev Cert.OutInIdeal.nD,
      m' ((c.tc : Thread Cert.OutInRefIdeal.nD Cert.OutInRefIdeal.τ).loc Cert.OutInRefIdeal.main_arg0) = m ((c.tc : Thread Cert.OutInIdeal.nD Cert.OutInIdeal.τ).loc Cert.OutInIdeal.main_arg0)
      ∧ m' ((c.tc : Thread Cert.OutInRefIdeal.nD Cert.OutInRefIdeal.τ).loc Cert.OutInRefIdeal.main_arg1) = m ((c.tc : Thread Cert.OutInIdeal.nD Cert.OutInIdeal.τ).loc Cert.OutInIdeal.main_arg1)
      ∧ m' ((c.tc : Thread Cert.OutInRefIdeal.nD Cert.OutInRefIdeal.τ).loc Cert.OutInRefIdeal.main_arg2) = m ((c.tc : Thread Cert.OutInIdeal.nD Cert.OutInIdeal.τ).loc Cert.OutInIdeal.main_arg2)
      ∧ m' ((c.tc : Thread Cert.OutInRefIdeal.nD Cert.OutInRefIdeal.τ).loc Cert.OutInRefIdeal.main_arg3) = m ((c.tc : Thread Cert.OutInIdeal.nD Cert.OutInIdeal.τ).loc Cert.OutInIdeal.main_arg3)
      ∧ m' ((c.tc : Thread Cert.OutInRefIdeal.nD Cert.OutInRefIdeal.τ).loc Cert.OutInRefIdeal.main_arg4) = m ((c.tc : Thread Cert.OutInIdeal.nD Cert.OutInIdeal.τ).loc Cert.OutInIdeal.main_arg4)
      ∧ m' ((c.tc : Thread Cert.OutInRefIdeal.nD Cert.OutInRefIdeal.τ).loc Cert.OutInRefIdeal.main_arg5) = m ((c.tc : Thread Cert.OutInIdeal.nD Cert.OutInIdeal.τ).loc Cert.OutInIdeal.main_arg5)
      ∧ m' ((c.tc : Thread Cert.OutInRefIdeal.nD Cert.OutInRefIdeal.τ).loc Cert.OutInRefIdeal.main_arg6) = m ((c.tc : Thread Cert.OutInIdeal.nD Cert.OutInIdeal.τ).loc Cert.OutInIdeal.main_arg6)
      ∧ m' ((c.tc : Thread Cert.OutInRefIdeal.nD Cert.OutInRefIdeal.τ).loc Cert.OutInRefIdeal.main_arg7) = m ((c.tc : Thread Cert.OutInIdeal.nD Cert.OutInIdeal.τ).loc Cert.OutInIdeal.main_arg7)
      ∧ m' ((c.tc : Thread Cert.OutInRefIdeal.nD Cert.OutInRefIdeal.τ).loc Cert.OutInRefIdeal.main_arg8) = m ((c.tc : Thread Cert.OutInIdeal.nD Cert.OutInIdeal.τ).loc Cert.OutInIdeal.main_arg8)
      ∧ m' ((c.tc : Thread Cert.OutInRefIdeal.nD Cert.OutInRefIdeal.τ).loc Cert.OutInRefIdeal.main_arg9) = m ((c.tc : Thread Cert.OutInIdeal.nD Cert.OutInIdeal.τ).loc Cert.OutInIdeal.main_arg9)) →
    ∃ (v0 : (c : Dev Cert.OutInIdeal.nD) → Buf (Elt Ideal) ((c.tc : Thread Cert.OutInIdeal.nD Cert.OutInIdeal.τ).loc Cert.OutInIdeal.main_v6_0)) (v1 : (c : Dev Cert.OutInIdeal.nD) → Buf (Elt Ideal) ((c.tc : Thread Cert.OutInIdeal.nD Cert.OutInIdeal.τ).loc Cert.OutInIdeal.main_v6_1)) (v2 : (c : Dev Cert.OutInIdeal.nD) → Buf (Elt Ideal) ((c.tc : Thread Cert.OutInIdeal.nD Cert.OutInIdeal.τ).loc Cert.OutInIdeal.main_v6_2)) (v3 : (c : Dev Cert.OutInIdeal.nD) → Buf (Elt Ideal) ((c.tc : Thread Cert.OutInIdeal.nD Cert.OutInIdeal.τ).loc Cert.OutInIdeal.main_v6_3)) (v4 : (c : Dev Cert.OutInIdeal.nD) → Buf (Elt Ideal) ((c.tc : Thread Cert.OutInIdeal.nD Cert.OutInIdeal.τ).loc Cert.OutInIdeal.main_v6_4)) (v5 : (c : Dev Cert.OutInIdeal.nD) → Buf (Elt Ideal) ((c.tc : Thread Cert.OutInIdeal.nD Cert.OutInIdeal.τ).loc Cert.OutInIdeal.main_v6_5)),
      θ_run (Cert.OutInIdeal.defs (F := Ideal)) (onTc (τ := Cert.OutInIdeal.τ) (Cert.OutInIdeal.main (F := Ideal))) ⟨m, fun _ => 0, g⟩ (fun r => ∀ c : Dev Cert.OutInIdeal.nD,
          r.2.mem ((c.tc : Thread Cert.OutInIdeal.nD Cert.OutInIdeal.τ).loc Cert.OutInIdeal.main_v6_0) = v0 c
          ∧ r.2.mem ((c.tc : Thread Cert.OutInIdeal.nD Cert.OutInIdeal.τ).loc Cert.OutInIdeal.main_v6_1) = v1 c
          ∧ r.2.mem ((c.tc : Thread Cert.OutInIdeal.nD Cert.OutInIdeal.τ).loc Cert.OutInIdeal.main_v6_2) = v2 c
          ∧ r.2.mem ((c.tc : Thread Cert.OutInIdeal.nD Cert.OutInIdeal.τ).loc Cert.OutInIdeal.main_v6_3) = v3 c
          ∧ r.2.mem ((c.tc : Thread Cert.OutInIdeal.nD Cert.OutInIdeal.τ).loc Cert.OutInIdeal.main_v6_4) = v4 c
          ∧ r.2.mem ((c.tc : Thread Cert.OutInIdeal.nD Cert.OutInIdeal.τ).loc Cert.OutInIdeal.main_v6_5) = v5 c
          ∧ r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
          ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
          ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
          ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
          ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
          ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5)
          ∧ r.2.mem ((c.tc : Thread Cert.OutInIdeal.nD Cert.OutInIdeal.τ).loc Cert.OutInIdeal.main_arg6) = m ((c.tc : Thread Cert.OutInIdeal.nD Cert.OutInIdeal.τ).loc Cert.OutInIdeal.main_arg6)
          ∧ r.2.mem ((c.tc : Thread Cert.OutInIdeal.nD Cert.OutInIdeal.τ).loc Cert.OutInIdeal.main_arg7) = m ((c.tc : Thread Cert.OutInIdeal.nD Cert.OutInIdeal.τ).loc Cert.OutInIdeal.main_arg7)
          ∧ r.2.mem ((c.tc : Thread Cert.OutInIdeal.nD Cert.OutInIdeal.τ).loc Cert.OutInIdeal.main_arg8) = m ((c.tc : Thread Cert.OutInIdeal.nD Cert.OutInIdeal.τ).loc Cert.OutInIdeal.main_arg8)
          ∧ r.2.mem ((c.tc : Thread Cert.OutInIdeal.nD Cert.OutInIdeal.τ).loc Cert.OutInIdeal.main_arg9) = m ((c.tc : Thread Cert.OutInIdeal.nD Cert.OutInIdeal.τ).loc Cert.OutInIdeal.main_arg9))
      ∧ θ_run (Cert.OutInRefIdeal.defs (F := Ideal)) (onTc (τ := Cert.OutInRefIdeal.τ) (Cert.OutInRefIdeal.main (F := Ideal))) ⟨m', fun _ => 0, g'⟩ (fun r => ∀ c : Dev Cert.OutInRefIdeal.nD,
          r.2.mem ((c.tc : Thread Cert.OutInRefIdeal.nD Cert.OutInRefIdeal.τ).loc Cert.OutInRefIdeal.main_v17) = v0 c
          ∧ r.2.mem ((c.tc : Thread Cert.OutInRefIdeal.nD Cert.OutInRefIdeal.τ).loc Cert.OutInRefIdeal.main_v44) = v1 c
          ∧ r.2.mem ((c.tc : Thread Cert.OutInRefIdeal.nD Cert.OutInRefIdeal.τ).loc Cert.OutInRefIdeal.main_v45) = v2 c
          ∧ r.2.mem ((c.tc : Thread Cert.OutInRefIdeal.nD Cert.OutInRefIdeal.τ).loc Cert.OutInRefIdeal.main_v46) = v3 c
          ∧ r.2.mem ((c.tc : Thread Cert.OutInRefIdeal.nD Cert.OutInRefIdeal.τ).loc Cert.OutInRefIdeal.main_v47) = v4 c
          ∧ r.2.mem ((c.tc : Thread Cert.OutInRefIdeal.nD Cert.OutInRefIdeal.τ).loc Cert.OutInRefIdeal.main_v48) = v5 c
          ∧ r.2.mem ((c.tc : Thread Cert.OutInRefIdeal.nD Cert.OutInRefIdeal.τ).loc Cert.OutInRefIdeal.main_arg0) = m' ((c.tc : Thread Cert.OutInRefIdeal.nD Cert.OutInRefIdeal.τ).loc Cert.OutInRefIdeal.main_arg0)
          ∧ r.2.mem ((c.tc : Thread Cert.OutInRefIdeal.nD Cert.OutInRefIdeal.τ).loc Cert.OutInRefIdeal.main_arg1) = m' ((c.tc : Thread Cert.OutInRefIdeal.nD Cert.OutInRefIdeal.τ).loc Cert.OutInRefIdeal.main_arg1)
          ∧ r.2.mem ((c.tc : Thread Cert.OutInRefIdeal.nD Cert.OutInRefIdeal.τ).loc Cert.OutInRefIdeal.main_arg2) = m' ((c.tc : Thread Cert.OutInRefIdeal.nD Cert.OutInRefIdeal.τ).loc Cert.OutInRefIdeal.main_arg2)
          ∧ r.2.mem ((c.tc : Thread Cert.OutInRefIdeal.nD Cert.OutInRefIdeal.τ).loc Cert.OutInRefIdeal.main_arg3) = m' ((c.tc : Thread Cert.OutInRefIdeal.nD Cert.OutInRefIdeal.τ).loc Cert.OutInRefIdeal.main_arg3)
          ∧ r.2.mem ((c.tc : Thread Cert.OutInRefIdeal.nD Cert.OutInRefIdeal.τ).loc Cert.OutInRefIdeal.main_arg4) = m' ((c.tc : Thread Cert.OutInRefIdeal.nD Cert.OutInRefIdeal.τ).loc Cert.OutInRefIdeal.main_arg4)
          ∧ r.2.mem ((c.tc : Thread Cert.OutInRefIdeal.nD Cert.OutInRefIdeal.τ).loc Cert.OutInRefIdeal.main_arg5) = m' ((c.tc : Thread Cert.OutInRefIdeal.nD Cert.OutInRefIdeal.τ).loc Cert.OutInRefIdeal.main_arg5)
          ∧ r.2.mem ((c.tc : Thread Cert.OutInRefIdeal.nD Cert.OutInRefIdeal.τ).loc Cert.OutInRefIdeal.main_arg6) = m' ((c.tc : Thread Cert.OutInRefIdeal.nD Cert.OutInRefIdeal.τ).loc Cert.OutInRefIdeal.main_arg6)
          ∧ r.2.mem ((c.tc : Thread Cert.OutInRefIdeal.nD Cert.OutInRefIdeal.τ).loc Cert.OutInRefIdeal.main_arg7) = m' ((c.tc : Thread Cert.OutInRefIdeal.nD Cert.OutInRefIdeal.τ).loc Cert.OutInRefIdeal.main_arg7)
          ∧ r.2.mem ((c.tc : Thread Cert.OutInRefIdeal.nD Cert.OutInRefIdeal.τ).loc Cert.OutInRefIdeal.main_arg8) = m' ((c.tc : Thread Cert.OutInRefIdeal.nD Cert.OutInRefIdeal.τ).loc Cert.OutInRefIdeal.main_arg8)
          ∧ r.2.mem ((c.tc : Thread Cert.OutInRefIdeal.nD Cert.OutInRefIdeal.τ).loc Cert.OutInRefIdeal.main_arg9) = m' ((c.tc : Thread Cert.OutInRefIdeal.nD Cert.OutInRefIdeal.τ).loc Cert.OutInRefIdeal.main_arg9))

def preserves_OutInLat_OutInLatIdeal : Prop :=
  True

def algebraic_OutInLatIdeal_OutInLatRefIdeal [hOutInLatIdeal : Cert.OutInLatIdeal.Facts] [hOutInLatRefIdeal : Cert.OutInLatRefIdeal.Facts] : Prop :=
  ∀ (m : (ℓ : Loc Cert.OutInLatIdeal.nD Cert.OutInLatIdeal.τ Cert.OutInLatIdeal.sig) → Buf (Elt Ideal) ℓ) (g : Dev Cert.OutInLatIdeal.nD → PrngReg)
    (m' : (ℓ : Loc Cert.OutInLatRefIdeal.nD Cert.OutInLatRefIdeal.τ Cert.OutInLatRefIdeal.sig) → Buf (Elt Ideal) ℓ) (g' : Dev Cert.OutInLatRefIdeal.nD → PrngReg), Pre_OutInLatIdeal m →
    (∀ c : Dev Cert.OutInLatIdeal.nD,
      m' ((c.tc : Thread Cert.OutInLatRefIdeal.nD Cert.OutInLatRefIdeal.τ).loc Cert.OutInLatRefIdeal.main_arg0) = m ((c.tc : Thread Cert.OutInLatIdeal.nD Cert.OutInLatIdeal.τ).loc Cert.OutInLatIdeal.main_arg0)
      ∧ m' ((c.tc : Thread Cert.OutInLatRefIdeal.nD Cert.OutInLatRefIdeal.τ).loc Cert.OutInLatRefIdeal.main_arg1) = m ((c.tc : Thread Cert.OutInLatIdeal.nD Cert.OutInLatIdeal.τ).loc Cert.OutInLatIdeal.main_arg1)
      ∧ m' ((c.tc : Thread Cert.OutInLatRefIdeal.nD Cert.OutInLatRefIdeal.τ).loc Cert.OutInLatRefIdeal.main_arg2) = m ((c.tc : Thread Cert.OutInLatIdeal.nD Cert.OutInLatIdeal.τ).loc Cert.OutInLatIdeal.main_arg2)
      ∧ m' ((c.tc : Thread Cert.OutInLatRefIdeal.nD Cert.OutInLatRefIdeal.τ).loc Cert.OutInLatRefIdeal.main_arg3) = m ((c.tc : Thread Cert.OutInLatIdeal.nD Cert.OutInLatIdeal.τ).loc Cert.OutInLatIdeal.main_arg3)
      ∧ m' ((c.tc : Thread Cert.OutInLatRefIdeal.nD Cert.OutInLatRefIdeal.τ).loc Cert.OutInLatRefIdeal.main_arg4) = m ((c.tc : Thread Cert.OutInLatIdeal.nD Cert.OutInLatIdeal.τ).loc Cert.OutInLatIdeal.main_arg4)
      ∧ m' ((c.tc : Thread Cert.OutInLatRefIdeal.nD Cert.OutInLatRefIdeal.τ).loc Cert.OutInLatRefIdeal.main_arg5) = m ((c.tc : Thread Cert.OutInLatIdeal.nD Cert.OutInLatIdeal.τ).loc Cert.OutInLatIdeal.main_arg5)
      ∧ m' ((c.tc : Thread Cert.OutInLatRefIdeal.nD Cert.OutInLatRefIdeal.τ).loc Cert.OutInLatRefIdeal.main_arg6) = m ((c.tc : Thread Cert.OutInLatIdeal.nD Cert.OutInLatIdeal.τ).loc Cert.OutInLatIdeal.main_arg6)
      ∧ m' ((c.tc : Thread Cert.OutInLatRefIdeal.nD Cert.OutInLatRefIdeal.τ).loc Cert.OutInLatRefIdeal.main_arg7) = m ((c.tc : Thread Cert.OutInLatIdeal.nD Cert.OutInLatIdeal.τ).loc Cert.OutInLatIdeal.main_arg7)
      ∧ m' ((c.tc : Thread Cert.OutInLatRefIdeal.nD Cert.OutInLatRefIdeal.τ).loc Cert.OutInLatRefIdeal.main_arg8) = m ((c.tc : Thread Cert.OutInLatIdeal.nD Cert.OutInLatIdeal.τ).loc Cert.OutInLatIdeal.main_arg8)
      ∧ m' ((c.tc : Thread Cert.OutInLatRefIdeal.nD Cert.OutInLatRefIdeal.τ).loc Cert.OutInLatRefIdeal.main_arg9) = m ((c.tc : Thread Cert.OutInLatIdeal.nD Cert.OutInLatIdeal.τ).loc Cert.OutInLatIdeal.main_arg9)) →
    ∃ (v0 : (c : Dev Cert.OutInLatIdeal.nD) → Buf (Elt Ideal) ((c.tc : Thread Cert.OutInLatIdeal.nD Cert.OutInLatIdeal.τ).loc Cert.OutInLatIdeal.main_v6_0)) (v1 : (c : Dev Cert.OutInLatIdeal.nD) → Buf (Elt Ideal) ((c.tc : Thread Cert.OutInLatIdeal.nD Cert.OutInLatIdeal.τ).loc Cert.OutInLatIdeal.main_v6_1)) (v2 : (c : Dev Cert.OutInLatIdeal.nD) → Buf (Elt Ideal) ((c.tc : Thread Cert.OutInLatIdeal.nD Cert.OutInLatIdeal.τ).loc Cert.OutInLatIdeal.main_v6_2)) (v3 : (c : Dev Cert.OutInLatIdeal.nD) → Buf (Elt Ideal) ((c.tc : Thread Cert.OutInLatIdeal.nD Cert.OutInLatIdeal.τ).loc Cert.OutInLatIdeal.main_v6_3)) (v4 : (c : Dev Cert.OutInLatIdeal.nD) → Buf (Elt Ideal) ((c.tc : Thread Cert.OutInLatIdeal.nD Cert.OutInLatIdeal.τ).loc Cert.OutInLatIdeal.main_v6_4)) (v5 : (c : Dev Cert.OutInLatIdeal.nD) → Buf (Elt Ideal) ((c.tc : Thread Cert.OutInLatIdeal.nD Cert.OutInLatIdeal.τ).loc Cert.OutInLatIdeal.main_v6_5)),
      θ_run (Cert.OutInLatIdeal.defs (F := Ideal)) (onTc (τ := Cert.OutInLatIdeal.τ) (Cert.OutInLatIdeal.main (F := Ideal))) ⟨m, fun _ => 0, g⟩ (fun r => ∀ c : Dev Cert.OutInLatIdeal.nD,
          r.2.mem ((c.tc : Thread Cert.OutInLatIdeal.nD Cert.OutInLatIdeal.τ).loc Cert.OutInLatIdeal.main_v6_0) = v0 c
          ∧ r.2.mem ((c.tc : Thread Cert.OutInLatIdeal.nD Cert.OutInLatIdeal.τ).loc Cert.OutInLatIdeal.main_v6_1) = v1 c
          ∧ r.2.mem ((c.tc : Thread Cert.OutInLatIdeal.nD Cert.OutInLatIdeal.τ).loc Cert.OutInLatIdeal.main_v6_2) = v2 c
          ∧ r.2.mem ((c.tc : Thread Cert.OutInLatIdeal.nD Cert.OutInLatIdeal.τ).loc Cert.OutInLatIdeal.main_v6_3) = v3 c
          ∧ r.2.mem ((c.tc : Thread Cert.OutInLatIdeal.nD Cert.OutInLatIdeal.τ).loc Cert.OutInLatIdeal.main_v6_4) = v4 c
          ∧ r.2.mem ((c.tc : Thread Cert.OutInLatIdeal.nD Cert.OutInLatIdeal.τ).loc Cert.OutInLatIdeal.main_v6_5) = v5 c
          ∧ r.2.mem ((c.tc : Thread Cert.OutInLatIdeal.nD Cert.OutInLatIdeal.τ).loc Cert.OutInLatIdeal.main_arg0) = m ((c.tc : Thread Cert.OutInLatIdeal.nD Cert.OutInLatIdeal.τ).loc Cert.OutInLatIdeal.main_arg0)
          ∧ r.2.mem ((c.tc : Thread Cert.OutInLatIdeal.nD Cert.OutInLatIdeal.τ).loc Cert.OutInLatIdeal.main_arg1) = m ((c.tc : Thread Cert.OutInLatIdeal.nD Cert.OutInLatIdeal.τ).loc Cert.OutInLatIdeal.main_arg1)
          ∧ r.2.mem ((c.tc : Thread Cert.OutInLatIdeal.nD Cert.OutInLatIdeal.τ).loc Cert.OutInLatIdeal.main_arg2) = m ((c.tc : Thread Cert.OutInLatIdeal.nD Cert.OutInLatIdeal.τ).loc Cert.OutInLatIdeal.main_arg2)
          ∧ r.2.mem ((c.tc : Thread Cert.OutInLatIdeal.nD Cert.OutInLatIdeal.τ).loc Cert.OutInLatIdeal.main_arg3) = m ((c.tc : Thread Cert.OutInLatIdeal.nD Cert.OutInLatIdeal.τ).loc Cert.OutInLatIdeal.main_arg3)
          ∧ r.2.mem ((c.tc : Thread Cert.OutInLatIdeal.nD Cert.OutInLatIdeal.τ).loc Cert.OutInLatIdeal.main_arg4) = m ((c.tc : Thread Cert.OutInLatIdeal.nD Cert.OutInLatIdeal.τ).loc Cert.OutInLatIdeal.main_arg4)
          ∧ r.2.mem ((c.tc : Thread Cert.OutInLatIdeal.nD Cert.OutInLatIdeal.τ).loc Cert.OutInLatIdeal.main_arg5) = m ((c.tc : Thread Cert.OutInLatIdeal.nD Cert.OutInLatIdeal.τ).loc Cert.OutInLatIdeal.main_arg5)
          ∧ r.2.mem ((c.tc : Thread Cert.OutInLatIdeal.nD Cert.OutInLatIdeal.τ).loc Cert.OutInLatIdeal.main_arg6) = m ((c.tc : Thread Cert.OutInLatIdeal.nD Cert.OutInLatIdeal.τ).loc Cert.OutInLatIdeal.main_arg6)
          ∧ r.2.mem ((c.tc : Thread Cert.OutInLatIdeal.nD Cert.OutInLatIdeal.τ).loc Cert.OutInLatIdeal.main_arg7) = m ((c.tc : Thread Cert.OutInLatIdeal.nD Cert.OutInLatIdeal.τ).loc Cert.OutInLatIdeal.main_arg7)
          ∧ r.2.mem ((c.tc : Thread Cert.OutInLatIdeal.nD Cert.OutInLatIdeal.τ).loc Cert.OutInLatIdeal.main_arg8) = m ((c.tc : Thread Cert.OutInLatIdeal.nD Cert.OutInLatIdeal.τ).loc Cert.OutInLatIdeal.main_arg8)
          ∧ r.2.mem ((c.tc : Thread Cert.OutInLatIdeal.nD Cert.OutInLatIdeal.τ).loc Cert.OutInLatIdeal.main_arg9) = m ((c.tc : Thread Cert.OutInLatIdeal.nD Cert.OutInLatIdeal.τ).loc Cert.OutInLatIdeal.main_arg9))
      ∧ θ_run (Cert.OutInLatRefIdeal.defs (F := Ideal)) (onTc (τ := Cert.OutInLatRefIdeal.τ) (Cert.OutInLatRefIdeal.main (F := Ideal))) ⟨m', fun _ => 0, g'⟩ (fun r => ∀ c : Dev Cert.OutInLatRefIdeal.nD,
          r.2.mem ((c.tc : Thread Cert.OutInLatRefIdeal.nD Cert.OutInLatRefIdeal.τ).loc Cert.OutInLatRefIdeal.main_v17) = v0 c
          ∧ r.2.mem ((c.tc : Thread Cert.OutInLatRefIdeal.nD Cert.OutInLatRefIdeal.τ).loc Cert.OutInLatRefIdeal.main_v44) = v1 c
          ∧ r.2.mem ((c.tc : Thread Cert.OutInLatRefIdeal.nD Cert.OutInLatRefIdeal.τ).loc Cert.OutInLatRefIdeal.main_v45) = v2 c
          ∧ r.2.mem ((c.tc : Thread Cert.OutInLatRefIdeal.nD Cert.OutInLatRefIdeal.τ).loc Cert.OutInLatRefIdeal.main_v46) = v3 c
          ∧ r.2.mem ((c.tc : Thread Cert.OutInLatRefIdeal.nD Cert.OutInLatRefIdeal.τ).loc Cert.OutInLatRefIdeal.main_v47) = v4 c
          ∧ r.2.mem ((c.tc : Thread Cert.OutInLatRefIdeal.nD Cert.OutInLatRefIdeal.τ).loc Cert.OutInLatRefIdeal.main_v48) = v5 c
          ∧ r.2.mem ((c.tc : Thread Cert.OutInLatRefIdeal.nD Cert.OutInLatRefIdeal.τ).loc Cert.OutInLatRefIdeal.main_arg0) = m' ((c.tc : Thread Cert.OutInLatRefIdeal.nD Cert.OutInLatRefIdeal.τ).loc Cert.OutInLatRefIdeal.main_arg0)
          ∧ r.2.mem ((c.tc : Thread Cert.OutInLatRefIdeal.nD Cert.OutInLatRefIdeal.τ).loc Cert.OutInLatRefIdeal.main_arg1) = m' ((c.tc : Thread Cert.OutInLatRefIdeal.nD Cert.OutInLatRefIdeal.τ).loc Cert.OutInLatRefIdeal.main_arg1)
          ∧ r.2.mem ((c.tc : Thread Cert.OutInLatRefIdeal.nD Cert.OutInLatRefIdeal.τ).loc Cert.OutInLatRefIdeal.main_arg2) = m' ((c.tc : Thread Cert.OutInLatRefIdeal.nD Cert.OutInLatRefIdeal.τ).loc Cert.OutInLatRefIdeal.main_arg2)
          ∧ r.2.mem ((c.tc : Thread Cert.OutInLatRefIdeal.nD Cert.OutInLatRefIdeal.τ).loc Cert.OutInLatRefIdeal.main_arg3) = m' ((c.tc : Thread Cert.OutInLatRefIdeal.nD Cert.OutInLatRefIdeal.τ).loc Cert.OutInLatRefIdeal.main_arg3)
          ∧ r.2.mem ((c.tc : Thread Cert.OutInLatRefIdeal.nD Cert.OutInLatRefIdeal.τ).loc Cert.OutInLatRefIdeal.main_arg4) = m' ((c.tc : Thread Cert.OutInLatRefIdeal.nD Cert.OutInLatRefIdeal.τ).loc Cert.OutInLatRefIdeal.main_arg4)
          ∧ r.2.mem ((c.tc : Thread Cert.OutInLatRefIdeal.nD Cert.OutInLatRefIdeal.τ).loc Cert.OutInLatRefIdeal.main_arg5) = m' ((c.tc : Thread Cert.OutInLatRefIdeal.nD Cert.OutInLatRefIdeal.τ).loc Cert.OutInLatRefIdeal.main_arg5)
          ∧ r.2.mem ((c.tc : Thread Cert.OutInLatRefIdeal.nD Cert.OutInLatRefIdeal.τ).loc Cert.OutInLatRefIdeal.main_arg6) = m' ((c.tc : Thread Cert.OutInLatRefIdeal.nD Cert.OutInLatRefIdeal.τ).loc Cert.OutInLatRefIdeal.main_arg6)
          ∧ r.2.mem ((c.tc : Thread Cert.OutInLatRefIdeal.nD Cert.OutInLatRefIdeal.τ).loc Cert.OutInLatRefIdeal.main_arg7) = m' ((c.tc : Thread Cert.OutInLatRefIdeal.nD Cert.OutInLatRefIdeal.τ).loc Cert.OutInLatRefIdeal.main_arg7)
          ∧ r.2.mem ((c.tc : Thread Cert.OutInLatRefIdeal.nD Cert.OutInLatRefIdeal.τ).loc Cert.OutInLatRefIdeal.main_arg8) = m' ((c.tc : Thread Cert.OutInLatRefIdeal.nD Cert.OutInLatRefIdeal.τ).loc Cert.OutInLatRefIdeal.main_arg8)
          ∧ r.2.mem ((c.tc : Thread Cert.OutInLatRefIdeal.nD Cert.OutInLatRefIdeal.τ).loc Cert.OutInLatRefIdeal.main_arg9) = m' ((c.tc : Thread Cert.OutInLatRefIdeal.nD Cert.OutInLatRefIdeal.τ).loc Cert.OutInLatRefIdeal.main_arg9))

def preserves_OutCtx_OutCtxIdeal : Prop :=
  True

def algebraic_OutCtxIdeal_OutCtxRefIdeal [hOutCtxIdeal : Cert.OutCtxIdeal.Facts] [hOutCtxRefIdeal : Cert.OutCtxRefIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg)
    (m' : (ℓ : Loc Cert.OutCtxRefIdeal.nD Cert.OutCtxRefIdeal.τ Cert.OutCtxRefIdeal.sig) → Buf (Elt Ideal) ℓ) (g' : Dev Cert.OutCtxRefIdeal.nD → PrngReg), Pre_OutCtxIdeal m →
    (∀ c : Dev Cert.OutCtxIdeal.nD,
      m' ((c.tc : Thread Cert.OutCtxRefIdeal.nD Cert.OutCtxRefIdeal.τ).loc Cert.OutCtxRefIdeal.main_arg0) = m ((c.tc : Thread Cert.OutCtxIdeal.nD Cert.OutCtxIdeal.τ).loc Cert.OutCtxIdeal.main_arg0)
      ∧ m' ((c.tc : Thread Cert.OutCtxRefIdeal.nD Cert.OutCtxRefIdeal.τ).loc Cert.OutCtxRefIdeal.main_arg1) = m ((c.tc : Thread Cert.OutCtxIdeal.nD Cert.OutCtxIdeal.τ).loc Cert.OutCtxIdeal.main_arg1)
      ∧ m' ((c.tc : Thread Cert.OutCtxRefIdeal.nD Cert.OutCtxRefIdeal.τ).loc Cert.OutCtxRefIdeal.main_arg2) = m ((c.tc : Thread Cert.OutCtxIdeal.nD Cert.OutCtxIdeal.τ).loc Cert.OutCtxIdeal.main_arg2)
      ∧ m' ((c.tc : Thread Cert.OutCtxRefIdeal.nD Cert.OutCtxRefIdeal.τ).loc Cert.OutCtxRefIdeal.main_arg3) = m ((c.tc : Thread Cert.OutCtxIdeal.nD Cert.OutCtxIdeal.τ).loc Cert.OutCtxIdeal.main_arg3)
      ∧ m' ((c.tc : Thread Cert.OutCtxRefIdeal.nD Cert.OutCtxRefIdeal.τ).loc Cert.OutCtxRefIdeal.main_arg4) = m ((c.tc : Thread Cert.OutCtxIdeal.nD Cert.OutCtxIdeal.τ).loc Cert.OutCtxIdeal.main_arg4)
      ∧ m' ((c.tc : Thread Cert.OutCtxRefIdeal.nD Cert.OutCtxRefIdeal.τ).loc Cert.OutCtxRefIdeal.main_arg5) = m ((c.tc : Thread Cert.OutCtxIdeal.nD Cert.OutCtxIdeal.τ).loc Cert.OutCtxIdeal.main_arg5)
      ∧ m' ((c.tc : Thread Cert.OutCtxRefIdeal.nD Cert.OutCtxRefIdeal.τ).loc Cert.OutCtxRefIdeal.main_arg6) = m ((c.tc : Thread Cert.OutCtxIdeal.nD Cert.OutCtxIdeal.τ).loc Cert.OutCtxIdeal.main_arg6)
      ∧ m' ((c.tc : Thread Cert.OutCtxRefIdeal.nD Cert.OutCtxRefIdeal.τ).loc Cert.OutCtxRefIdeal.main_arg7) = m ((c.tc : Thread Cert.OutCtxIdeal.nD Cert.OutCtxIdeal.τ).loc Cert.OutCtxIdeal.main_arg7)) →
    ∃ (v0 : (c : Dev Cert.OutCtxIdeal.nD) → Buf (Elt Ideal) ((c.tc : Thread Cert.OutCtxIdeal.nD Cert.OutCtxIdeal.τ).loc Cert.OutCtxIdeal.main_v4)),
      θ_run (Cert.OutCtxIdeal.defs (F := Ideal)) (onTc (τ := Cert.OutCtxIdeal.τ) (Cert.OutCtxIdeal.main (F := Ideal))) ⟨m, fun _ => 0, g⟩ (fun r => ∀ c : Dev Cert.OutCtxIdeal.nD,
          r.2.mem ((c.tc : Thread Cert.OutCtxIdeal.nD Cert.OutCtxIdeal.τ).loc Cert.OutCtxIdeal.main_v4) = v0 c
          ∧ r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
          ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
          ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
          ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
          ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4)
          ∧ r.2.mem ((c.tc : Thread Cert.OutCtxIdeal.nD Cert.OutCtxIdeal.τ).loc Cert.OutCtxIdeal.main_arg5) = m ((c.tc : Thread Cert.OutCtxIdeal.nD Cert.OutCtxIdeal.τ).loc Cert.OutCtxIdeal.main_arg5)
          ∧ r.2.mem ((c.tc : Thread Cert.OutCtxIdeal.nD Cert.OutCtxIdeal.τ).loc Cert.OutCtxIdeal.main_arg6) = m ((c.tc : Thread Cert.OutCtxIdeal.nD Cert.OutCtxIdeal.τ).loc Cert.OutCtxIdeal.main_arg6)
          ∧ r.2.mem ((c.tc : Thread Cert.OutCtxIdeal.nD Cert.OutCtxIdeal.τ).loc Cert.OutCtxIdeal.main_arg7) = m ((c.tc : Thread Cert.OutCtxIdeal.nD Cert.OutCtxIdeal.τ).loc Cert.OutCtxIdeal.main_arg7))
      ∧ θ_run (Cert.OutCtxRefIdeal.defs (F := Ideal)) (onTc (τ := Cert.OutCtxRefIdeal.τ) (Cert.OutCtxRefIdeal.main (F := Ideal))) ⟨m', fun _ => 0, g'⟩ (fun r => ∀ c : Dev Cert.OutCtxRefIdeal.nD,
          r.2.mem ((c.tc : Thread Cert.OutCtxRefIdeal.nD Cert.OutCtxRefIdeal.τ).loc Cert.OutCtxRefIdeal.main_v30) = v0 c
          ∧ r.2.mem ((c.tc : Thread Cert.OutCtxRefIdeal.nD Cert.OutCtxRefIdeal.τ).loc Cert.OutCtxRefIdeal.main_arg0) = m' ((c.tc : Thread Cert.OutCtxRefIdeal.nD Cert.OutCtxRefIdeal.τ).loc Cert.OutCtxRefIdeal.main_arg0)
          ∧ r.2.mem ((c.tc : Thread Cert.OutCtxRefIdeal.nD Cert.OutCtxRefIdeal.τ).loc Cert.OutCtxRefIdeal.main_arg1) = m' ((c.tc : Thread Cert.OutCtxRefIdeal.nD Cert.OutCtxRefIdeal.τ).loc Cert.OutCtxRefIdeal.main_arg1)
          ∧ r.2.mem ((c.tc : Thread Cert.OutCtxRefIdeal.nD Cert.OutCtxRefIdeal.τ).loc Cert.OutCtxRefIdeal.main_arg2) = m' ((c.tc : Thread Cert.OutCtxRefIdeal.nD Cert.OutCtxRefIdeal.τ).loc Cert.OutCtxRefIdeal.main_arg2)
          ∧ r.2.mem ((c.tc : Thread Cert.OutCtxRefIdeal.nD Cert.OutCtxRefIdeal.τ).loc Cert.OutCtxRefIdeal.main_arg3) = m' ((c.tc : Thread Cert.OutCtxRefIdeal.nD Cert.OutCtxRefIdeal.τ).loc Cert.OutCtxRefIdeal.main_arg3)
          ∧ r.2.mem ((c.tc : Thread Cert.OutCtxRefIdeal.nD Cert.OutCtxRefIdeal.τ).loc Cert.OutCtxRefIdeal.main_arg4) = m' ((c.tc : Thread Cert.OutCtxRefIdeal.nD Cert.OutCtxRefIdeal.τ).loc Cert.OutCtxRefIdeal.main_arg4)
          ∧ r.2.mem ((c.tc : Thread Cert.OutCtxRefIdeal.nD Cert.OutCtxRefIdeal.τ).loc Cert.OutCtxRefIdeal.main_arg5) = m' ((c.tc : Thread Cert.OutCtxRefIdeal.nD Cert.OutCtxRefIdeal.τ).loc Cert.OutCtxRefIdeal.main_arg5)
          ∧ r.2.mem ((c.tc : Thread Cert.OutCtxRefIdeal.nD Cert.OutCtxRefIdeal.τ).loc Cert.OutCtxRefIdeal.main_arg6) = m' ((c.tc : Thread Cert.OutCtxRefIdeal.nD Cert.OutCtxRefIdeal.τ).loc Cert.OutCtxRefIdeal.main_arg6)
          ∧ r.2.mem ((c.tc : Thread Cert.OutCtxRefIdeal.nD Cert.OutCtxRefIdeal.τ).loc Cert.OutCtxRefIdeal.main_arg7) = m' ((c.tc : Thread Cert.OutCtxRefIdeal.nD Cert.OutCtxRefIdeal.τ).loc Cert.OutCtxRefIdeal.main_arg7))

def preserves_OutLat_OutLatIdeal : Prop :=
  True

def algebraic_OutLatIdeal_OutLatRefIdeal [hOutLatIdeal : Cert.OutLatIdeal.Facts] [hOutLatRefIdeal : Cert.OutLatRefIdeal.Facts] : Prop :=
  ∀ (m : (ℓ : Loc Cert.OutLatIdeal.nD Cert.OutLatIdeal.τ Cert.OutLatIdeal.sig) → Buf (Elt Ideal) ℓ) (g : Dev Cert.OutLatIdeal.nD → PrngReg)
    (m' : (ℓ : Loc Cert.OutLatRefIdeal.nD Cert.OutLatRefIdeal.τ Cert.OutLatRefIdeal.sig) → Buf (Elt Ideal) ℓ) (g' : Dev Cert.OutLatRefIdeal.nD → PrngReg), Pre_OutLatIdeal m →
    (∀ c : Dev Cert.OutLatIdeal.nD,
      m' ((c.tc : Thread Cert.OutLatRefIdeal.nD Cert.OutLatRefIdeal.τ).loc Cert.OutLatRefIdeal.main_arg0) = m ((c.tc : Thread Cert.OutLatIdeal.nD Cert.OutLatIdeal.τ).loc Cert.OutLatIdeal.main_arg0)
      ∧ m' ((c.tc : Thread Cert.OutLatRefIdeal.nD Cert.OutLatRefIdeal.τ).loc Cert.OutLatRefIdeal.main_arg1) = m ((c.tc : Thread Cert.OutLatIdeal.nD Cert.OutLatIdeal.τ).loc Cert.OutLatIdeal.main_arg1)
      ∧ m' ((c.tc : Thread Cert.OutLatRefIdeal.nD Cert.OutLatRefIdeal.τ).loc Cert.OutLatRefIdeal.main_arg2) = m ((c.tc : Thread Cert.OutLatIdeal.nD Cert.OutLatIdeal.τ).loc Cert.OutLatIdeal.main_arg2)
      ∧ m' ((c.tc : Thread Cert.OutLatRefIdeal.nD Cert.OutLatRefIdeal.τ).loc Cert.OutLatRefIdeal.main_arg3) = m ((c.tc : Thread Cert.OutLatIdeal.nD Cert.OutLatIdeal.τ).loc Cert.OutLatIdeal.main_arg3)
      ∧ m' ((c.tc : Thread Cert.OutLatRefIdeal.nD Cert.OutLatRefIdeal.τ).loc Cert.OutLatRefIdeal.main_arg4) = m ((c.tc : Thread Cert.OutLatIdeal.nD Cert.OutLatIdeal.τ).loc Cert.OutLatIdeal.main_arg4)
      ∧ m' ((c.tc : Thread Cert.OutLatRefIdeal.nD Cert.OutLatRefIdeal.τ).loc Cert.OutLatRefIdeal.main_arg5) = m ((c.tc : Thread Cert.OutLatIdeal.nD Cert.OutLatIdeal.τ).loc Cert.OutLatIdeal.main_arg5)
      ∧ m' ((c.tc : Thread Cert.OutLatRefIdeal.nD Cert.OutLatRefIdeal.τ).loc Cert.OutLatRefIdeal.main_arg6) = m ((c.tc : Thread Cert.OutLatIdeal.nD Cert.OutLatIdeal.τ).loc Cert.OutLatIdeal.main_arg6)
      ∧ m' ((c.tc : Thread Cert.OutLatRefIdeal.nD Cert.OutLatRefIdeal.τ).loc Cert.OutLatRefIdeal.main_arg7) = m ((c.tc : Thread Cert.OutLatIdeal.nD Cert.OutLatIdeal.τ).loc Cert.OutLatIdeal.main_arg7)) →
    ∃ (v0 : (c : Dev Cert.OutLatIdeal.nD) → Buf (Elt Ideal) ((c.tc : Thread Cert.OutLatIdeal.nD Cert.OutLatIdeal.τ).loc Cert.OutLatIdeal.main_v4)),
      θ_run (Cert.OutLatIdeal.defs (F := Ideal)) (onTc (τ := Cert.OutLatIdeal.τ) (Cert.OutLatIdeal.main (F := Ideal))) ⟨m, fun _ => 0, g⟩ (fun r => ∀ c : Dev Cert.OutLatIdeal.nD,
          r.2.mem ((c.tc : Thread Cert.OutLatIdeal.nD Cert.OutLatIdeal.τ).loc Cert.OutLatIdeal.main_v4) = v0 c
          ∧ r.2.mem ((c.tc : Thread Cert.OutLatIdeal.nD Cert.OutLatIdeal.τ).loc Cert.OutLatIdeal.main_arg0) = m ((c.tc : Thread Cert.OutLatIdeal.nD Cert.OutLatIdeal.τ).loc Cert.OutLatIdeal.main_arg0)
          ∧ r.2.mem ((c.tc : Thread Cert.OutLatIdeal.nD Cert.OutLatIdeal.τ).loc Cert.OutLatIdeal.main_arg1) = m ((c.tc : Thread Cert.OutLatIdeal.nD Cert.OutLatIdeal.τ).loc Cert.OutLatIdeal.main_arg1)
          ∧ r.2.mem ((c.tc : Thread Cert.OutLatIdeal.nD Cert.OutLatIdeal.τ).loc Cert.OutLatIdeal.main_arg2) = m ((c.tc : Thread Cert.OutLatIdeal.nD Cert.OutLatIdeal.τ).loc Cert.OutLatIdeal.main_arg2)
          ∧ r.2.mem ((c.tc : Thread Cert.OutLatIdeal.nD Cert.OutLatIdeal.τ).loc Cert.OutLatIdeal.main_arg3) = m ((c.tc : Thread Cert.OutLatIdeal.nD Cert.OutLatIdeal.τ).loc Cert.OutLatIdeal.main_arg3)
          ∧ r.2.mem ((c.tc : Thread Cert.OutLatIdeal.nD Cert.OutLatIdeal.τ).loc Cert.OutLatIdeal.main_arg4) = m ((c.tc : Thread Cert.OutLatIdeal.nD Cert.OutLatIdeal.τ).loc Cert.OutLatIdeal.main_arg4)
          ∧ r.2.mem ((c.tc : Thread Cert.OutLatIdeal.nD Cert.OutLatIdeal.τ).loc Cert.OutLatIdeal.main_arg5) = m ((c.tc : Thread Cert.OutLatIdeal.nD Cert.OutLatIdeal.τ).loc Cert.OutLatIdeal.main_arg5)
          ∧ r.2.mem ((c.tc : Thread Cert.OutLatIdeal.nD Cert.OutLatIdeal.τ).loc Cert.OutLatIdeal.main_arg6) = m ((c.tc : Thread Cert.OutLatIdeal.nD Cert.OutLatIdeal.τ).loc Cert.OutLatIdeal.main_arg6)
          ∧ r.2.mem ((c.tc : Thread Cert.OutLatIdeal.nD Cert.OutLatIdeal.τ).loc Cert.OutLatIdeal.main_arg7) = m ((c.tc : Thread Cert.OutLatIdeal.nD Cert.OutLatIdeal.τ).loc Cert.OutLatIdeal.main_arg7))
      ∧ θ_run (Cert.OutLatRefIdeal.defs (F := Ideal)) (onTc (τ := Cert.OutLatRefIdeal.τ) (Cert.OutLatRefIdeal.main (F := Ideal))) ⟨m', fun _ => 0, g'⟩ (fun r => ∀ c : Dev Cert.OutLatRefIdeal.nD,
          r.2.mem ((c.tc : Thread Cert.OutLatRefIdeal.nD Cert.OutLatRefIdeal.τ).loc Cert.OutLatRefIdeal.main_v30) = v0 c
          ∧ r.2.mem ((c.tc : Thread Cert.OutLatRefIdeal.nD Cert.OutLatRefIdeal.τ).loc Cert.OutLatRefIdeal.main_arg0) = m' ((c.tc : Thread Cert.OutLatRefIdeal.nD Cert.OutLatRefIdeal.τ).loc Cert.OutLatRefIdeal.main_arg0)
          ∧ r.2.mem ((c.tc : Thread Cert.OutLatRefIdeal.nD Cert.OutLatRefIdeal.τ).loc Cert.OutLatRefIdeal.main_arg1) = m' ((c.tc : Thread Cert.OutLatRefIdeal.nD Cert.OutLatRefIdeal.τ).loc Cert.OutLatRefIdeal.main_arg1)
          ∧ r.2.mem ((c.tc : Thread Cert.OutLatRefIdeal.nD Cert.OutLatRefIdeal.τ).loc Cert.OutLatRefIdeal.main_arg2) = m' ((c.tc : Thread Cert.OutLatRefIdeal.nD Cert.OutLatRefIdeal.τ).loc Cert.OutLatRefIdeal.main_arg2)
          ∧ r.2.mem ((c.tc : Thread Cert.OutLatRefIdeal.nD Cert.OutLatRefIdeal.τ).loc Cert.OutLatRefIdeal.main_arg3) = m' ((c.tc : Thread Cert.OutLatRefIdeal.nD Cert.OutLatRefIdeal.τ).loc Cert.OutLatRefIdeal.main_arg3)
          ∧ r.2.mem ((c.tc : Thread Cert.OutLatRefIdeal.nD Cert.OutLatRefIdeal.τ).loc Cert.OutLatRefIdeal.main_arg4) = m' ((c.tc : Thread Cert.OutLatRefIdeal.nD Cert.OutLatRefIdeal.τ).loc Cert.OutLatRefIdeal.main_arg4)
          ∧ r.2.mem ((c.tc : Thread Cert.OutLatRefIdeal.nD Cert.OutLatRefIdeal.τ).loc Cert.OutLatRefIdeal.main_arg5) = m' ((c.tc : Thread Cert.OutLatRefIdeal.nD Cert.OutLatRefIdeal.τ).loc Cert.OutLatRefIdeal.main_arg5)
          ∧ r.2.mem ((c.tc : Thread Cert.OutLatRefIdeal.nD Cert.OutLatRefIdeal.τ).loc Cert.OutLatRefIdeal.main_arg6) = m' ((c.tc : Thread Cert.OutLatRefIdeal.nD Cert.OutLatRefIdeal.τ).loc Cert.OutLatRefIdeal.main_arg6)
          ∧ r.2.mem ((c.tc : Thread Cert.OutLatRefIdeal.nD Cert.OutLatRefIdeal.τ).loc Cert.OutLatRefIdeal.main_arg7) = m' ((c.tc : Thread Cert.OutLatRefIdeal.nD Cert.OutLatRefIdeal.τ).loc Cert.OutLatRefIdeal.main_arg7))

def preserves_Mod_ModIdeal : Prop :=
  True

def algebraic_ModIdeal_ModRefIdeal_pre_finite_mod [hModIdeal : Cert.ModIdeal.Facts] [hModRefIdeal : Cert.ModRefIdeal.Facts] [hPre_finite_mod : Cert.Pre_finite_mod.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_mod m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v23) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_v2_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v32) = v0 c
          ∧ r.2.mem ((c.tc : Thread Cert.PrepRefIdeal.nD Cert.PrepRefIdeal.τ).loc Cert.PrepRefIdeal.main_v35) = v1 c
          ∧ r.2.mem ((c.tc : Thread Cert.PrepRefIdeal.nD Cert.PrepRefIdeal.τ).loc Cert.PrepRefIdeal.main_v38) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hCtxFirst : Cert.CtxFirst.Facts) (hCtxFirstIdeal : Cert.CtxFirstIdeal.Facts) (hCtxFirstRefIdeal : Cert.CtxFirstRefIdeal.Facts) (hCtxNext : Cert.CtxNext.Facts) (hCtxNextIdeal : Cert.CtxNextIdeal.Facts) (hCtxNextRefIdeal : Cert.CtxNextRefIdeal.Facts) (hInProj : Cert.InProj.Facts) (hInProjIdeal : Cert.InProjIdeal.Facts) (hInProjRefIdeal : Cert.InProjRefIdeal.Facts) (hInCtx : Cert.InCtx.Facts) (hInCtxIdeal : Cert.InCtxIdeal.Facts) (hInCtxRefIdeal : Cert.InCtxRefIdeal.Facts) (hOutIn : Cert.OutIn.Facts) (hOutInIdeal : Cert.OutInIdeal.Facts) (hOutInRefIdeal : Cert.OutInRefIdeal.Facts) (hOutInLat : Cert.OutInLat.Facts) (hOutInLatIdeal : Cert.OutInLatIdeal.Facts) (hOutInLatRefIdeal : Cert.OutInLatRefIdeal.Facts) (hOutCtx : Cert.OutCtx.Facts) (hOutCtxIdeal : Cert.OutCtxIdeal.Facts) (hOutCtxRefIdeal : Cert.OutCtxRefIdeal.Facts) (hOutLat : Cert.OutLat.Facts) (hOutLatIdeal : Cert.OutLatIdeal.Facts) (hOutLatRefIdeal : Cert.OutLatRefIdeal.Facts) (hMod : Cert.Mod.Facts) (hModIdeal : Cert.ModIdeal.Facts) (hModRefIdeal : Cert.ModRefIdeal.Facts) (hPrep : Cert.Prep.Facts) (hPrepIdeal : Cert.PrepIdeal.Facts) (hPrepRefIdeal : Cert.PrepRefIdeal.Facts) (hPre_finite_first : Cert.Pre_finite_first.Facts) (hPre_finite_next : Cert.Pre_finite_next.Facts) (hPre_finite_mod : Cert.Pre_finite_mod.Facts),
    quiescent_CtxFirst (hCtxFirst := hCtxFirst)
    ∧ quiescent_CtxFirstIdeal (hCtxFirstIdeal := hCtxFirstIdeal)
    ∧ quiescent_CtxFirstIdeal_pre_finite_first (hCtxFirstIdeal := hCtxFirstIdeal) (hPre_finite_first := hPre_finite_first)
    ∧ quiescent_CtxFirstRefIdeal (hCtxFirstRefIdeal := hCtxFirstRefIdeal)
    ∧ quiescent_CtxFirstRefIdeal_pre_finite_first (hCtxFirstRefIdeal := hCtxFirstRefIdeal) (hPre_finite_first := hPre_finite_first)
    ∧ quiescent_CtxNext (hCtxNext := hCtxNext)
    ∧ quiescent_CtxNextIdeal (hCtxNextIdeal := hCtxNextIdeal)
    ∧ quiescent_CtxNextIdeal_pre_finite_next (hCtxNextIdeal := hCtxNextIdeal) (hPre_finite_next := hPre_finite_next)
    ∧ quiescent_CtxNextRefIdeal (hCtxNextRefIdeal := hCtxNextRefIdeal)
    ∧ quiescent_CtxNextRefIdeal_pre_finite_next (hCtxNextRefIdeal := hCtxNextRefIdeal) (hPre_finite_next := hPre_finite_next)
    ∧ quiescent_InProj (hInProj := hInProj)
    ∧ quiescent_InProjIdeal (hInProjIdeal := hInProjIdeal)
    ∧ quiescent_InProjRefIdeal (hInProjRefIdeal := hInProjRefIdeal)
    ∧ quiescent_InCtx (hInCtx := hInCtx)
    ∧ quiescent_InCtxIdeal (hInCtxIdeal := hInCtxIdeal)
    ∧ quiescent_InCtxRefIdeal (hInCtxRefIdeal := hInCtxRefIdeal)
    ∧ quiescent_OutIn (hOutIn := hOutIn)
    ∧ quiescent_OutInIdeal (hOutInIdeal := hOutInIdeal)
    ∧ quiescent_OutInRefIdeal (hOutInRefIdeal := hOutInRefIdeal)
    ∧ quiescent_OutInLat (hOutInLat := hOutInLat)
    ∧ quiescent_OutInLatIdeal (hOutInLatIdeal := hOutInLatIdeal)
    ∧ quiescent_OutInLatRefIdeal (hOutInLatRefIdeal := hOutInLatRefIdeal)
    ∧ quiescent_OutCtx (hOutCtx := hOutCtx)
    ∧ quiescent_OutCtxIdeal (hOutCtxIdeal := hOutCtxIdeal)
    ∧ quiescent_OutCtxRefIdeal (hOutCtxRefIdeal := hOutCtxRefIdeal)
    ∧ quiescent_OutLat (hOutLat := hOutLat)
    ∧ quiescent_OutLatIdeal (hOutLatIdeal := hOutLatIdeal)
    ∧ quiescent_OutLatRefIdeal (hOutLatRefIdeal := hOutLatRefIdeal)
    ∧ quiescent_Mod (hMod := hMod)
    ∧ quiescent_ModIdeal (hModIdeal := hModIdeal)
    ∧ quiescent_ModIdeal_pre_finite_mod (hModIdeal := hModIdeal) (hPre_finite_mod := hPre_finite_mod)
    ∧ quiescent_ModRefIdeal (hModRefIdeal := hModRefIdeal)
    ∧ quiescent_ModRefIdeal_pre_finite_mod (hModRefIdeal := hModRefIdeal) (hPre_finite_mod := hPre_finite_mod)
    ∧ quiescent_Prep (hPrep := hPrep)
    ∧ quiescent_PrepIdeal (hPrepIdeal := hPrepIdeal)
    ∧ quiescent_PrepRefIdeal (hPrepRefIdeal := hPrepRefIdeal)
    ∧ preserves_CtxFirst_CtxFirstIdeal
    ∧ algebraic_CtxFirstIdeal_CtxFirstRefIdeal_pre_finite_first (hCtxFirstIdeal := hCtxFirstIdeal) (hCtxFirstRefIdeal := hCtxFirstRefIdeal) (hPre_finite_first := hPre_finite_first)
    ∧ preserves_CtxNext_CtxNextIdeal
    ∧ algebraic_CtxNextIdeal_CtxNextRefIdeal_pre_finite_next (hCtxNextIdeal := hCtxNextIdeal) (hCtxNextRefIdeal := hCtxNextRefIdeal) (hPre_finite_next := hPre_finite_next)
    ∧ preserves_InProj_InProjIdeal
    ∧ algebraic_InProjIdeal_InProjRefIdeal (hInProjIdeal := hInProjIdeal) (hInProjRefIdeal := hInProjRefIdeal)
    ∧ preserves_InCtx_InCtxIdeal
    ∧ algebraic_InCtxIdeal_InCtxRefIdeal (hInCtxIdeal := hInCtxIdeal) (hInCtxRefIdeal := hInCtxRefIdeal)
    ∧ preserves_OutIn_OutInIdeal
    ∧ algebraic_OutInIdeal_OutInRefIdeal (hOutInIdeal := hOutInIdeal) (hOutInRefIdeal := hOutInRefIdeal)
    ∧ preserves_OutInLat_OutInLatIdeal
    ∧ algebraic_OutInLatIdeal_OutInLatRefIdeal (hOutInLatIdeal := hOutInLatIdeal) (hOutInLatRefIdeal := hOutInLatRefIdeal)
    ∧ preserves_OutCtx_OutCtxIdeal
    ∧ algebraic_OutCtxIdeal_OutCtxRefIdeal (hOutCtxIdeal := hOutCtxIdeal) (hOutCtxRefIdeal := hOutCtxRefIdeal)
    ∧ preserves_OutLat_OutLatIdeal
    ∧ algebraic_OutLatIdeal_OutLatRefIdeal (hOutLatIdeal := hOutLatIdeal) (hOutLatRefIdeal := hOutLatRefIdeal)
    ∧ preserves_Mod_ModIdeal
    ∧ algebraic_ModIdeal_ModRefIdeal_pre_finite_mod (hModIdeal := hModIdeal) (hModRefIdeal := hModRefIdeal) (hPre_finite_mod := hPre_finite_mod)
    ∧ preserves_Prep_PrepIdeal
    ∧ algebraic_PrepIdeal_PrepRefIdeal (hPrepIdeal := hPrepIdeal) (hPrepRefIdeal := hPrepRefIdeal)
-- ==== Pre_finite_first.lean ====
abbrev S8192x1536 : Shape := ⟨2, ![8192, 1536]⟩
abbrev S8192x1024 : Shape := ⟨2, ![8192, 1024]⟩
abbrev S_ : Shape := ⟨0, ![]⟩

class Facts : Prop where
  slices_S8192x1536_S8192x1024_0_0 : S8192x1536.Slices ![0, 0] S8192x1024
  bcast_S_S8192x1024 : S_.BroadcastsInDim S8192x1024 (![] : Fin 0 → Fin S8192x1024.rank)

variable [Facts]

def fn {F : FTy → Type} [FloatOps F] (main_arg0 : FVec F S8192x1536 .f32) : IVec S8192x1024 1 :=
  let main_v0 : FVec F S8192x1024 .f32 := (extractStridedSlice S8192x1024 ![0, 0] · slices_S8192x1536_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== Pre_finite_mod.lean ====
abbrev S1024 : Shape := ⟨1, ![1024]⟩
abbrev S2x1024 : Shape := ⟨2, ![2, 1024]⟩
abbrev S2x1024x3072 : Shape := ⟨3, ![2, 1024, 3072]⟩
abbrev S2x3072 : Shape := ⟨2, ![2, 3072]⟩
abbrev S_ : Shape := ⟨0, ![]⟩
abbrev S2x1024x1 : Shape := ⟨3, ![2, 1024, 1]⟩
abbrev S1x1024x1 : Shape := ⟨3, ![1, 1024, 1]⟩

class Facts : Prop where
  bcast_S_S2x1024x3072 : S_.BroadcastsInDim S2x1024x3072 (![] : Fin 0 → Fin S2x1024x3072.rank)
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  bcast_S2x1024x1_S2x1024x3072_0_1_2 : S2x1024x1.BroadcastsInDim S2x1024x3072 (![0, 1, 2] : Fin 3 → Fin S2x1024x3072.rank)
  bcast_S_S1024 : S_.BroadcastsInDim S1024 (![] : Fin 0 → Fin S1024.rank)
  bcast_S1024_S1x1024x1_1 : S1024.BroadcastsInDim S1x1024x1 (![1] : Fin 1 → Fin S1x1024x1.rank)
  bcast_S1x1024x1_S2x1024x3072_0_1_2 : S1x1024x1.BroadcastsInDim S2x1024x3072 (![0, 1, 2] : Fin 3 → Fin S2x1024x3072.rank)

variable [Facts]

def fn {F : FTy → Type} [FloatOps F] (main_arg0 : FVec F S1024 .f32) (main_arg1 : FVec F S2x1024 .f32) (main_arg2 : FVec F S2x1024x3072 .f32) (main_arg3 : FVec F S2x3072 .f32) : IVec S2x1024x3072 1 :=
  let main_v0 : FVec F S2x1024x3072 .f32 := Host.absf main_arg2
  let main_cst : FVec F S_ .f32 := constant S_ .f32 0x7F800000#32
  let main_v1 : FVec F S2x1024x3072 .f32 := broadcastInDim S2x1024x3072 ![] bcast_S_S2x1024x3072 main_cst
  let main_v2 : IVec S2x1024x3072 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : IVec S2x1024x1 1 := broadcastInDim S2x1024x1 ![0, 1] bcast_S2x1024_S2x1024x1_0_1 main_v5
  let main_v7 : IVec S2x1024x3072 1 := broadcastInDim S2x1024x3072 ![0, 1, 2] bcast_S2x1024x1_S2x1024x3072_0_1_2 main_v6
  let main_v8 : IVec S2x1024x3072 1 := andi main_v2 main_v7
  let main_v9 : FVec F S1024 .f32 := Host.absf main_arg0
  let main_cst_1 : FVec F S_ .f32 := constant S_ .f32 0x7F800000#32
  let main_v10 : FVec F S1024 .f32 := broadcastInDim S1024 ![] bcast_S_S1024 main_cst_1
  let main_v11 : IVec S1024 1 := cmpf .olt main_v9 main_v10
  let main_v12 : IVec S1x1024x1 1 := broadcastInDim S1x1024x1 ![1] bcast_S1024_S1x1024x1_1 main_v11
  let main_v13 : IVec S2x1024x3072 1 := broadcastInDim S2x1024x3072 ![0, 1, 2] bcast_S1x1024x1_S2x1024x3072_0_1_2 main_v12
  let main_v14 : IVec S2x1024x3072 1 := andi main_v8 main_v13
  main_v14
-- ==== Pre_finite_next.lean ====
abbrev S8192x1536 : Shape := ⟨2, ![8192, 1536]⟩
abbrev S32x2x8x64x256 : Shape := ⟨5, ![32, 2, 8, 64, 256]⟩
abbrev S8192x1024 : Shape := ⟨2, ![8192, 1024]⟩
abbrev S_ : Shape := ⟨0, ![]⟩

class Facts : Prop where
  slices_S8192x1536_S8192x1024_0_0 : S8192x1536.Slices ![0, 0] S8192x1024
  bcast_S_S8192x1024 : S_.BroadcastsInDim S8192x1024 (![] : Fin 0 → Fin S8192x1024.rank)

variable [Facts]

def fn {F : FTy → Type} [FloatOps F] (main_arg0 : FVec F S8192x1536 .f32) (main_arg1 : FVec F S32x2x8x64x256 .f32) (main_arg2 : FVec F S32x2x8x64x256 .f32) : IVec S8192x1024 1 :=
  let main_v0 : FVec F S8192x1024 .f32 := (extractStridedSlice S8192x1024 ![0, 0] · slices_S8192x1536_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== CtxFirst.lean ====
abbrev S8192x1536 : Shape := ⟨2, ![8192, 1536]⟩
abbrev S8192x512 : Shape := ⟨2, ![8192, 512]⟩
abbrev S32x2x8x64x256 : Shape := ⟨5, ![32, 2, 8, 64, 256]⟩
abbrev S256x512 : Shape := ⟨2, ![256, 512]⟩
abbrev S1x2x8x64x256 : Shape := ⟨5, ![1, 2, 8, 64, 256]⟩
abbrev S1x8x64x256 : Shape := ⟨4, ![1, 8, 64, 256]⟩
abbrev S1x1x8x64x256 : Shape := ⟨5, ![1, 1, 8, 64, 256]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S64x256 : Shape := ⟨2, ![64, 256]⟩
abbrev S8x64x256 : Shape := ⟨3, ![8, 64, 256]⟩
abbrev S1x64x256 : Shape := ⟨3, ![1, 64, 256]⟩

abbrev nBuf : Space → Nat
  | .hbm => 4
  | .vmem => 12
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S32x2x8x64x256, .f32⟩
  | .hbm, ⟨3, _⟩ => ⟨S32x2x8x64x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x2x8x64x256, .f32⟩
  | .local _ .vmem, ⟨9, _⟩ => ⟨S1x2x8x64x256, .f32⟩
  | .local _ .vmem, ⟨10, _⟩ => ⟨S1x2x8x64x256, .f32⟩
  | .local _ .vmem, ⟨11, _⟩ => ⟨S1x2x8x64x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x8x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxFirstRefIdeal.lean ====
abbrev S8192x1536 : Shape := ⟨2, ![8192, 1536]⟩
abbrev S32x256x1536 : Shape := ⟨3, ![32, 256, 1536]⟩
abbrev S32x256x512 : Shape := ⟨3, ![32, 256, 512]⟩
abbrev S32x256x8x64 : Shape := ⟨4, ![32, 256, 8, 64]⟩
abbrev S32x8x256x64 : Shape := ⟨4, ![32, 8, 256, 64]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S8192x512 : Shape := ⟨2, ![8192, 512]⟩
abbrev S32x8x64x256 : Shape := ⟨4, ![32, 8, 64, 256]⟩
abbrev S32x1x8x64x256 : Shape := ⟨5, ![32, 1, 8, 64, 256]⟩
abbrev S32x2x8x64x256 : Shape := ⟨5, ![32, 2, 8, 64, 256]⟩

abbrev nBuf : Space → Nat
  | .hbm => 45
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S32x256x1536, .f32⟩
  | .hbm, ⟨2, _⟩ => ⟨S32x256x512, .f32⟩
  | .hbm, ⟨3, _⟩ => ⟨S32x256x512, .f32⟩
  | .hbm, ⟨4, _⟩ => ⟨S32x256x512, .f32⟩
  | .hbm, ⟨5, _⟩ => ⟨S32x256x8x64, .f32⟩
  | .hbm, ⟨6, _⟩ => ⟨S32x8x256x64, .f32⟩
  | .hbm, ⟨7, _⟩ => ⟨S32x256x8x64, .f32⟩
  | .hbm, ⟨8, _⟩ => ⟨S32x8x256x64, .f32⟩
  | .hbm, ⟨9, _⟩ => ⟨S32x256x8x64, .f32⟩
  | .hbm, ⟨10, _⟩ => ⟨S32x8x256x64, .f32⟩
  | .hbm, ⟨11, _⟩ => ⟨S32x8x256x256, .f32⟩
  | .hbm, ⟨12, _⟩ => ⟨S_, .f32⟩
  | .hbm, ⟨13, _⟩ => ⟨S32x8x256x256, .f32⟩
  | .hbm, ⟨14, _⟩ => ⟨S32x8x256x256, .f32⟩
  | .hbm, ⟨15, _⟩ => ⟨S_, .f32⟩
  | .hbm, ⟨16, _⟩ => ⟨S32x8x256, .f32⟩
  | .hbm, ⟨17, _⟩ => ⟨S_, .f32⟩
  | .hbm, ⟨18, _⟩ => ⟨S32x8x256, .f32⟩
  | .hbm, ⟨19, _⟩ => ⟨S32x8x256, .f32⟩
  | .hbm, ⟨20, _⟩ => ⟨S32x8x256x1, .f32⟩
  | .hbm, ⟨21, _⟩ => ⟨S32x8x256x256, .f32⟩
  | .hbm, ⟨22, _⟩ => ⟨S32x8x256x256, .f32⟩
  | .hbm, ⟨23, _⟩ => ⟨S32x8x256x256, .f32⟩
  | .hbm, ⟨24, _⟩ => ⟨S_, .f32⟩
  | .hbm, ⟨25, _⟩ => ⟨S32x8x256, .f32⟩
  | .hbm, ⟨26, _⟩ => ⟨S32x8x256x1, .f32⟩
  | .hbm, ⟨27, _⟩ => ⟨S32x8x256x256, .f32⟩
  | .hbm, ⟨28, _⟩ => ⟨S32x8x256x256, .f32⟩
  | .hbm, ⟨29, _⟩ => ⟨S32x8x256x64, .f32⟩
  | .hbm, ⟨30, _⟩ => ⟨S32x256x8x64, .f32⟩
  | .hbm, ⟨31, _⟩ => ⟨S32x256x512, .f32⟩
  | .hbm, ⟨32, _⟩ => ⟨S8192x512, .f32⟩
  | .hbm, ⟨33, _⟩ => ⟨S32x8x64x256, .f32⟩
  | .hbm, ⟨34, _⟩ => ⟨S32x8x64x256, .f32⟩
  | .hbm, ⟨35, _⟩ => ⟨S_, .f32⟩
  | .hbm, ⟨36, _⟩ => ⟨S32x8x64x256, .f32⟩
  | .hbm, ⟨37, _⟩ => ⟨S32x1x8x64x256, .f32⟩
  | .hbm, ⟨38, _⟩ => ⟨S32x1x8x64x256, .f32⟩
  | .hbm, ⟨39, _⟩ => ⟨S32x2x8x64x256, .f32⟩
  | .hbm, ⟨40, _⟩ => ⟨S_, .f32⟩
  | .hbm, ⟨41, _⟩ => ⟨S32x8x64x256, .f32⟩
  | .hbm, ⟨42, _⟩ => ⟨S32x1x8x64x256, .f32⟩
  | .hbm, ⟨43, _⟩ => ⟨S32x1x8x64x256, .f32⟩
  | .hbm, ⟨44, _⟩ => ⟨S32x2x8x64x256, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_4 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== CtxNext.lean ====
abbrev S8192x1536 : Shape := ⟨2, ![8192, 1536]⟩
abbrev S32x2x8x64x256 : Shape := ⟨5, ![32, 2, 8, 64, 256]⟩
abbrev S8192x512 : Shape := ⟨2, ![8192, 512]⟩
abbrev S256x512 : Shape := ⟨2, ![256, 512]⟩
abbrev S1x1x8x64x256 : Shape := ⟨5, ![1, 1, 8, 64, 256]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S64x256 : Shape := ⟨2, ![64, 256]⟩
abbrev S1x1x1x64x256 : Shape := ⟨5, ![1, 1, 1, 64, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1536, .f32⟩
  | .hbm, ⟨1, _⟩ => ⟨S32x2x8x64x256, .f32⟩
  | .hbm, ⟨2, _⟩ => ⟨S32x2x8x64x256, .f32⟩
  | .hbm, ⟨3, _⟩ => ⟨S8192x512, .f32⟩
  | .hbm, ⟨4, _⟩ => ⟨S32x2x8x64x256, .f32⟩
  | .hbm, ⟨5, _⟩ => ⟨S32x2x8x64x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x1x8x64x256, .f32⟩
  | .local _ .vmem, ⟨9, _⟩ => ⟨S1x1x8x64x256, .f32⟩
  | .local _ .vmem, ⟨10, _⟩ => ⟨S1x1x8x64x256, .f32⟩
  | .local _ .vmem, ⟨11, _⟩ => ⟨S1x1x8x64x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_7 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxNextRefIdeal.lean ====
abbrev S8192x1536 : Shape := ⟨2, ![8192, 1536]⟩
abbrev S32x2x8x64x256 : Shape := ⟨5, ![32, 2, 8, 64, 256]⟩
abbrev S32x256x1536 : Shape := ⟨3, ![32, 256, 1536]⟩
abbrev S32x256x512 : Shape := ⟨3, ![32, 256, 512]⟩
abbrev S32x256x8x64 : Shape := ⟨4, ![32, 256, 8, 64]⟩
abbrev S32x8x256x64 : Shape := ⟨4, ![32, 8, 256, 64]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S8192x512 : Shape := ⟨2, ![8192, 512]⟩
abbrev S32x8x64x256 : Shape := ⟨4, ![32, 8, 64, 256]⟩
abbrev S32x1x8x64x256 : Shape := ⟨5, ![32, 1, 8, 64, 256]⟩

abbrev nBuf : Space → Nat
  | .hbm => 47
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S32x2x8x64x256, .f32⟩
  | .hbm, ⟨2, _⟩ => ⟨S32x2x8x64x256, .f32⟩
  | .hbm, ⟨3, _⟩ => ⟨S32x256x1536, .f32⟩
  | .hbm, ⟨4, _⟩ => ⟨S32x256x512, .f32⟩
  | .hbm, ⟨5, _⟩ => ⟨S32x256x512, .f32⟩
  | .hbm, ⟨6, _⟩ => ⟨S32x256x512, .f32⟩
  | .hbm, ⟨7, _⟩ => ⟨S32x256x8x64, .f32⟩
  | .hbm, ⟨8, _⟩ => ⟨S32x8x256x64, .f32⟩
  | .hbm, ⟨9, _⟩ => ⟨S32x256x8x64, .f32⟩
  | .hbm, ⟨10, _⟩ => ⟨S32x8x256x64, .f32⟩
  | .hbm, ⟨11, _⟩ => ⟨S32x256x8x64, .f32⟩
  | .hbm, ⟨12, _⟩ => ⟨S32x8x256x64, .f32⟩
  | .hbm, ⟨13, _⟩ => ⟨S32x8x256x256, .f32⟩
  | .hbm, ⟨14, _⟩ => ⟨S_, .f32⟩
  | .hbm, ⟨15, _⟩ => ⟨S32x8x256x256, .f32⟩
  | .hbm, ⟨16, _⟩ => ⟨S32x8x256x256, .f32⟩
  | .hbm, ⟨17, _⟩ => ⟨S_, .f32⟩
  | .hbm, ⟨18, _⟩ => ⟨S32x8x256, .f32⟩
  | .hbm, ⟨19, _⟩ => ⟨S_, .f32⟩
  | .hbm, ⟨20, _⟩ => ⟨S32x8x256, .f32⟩
  | .hbm, ⟨21, _⟩ => ⟨S32x8x256, .f32⟩
  | .hbm, ⟨22, _⟩ => ⟨S32x8x256x1, .f32⟩
  | .hbm, ⟨23, _⟩ => ⟨S32x8x256x256, .f32⟩
  | .hbm, ⟨24, _⟩ => ⟨S32x8x256x256, .f32⟩
  | .hbm, ⟨25, _⟩ => ⟨S32x8x256x256, .f32⟩
  | .hbm, ⟨26, _⟩ => ⟨S_, .f32⟩
  | .hbm, ⟨27, _⟩ => ⟨S32x8x256, .f32⟩
  | .hbm, ⟨28, _⟩ => ⟨S32x8x256x1, .f32⟩
  | .hbm, ⟨29, _⟩ => ⟨S32x8x256x256, .f32⟩
  | .hbm, ⟨30, _⟩ => ⟨S32x8x256x256, .f32⟩
  | .hbm, ⟨31, _⟩ => ⟨S32x8x256x64, .f32⟩
  | .hbm, ⟨32, _⟩ => ⟨S32x256x8x64, .f32⟩
  | .hbm, ⟨33, _⟩ => ⟨S32x256x512, .f32⟩
  | .hbm, ⟨34, _⟩ => ⟨S8192x512, .f32⟩
  | .hbm, ⟨35, _⟩ => ⟨S32x8x64x256, .f32⟩
  | .hbm, ⟨36, _⟩ => ⟨S32x8x64x256, .f32⟩
  | .hbm, ⟨37, _⟩ => ⟨S32x1x8x64x256, .f32⟩
  | .hbm, ⟨38, _⟩ => ⟨S32x8x64x256, .f32⟩
  | .hbm, ⟨39, _⟩ => ⟨S32x1x8x64x256, .f32⟩
  | .hbm, ⟨40, _⟩ => ⟨S32x1x8x64x256, .f32⟩
  | .hbm, ⟨41, _⟩ => ⟨S32x2x8x64x256, .f32⟩
  | .hbm, ⟨42, _⟩ => ⟨S32x1x8x64x256, .f32⟩
  | .hbm, ⟨43, _⟩ => ⟨S32x8x64x256, .f32⟩
  | .hbm, ⟨44, _⟩ => ⟨S32x1x8x64x256, .f32⟩
  | .hbm, ⟨45, _⟩ => ⟨S32x1x8x64x256, .f32⟩
  | .hbm, ⟨46, _⟩ => ⟨S32x2x8x64x256, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== InProj.lean ====
abbrev S2x4096x1024 : Shape := ⟨3, ![2, 4096, 1024]⟩
abbrev S3x3072 : Shape := ⟨2, ![3, 3072]⟩
abbrev S1024 : Shape := ⟨1, ![1024]⟩
abbrev S1024x3584 : Shape := ⟨2, ![1024, 3584]⟩
abbrev S8192x1024 : Shape := ⟨2, ![8192, 1024]⟩
abbrev S3x1x3072 : Shape := ⟨3, ![3, 1, 3072]⟩
abbrev S1x1024 : Shape := ⟨2, ![1, 1024]⟩
abbrev S8192x768 : Shape := ⟨2, ![8192, 768]⟩
abbrev S8192x1536 : Shape := ⟨2, ![8192, 1536]⟩
abbrev S8192x128 : Shape := ⟨2, ![8192, 128]⟩
abbrev S512x1024 : Shape := ⟨2, ![512, 1024]⟩
abbrev S1x1x1024 : Shape := ⟨3, ![1, 1, 1024]⟩
abbrev S512x768 : Shape := ⟨2, ![512, 768]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 13
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S3x3072, .f32⟩
  | .hbm, ⟨2, _⟩ => ⟨S1024, .f32⟩
  | .hbm, ⟨3, _⟩ => ⟨S1024x3584, .f32⟩
  | .hbm, ⟨4, _⟩ => ⟨S8192x1024, .f32⟩
  | .hbm, ⟨5, _⟩ => ⟨S3x1x3072, .f32⟩
  | .hbm, ⟨6, _⟩ => ⟨S1024x3584, .bf16⟩
  | .hbm, ⟨7, _⟩ => ⟨S1x1024, .f32⟩
  | .hbm, ⟨8, _⟩ => ⟨S8192x768, .f32⟩
  | .hbm, ⟨9, _⟩ => ⟨S8192x1536, .f32⟩
  | .hbm, ⟨10, _⟩ => ⟨S8192x128, .f32⟩
  | .hbm, ⟨11, _⟩ => ⟨S8192x128, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3584, .bf16⟩
  | .local _ .vmem, ⟨8, _⟩ => ⟨S512x768, .f32⟩
  | .local _ .vmem, ⟨9, _⟩ => ⟨S512x768, .f32⟩
  | .local _ .vmem, ⟨10, _⟩ => ⟨S512x1536, .f32⟩
  | .local _ .vmem, ⟨11, _⟩ => ⟨S512x1536, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S2x4096x1024 : Shape := ⟨3, ![2, 4096, 1024]⟩
abbrev S3x3072 : Shape := ⟨2, ![3, 3072]⟩
abbrev S1024 : Shape := ⟨1, ![1024]⟩
abbrev S1024x3584 : Shape := ⟨2, ![1024, 3584]⟩
abbrev S2x3072 : Shape := ⟨2, ![2, 3072]⟩
abbrev S2x1x3072 : Shape := ⟨3, ![2, 1, 3072]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x3584 : Shape := ⟨3, ![2, 4096, 3584]⟩
abbrev S8192x3584 : Shape := ⟨2, ![8192, 3584]⟩
abbrev S8192x768 : Shape := ⟨2, ![8192, 768]⟩
abbrev S8192x1536 : Shape := ⟨2, ![8192, 1536]⟩
abbrev S8192x128 : Shape := ⟨2, ![8192, 128]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S3x3072, .f32⟩
  | .hbm, ⟨2, _⟩ => ⟨S1024, .f32⟩
  | .hbm, ⟨3, _⟩ => ⟨S1024x3584, .f32⟩
  | .hbm, ⟨4, _⟩ => ⟨S2x3072, .f32⟩
  | .hbm, ⟨5, _⟩ => ⟨S2x1x3072, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x3584, .f32⟩
  | .hbm, ⟨33, _⟩ => ⟨S8192x3584, .f32⟩
  | .hbm, ⟨34, _⟩ => ⟨S8192x768, .f32⟩
  | .hbm, ⟨35, _⟩ => ⟨S8192x1536, .f32⟩
  | .hbm, ⟨36, _⟩ => ⟨S8192x128, .f32⟩
  | .hbm, ⟨37, _⟩ => ⟨S8192x128, .f32⟩
  | .hbm, ⟨38, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== InCtx.lean ====
abbrev S32x256x1024 : Shape := ⟨3, ![32, 256, 1024]⟩
abbrev S3x3072 : Shape := ⟨2, ![3, 3072]⟩
abbrev S1024 : Shape := ⟨1, ![1024]⟩
abbrev S1024x3584 : Shape := ⟨2, ![1024, 3584]⟩
abbrev S8192x1024 : Shape := ⟨2, ![8192, 1024]⟩
abbrev S3x1x3072 : Shape := ⟨3, ![3, 1, 3072]⟩
abbrev S1x1024 : Shape := ⟨2, ![1, 1024]⟩
abbrev S8192x768 : Shape := ⟨2, ![8192, 768]⟩
abbrev S8192x1536 : Shape := ⟨2, ![8192, 1536]⟩
abbrev S8192x128 : Shape := ⟨2, ![8192, 128]⟩
abbrev S512x1024 : Shape := ⟨2, ![512, 1024]⟩
abbrev S1x1x1024 : Shape := ⟨3, ![1, 1, 1024]⟩
abbrev S512x768 : Shape := ⟨2, ![512, 768]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 13
  | .vmem => 18
  | .smem => 0
  | _ => 0

abbrev bufTy : (tb : Table) → Fin (tcTables nBuf tb) → BufTy
  | .hbm, ⟨0, _⟩ => ⟨S32x256x1024, .f32⟩
  | .hbm, ⟨1, _⟩ => ⟨S3x3072, .f32⟩
  | .hbm, ⟨2, _⟩ => ⟨S1024, .f32⟩
  | .hbm, ⟨3, _⟩ => ⟨S1024x3584, .f32⟩
  | .hbm, ⟨4, _⟩ => ⟨S8192x1024, .f32⟩
  | .hbm, ⟨5, _⟩ => ⟨S3x1x3072, .f32⟩
  | .hbm, ⟨6, _⟩ => ⟨S1024x3584, .bf16⟩
  | .hbm, ⟨7, _⟩ => ⟨S1x1024, .f32⟩
  | .hbm, ⟨8, _⟩ => ⟨S8192x768, .f32⟩
  | .hbm, ⟨9, _⟩ => ⟨S8192x1536, .f32⟩
  | .hbm, ⟨10, _⟩ => ⟨S8192x128, .f32⟩
  | .hbm, ⟨11, _⟩ => ⟨S8192x128, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3584, .bf16⟩
  | .local _ .vmem, ⟨8, _⟩ => ⟨S512x768, .f32⟩
  | .local _ .vmem, ⟨9, _⟩ => ⟨S512x768, .f32⟩
  | .local _ .vmem, ⟨10, _⟩ => ⟨S512x1536, .f32⟩
  | .local _ .vmem, ⟨11, _⟩ => ⟨S512x1536, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8192_i32 : BitVec 32 := 8192#32
  let v0 : BitVec 32 := Scalar.divsi arg0 c8192_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8192_i32 c0_i32_1
  let v7 : BitVec 32 := Scalar.extui v6
  let c0_i32_2 : BitVec 32 := 0#32
  let v8 : BitVec 1 := Scalar.cmpi .slt c8192_i32 c0_i32_2
  let v9 : BitVec 32 := Scalar.extui v8
  let v10 : BitVec 32 := Scalar.subi v7 v9
  let v11 : BitVec 1 := Scalar.cmpi .ne v5 v10
  let v12 : BitVec 32 := Scalar.remsi arg0 c8192_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c8192_i32 : BitVec 32 := 8192#32
  let v0 : BitVec 32 := Scalar.divsi arg0 c8192_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8192_i32 c0_i32_1
  let v7 : BitVec 32 := Scalar.extui v6
  let c0_i32_2 : BitVec 32 := 0#32
  let v8 : BitVec 1 := Scalar.cmpi .slt c8192_i32 c0_i32_2
  let v9 : BitVec 32 := Scalar.extui v8
  let v10 : BitVec 32 := Scalar.subi v7 v9
  let v11 : BitVec 1 := Scalar.cmpi .ne v5 v10
  let v12 : BitVec 32 := Scalar.remsi arg0 c8192_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InCtxRefIdeal.lean ====
abbrev S32x256x1024 : Shape := ⟨3, ![32, 256, 1024]⟩
abbrev S3x3072 : Shape := ⟨2, ![3, 3072]⟩
abbrev S1024 : Shape := ⟨1, ![1024]⟩
abbrev S1024x3584 : Shape := ⟨2, ![1024, 3584]⟩
abbrev S1x3072 : Shape := ⟨2, ![1, 3072]⟩
abbrev S1x1x3072 : Shape := ⟨3, ![1, 1, 3072]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3584 : Shape := ⟨3, ![32, 256, 3584]⟩
abbrev S8192x3584 : Shape := ⟨2, ![8192, 3584]⟩
abbrev S8192x768 : Shape := ⟨2, ![8192, 768]⟩
abbrev S8192x1536 : Shape := ⟨2, ![8192, 1536]⟩
abbrev S8192x128 : Shape := ⟨2, ![8192, 128]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S3x3072, .f32⟩
  | .hbm, ⟨2, _⟩ => ⟨S1024, .f32⟩
  | .hbm, ⟨3, _⟩ => ⟨S1024x3584, .f32⟩
  | .hbm, ⟨4, _⟩ => ⟨S1x3072, .f32⟩
  | .hbm, ⟨5, _⟩ => ⟨S1x1x3072, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S32x256x1024, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x1024, .f32⟩
  | .hbm, ⟨21, _⟩ => ⟨S32x256x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x3584, .f32⟩
  | .hbm, ⟨33, _⟩ => ⟨S8192x3584, .f32⟩
  | .hbm, ⟨34, _⟩ => ⟨S8192x768, .f32⟩
  | .hbm, ⟨35, _⟩ => ⟨S8192x1536, .f32⟩
  | .hbm, ⟨36, _⟩ => ⟨S8192x128, .f32⟩
  | .hbm, ⟨37, _⟩ => ⟨S8192x128, .f32⟩
  | .hbm, ⟨38, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== OutIn.lean ====
abbrev S32x256x1024 : Shape := ⟨3, ![32, 256, 1024]⟩
abbrev S32x2x256x128 : Shape := ⟨4, ![32, 2, 256, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S1024x3584 : Shape := ⟨2, ![1024, 3584]⟩
abbrev S3x1x3072 : Shape := ⟨3, ![3, 1, 3072]⟩
abbrev S1x1024 : Shape := ⟨2, ![1, 1024]⟩
abbrev S8192x768 : Shape := ⟨2, ![8192, 768]⟩
abbrev S8192x1536 : Shape := ⟨2, ![8192, 1536]⟩
abbrev S8192x128 : Shape := ⟨2, ![8192, 128]⟩
abbrev S512x1024 : Shape := ⟨2, ![512, 1024]⟩
abbrev S2x2x256x128 : Shape := ⟨4, ![2, 2, 256, 128]⟩
abbrev S512x512 : Shape := ⟨2, ![512, 512]⟩
abbrev S512x256 : Shape := ⟨2, ![512, 256]⟩
abbrev S1x1x1024 : Shape := ⟨3, ![1, 1, 1024]⟩
abbrev S512x768 : Shape := ⟨2, ![512, 768]⟩
abbrev S512x1536 : Shape := ⟨2, ![512, 1536]⟩
abbrev S512x128 : Shape := ⟨2, ![512, 128]⟩
abbrev S1x1x256x128 : Shape := ⟨4, ![1, 1, 256, 128]⟩
abbrev S256x128 : Shape := ⟨2, ![256, 128]⟩
abbrev S256x256 : Shape := ⟨2, ![256, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩

abbrev nBuf : Space → Nat
  | .hbm => 22
  | .vmem => 31
  | .smem => 0
  | _ => 0

abbrev bufTy : (tb : Table) → Fin (tcTables nBuf tb) → BufTy
  | .hbm, ⟨0, _⟩ => ⟨S32x256x1024, .f32⟩
  | .hbm, ⟨1, _⟩ => ⟨S32x2x256x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S3x3072, .f32⟩
  | .hbm, ⟨8, _⟩ => ⟨S1024, .f32⟩
  | .hbm, ⟨9, _⟩ => ⟨S1024x3584, .f32⟩
  | .hbm, ⟨10, _⟩ => ⟨S3x1x3072, .f32⟩
  | .hbm, ⟨11, _⟩ => ⟨S1024x3584, .bf16⟩
  | .hbm, ⟨12, _⟩ => ⟨S8192x1024, .f32⟩
  | .hbm, ⟨13, _⟩ => ⟨S3x1x3072, .f32⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8192x768, .f32⟩
  | .hbm, ⟨18, _⟩ => ⟨S8192x1536, .f32⟩
  | .hbm, ⟨19, _⟩ => ⟨S8192x128, .f32⟩
  | .hbm, ⟨20, _⟩ => ⟨S8192x128, .f32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S2x2x256x128, .f32⟩
  | .local _ .vmem, ⟨3, _⟩ => ⟨S2x2x256x128, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x3584, .bf16⟩
  | .local _ .vmem, ⟨19, _⟩ => ⟨S512x1024, .f32⟩
  | .local _ .vmem, ⟨20, _⟩ => ⟨S512x1024, .f32⟩
  | .local _ .vmem, ⟨21, _⟩ => ⟨S512x768, .f32⟩
  | .local _ .vmem, ⟨22, _⟩ => ⟨S512x768, .f32⟩
  | .local _ .vmem, ⟨23, _⟩ => ⟨S512x1536, .f32⟩
  | .local _ .vmem, ⟨24, _⟩ => ⟨S512x1536, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x1024, .f32⟩
  | .local _ .vmem, ⟨30, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8192_i32 : BitVec 32 := 8192#32
  let v0 : BitVec 32 := Scalar.divsi arg0 c8192_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8192_i32 c0_i32_1
  let v7 : BitVec 32 := Scalar.extui v6
  let c0_i32_2 : BitVec 32 := 0#32
  let v8 : BitVec 1 := Scalar.cmpi .slt c8192_i32 c0_i32_2
  let v9 : BitVec 32 := Scalar.extui v8
  let v10 : BitVec 32 := Scalar.subi v7 v9
  let v11 : BitVec 1 := Scalar.cmpi .ne v5 v10
  let v12 : BitVec 32 := Scalar.remsi arg0 c8192_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c2_i32 : BitVec 32 := 2#32
  let c0_i32_6 : BitVec 32 := 0#32
  ![v17.toNat, c0_i32_5.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8192_i32 : BitVec 32 := 8192#32
  let v0 : BitVec 32 := Scalar.divsi arg0 c8192_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8192_i32 c0_i32_1
  let v7 : BitVec 32 := Scalar.extui v6
  let c0_i32_2 : BitVec 32 := 0#32
  let v8 : BitVec 1 := Scalar.cmpi .slt c8192_i32 c0_i32_2
  let v9 : BitVec 32 := Scalar.extui v8
  let v10 : BitVec 32 := Scalar.subi v7 v9
  let v11 : BitVec 1 := Scalar.cmpi .ne v5 v10
  let v12 : BitVec 32 := Scalar.remsi arg0 c8192_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_9 (i : grid0.Coords) : Fin 3 → Nat :=
  let arg0 : BitVec 32 := BitVec.ofNat 32 (i 0).val
  let c8192_i32 : BitVec 32 := 8192#32
  let v0 : BitVec 32 := Scalar.divsi arg0 c8192_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8192_i32 c0_i32_1
  let v7 : BitVec 32 := Scalar.extui v6
  let c0_i32_2 : BitVec 32 := 0#32
  let v8 : BitVec 1 := Scalar.cmpi .slt c8192_i32 c0_i32_2
  let v9 : BitVec 32 := Scalar.extui v8
  let v10 : BitVec 32 := Scalar.subi v7 v9
  let v11 : BitVec 1 := Scalar.cmpi .ne v5 v10
  let v12 : BitVec 32 := Scalar.remsi arg0 c8192_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c1_i32_6 : BitVec 32 := 1#32
  let c0_i32_7 : BitVec 32 := 0#32
  ![v17.toNat, c0_i32_5.toNat, c1_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x3584 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutInRefIdeal.lean ====
abbrev S32x256x1024 : Shape := ⟨3, ![32, 256, 1024]⟩
abbrev S32x2x256x128 : Shape := ⟨4, ![32, 2, 256, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S1024x3584 : Shape := ⟨2, ![1024, 3584]⟩
abbrev S1x3072 : Shape := ⟨2, ![1, 3072]⟩
abbrev S1x1x3072 : Shape := ⟨3, ![1, 1, 3072]⟩
abbrev S1x1x1024 : Shape := ⟨3, ![1, 1, 1024]⟩
abbrev S32x256x2x128 : Shape := ⟨4, ![32, 256, 2, 128]⟩
abbrev S32x256x256 : Shape := ⟨3, ![32, 256, 256]⟩
abbrev S32x256x512 : Shape := ⟨3, ![32, 256, 512]⟩
abbrev S_ : Shape := ⟨0, ![]⟩
abbrev S32x256 : Shape := ⟨2, ![32, 256]⟩
abbrev S32x256x1 : Shape := ⟨3, ![32, 256, 1]⟩
abbrev S32x256x3584 : Shape := ⟨3, ![32, 256, 3584]⟩
abbrev S8192x3584 : Shape := ⟨2, ![8192, 3584]⟩
abbrev S8192x768 : Shape := ⟨2, ![8192, 768]⟩
abbrev S8192x1536 : Shape := ⟨2, ![8192, 1536]⟩
abbrev S8192x128 : Shape := ⟨2, ![8192, 128]⟩

abbrev nBuf : Space → Nat
  | .hbm => 71
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x2x256x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S3x3072, .f32⟩
  | .hbm, ⟨8, _⟩ => ⟨S1024, .f32⟩
  | .hbm, ⟨9, _⟩ => ⟨S1024x3584, .f32⟩
  | .hbm, ⟨10, _⟩ => ⟨S1x3072, .f32⟩
  | .hbm, ⟨11, _⟩ => ⟨S1x1x3072, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S32x256x2x128, .f32⟩
  | .hbm, ⟨16, _⟩ => ⟨S32x256x256, .f32⟩
  | .hbm, ⟨17, _⟩ => ⟨S32x256x512, .f32⟩
  | .hbm, ⟨18, _⟩ => ⟨S32x256x256, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S32x256x1024, .f32⟩
  | .hbm, ⟨23, _⟩ => ⟨S_, .f32⟩
  | .hbm, ⟨24, _⟩ => ⟨S32x256x1024, .f32⟩
  | .hbm, ⟨25, _⟩ => ⟨S32x256x1024, .f32⟩
  | .hbm, ⟨26, _⟩ => ⟨S_, .f32⟩
  | .hbm, ⟨27, _⟩ => ⟨S32x256x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S8192x1024, .f32⟩
  | .hbm, ⟨36, _⟩ => ⟨S1x3072, .f32⟩
  | .hbm, ⟨37, _⟩ => ⟨S1x1x3072, .f32⟩
  | .hbm, ⟨38, _⟩ => ⟨S1x1x1024, .f32⟩
  | .hbm, ⟨39, _⟩ => ⟨S1x1x1024, .f32⟩
  | .hbm, ⟨40, _⟩ => ⟨S1x1x1024, .f32⟩
  | .hbm, ⟨41, _⟩ => ⟨S32x256x1024, .f32⟩
  | .hbm, ⟨42, _⟩ => ⟨S_, .f32⟩
  | .hbm, ⟨43, _⟩ => ⟨S32x256, .f32⟩
  | .hbm, ⟨44, _⟩ => ⟨S32x256x1, .f32⟩
  | .hbm, ⟨45, _⟩ => ⟨S_, .f32⟩
  | .hbm, ⟨46, _⟩ => ⟨S32x256x1, .f32⟩
  | .hbm, ⟨47, _⟩ => ⟨S32x256x1, .f32⟩
  | .hbm, ⟨48, _⟩ => ⟨S_, .f32⟩
  | .hbm, ⟨49, _⟩ => ⟨S32x256x1, .f32⟩
  | .hbm, ⟨50, _⟩ => ⟨S32x256x1, .f32⟩
  | .hbm, ⟨51, _⟩ => ⟨S32x256x1, .f32⟩
  | .hbm, ⟨52, _⟩ => ⟨S32x256x1024, .f32⟩
  | .hbm, ⟨53, _⟩ => ⟨S32x256x1024, .f32⟩
  | .hbm, ⟨54, _⟩ => ⟨S1x1x1024, .f32⟩
  | .hbm, ⟨55, _⟩ => ⟨S32x256x1024, .f32⟩
  | .hbm, ⟨56, _⟩ => ⟨S32x256x1024, .f32⟩
  | .hbm, ⟨57, _⟩ => ⟨S_, .f32⟩
  | .hbm, ⟨58, _⟩ => ⟨S1x1x1024, .f32⟩
  | .hbm, ⟨59, _⟩ => ⟨S1x1x1024, .f32⟩
  | .hbm, ⟨60, _⟩ => ⟨S32x256x1024, .f32⟩
  | .hbm, ⟨61, _⟩ => ⟨S32x256x1024, .f32⟩
  | .hbm, ⟨62, _⟩ => ⟨S32x256x1024, .f32⟩
  | .hbm, ⟨63, _⟩ => ⟨S32x256x1024, .f32⟩
  | .hbm, ⟨64, _⟩ => ⟨S32x256x3584, .f32⟩
  | .hbm, ⟨65, _⟩ => ⟨S8192x3584, .f32⟩
  | .hbm, ⟨66, _⟩ => ⟨S8192x768, .f32⟩
  | .hbm, ⟨67, _⟩ => ⟨S8192x1536, .f32⟩
  | .hbm, ⟨68, _⟩ => ⟨S8192x128, .f32⟩
  | .hbm, ⟨69, _⟩ => ⟨S8192x128, .f32⟩
  | .hbm, ⟨70, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== OutInLat.lean ====
abbrev S2x4096x1024 : Shape := ⟨3, ![2, 4096, 1024]⟩
abbrev S2x2x4096x128 : Shape := ⟨4, ![2, 2, 4096, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S1024x3584 : Shape := ⟨2, ![1024, 3584]⟩
abbrev S3x1x3072 : Shape := ⟨3, ![3, 1, 3072]⟩
abbrev S1x1024 : Shape := ⟨2, ![1, 1024]⟩
abbrev S8192x768 : Shape := ⟨2, ![8192, 768]⟩
abbrev S8192x1536 : Shape := ⟨2, ![8192, 1536]⟩
abbrev S8192x128 : Shape := ⟨2, ![8192, 128]⟩
abbrev S512x1024 : Shape := ⟨2, ![512, 1024]⟩
abbrev S1x2x512x128 : Shape := ⟨4, ![1, 2, 512, 128]⟩
abbrev S512x512 : Shape := ⟨2, ![512, 512]⟩
abbrev S512x256 : Shape := ⟨2, ![512, 256]⟩
abbrev S1x1x1024 : Shape := ⟨3, ![1, 1, 1024]⟩
abbrev S512x768 : Shape := ⟨2, ![512, 768]⟩
abbrev S512x1536 : Shape := ⟨2, ![512, 1536]⟩
abbrev S512x128 : Shape := ⟨2, ![512, 128]⟩
abbrev S1x1x512x128 : Shape := ⟨4, ![1, 1, 512, 128]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩

abbrev nBuf : Space → Nat
  | .hbm => 22
  | .vmem => 31
  | .smem => 0
  | _ => 0

abbrev bufTy : (tb : Table) → Fin (tcTables nBuf tb) → BufTy
  | .hbm, ⟨0, _⟩ => ⟨S2x4096x1024, .f32⟩
  | .hbm, ⟨1, _⟩ => ⟨S2x2x4096x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S3x3072, .f32⟩
  | .hbm, ⟨8, _⟩ => ⟨S1024, .f32⟩
  | .hbm, ⟨9, _⟩ => ⟨S1024x3584, .f32⟩
  | .hbm, ⟨10, _⟩ => ⟨S3x1x3072, .f32⟩
  | .hbm, ⟨11, _⟩ => ⟨S1024x3584, .bf16⟩
  | .hbm, ⟨12, _⟩ => ⟨S8192x1024, .f32⟩
  | .hbm, ⟨13, _⟩ => ⟨S3x1x3072, .f32⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8192x768, .f32⟩
  | .hbm, ⟨18, _⟩ => ⟨S8192x1536, .f32⟩
  | .hbm, ⟨19, _⟩ => ⟨S8192x128, .f32⟩
  | .hbm, ⟨20, _⟩ => ⟨S8192x128, .f32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x2x512x128, .f32⟩
  | .local _ .vmem, ⟨3, _⟩ => ⟨S1x2x512x128, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x3584, .bf16⟩
  | .local _ .vmem, ⟨19, _⟩ => ⟨S512x1024, .f32⟩
  | .local _ .vmem, ⟨20, _⟩ => ⟨S512x1024, .f32⟩
  | .local _ .vmem, ⟨21, _⟩ => ⟨S512x768, .f32⟩
  | .local _ .vmem, ⟨22, _⟩ => ⟨S512x768, .f32⟩
  | .local _ .vmem, ⟨23, _⟩ => ⟨S512x1536, .f32⟩
  | .local _ .vmem, ⟨24, _⟩ => ⟨S512x1536, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x1024, .f32⟩
  | .local _ .vmem, ⟨30, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c2_i32 : BitVec 32 := 2#32
  let c0_i32_6 : BitVec 32 := 0#32
  ![v17.toNat, c0_i32_5.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c1_i32_6 : BitVec 32 := 1#32
  let c0_i32_7 : BitVec 32 := 0#32
  ![v17.toNat, c0_i32_5.toNat, c1_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x3584 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutInLatRefIdeal.lean ====
abbrev S2x4096x1024 : Shape := ⟨3, ![2, 4096, 1024]⟩
abbrev S2x2x4096x128 : Shape := ⟨4, ![2, 2, 4096, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S1024x3584 : Shape := ⟨2, ![1024, 3584]⟩
abbrev S2x3072 : Shape := ⟨2, ![2, 3072]⟩
abbrev S2x1x3072 : Shape := ⟨3, ![2, 1, 3072]⟩
abbrev S2x1x1024 : Shape := ⟨3, ![2, 1, 1024]⟩
abbrev S2x4096x2x128 : Shape := ⟨4, ![2, 4096, 2, 128]⟩
abbrev S2x4096x256 : Shape := ⟨3, ![2, 4096, 256]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x3584 : Shape := ⟨3, ![2, 4096, 3584]⟩
abbrev S8192x3584 : Shape := ⟨2, ![8192, 3584]⟩
abbrev S8192x768 : Shape := ⟨2, ![8192, 768]⟩
abbrev S8192x1536 : Shape := ⟨2, ![8192, 1536]⟩
abbrev S8192x128 : Shape := ⟨2, ![8192, 128]⟩

abbrev nBuf : Space → Nat
  | .hbm => 71
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x2x4096x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S3x3072, .f32⟩
  | .hbm, ⟨8, _⟩ => ⟨S1024, .f32⟩
  | .hbm, ⟨9, _⟩ => ⟨S1024x3584, .f32⟩
  | .hbm, ⟨10, _⟩ => ⟨S2x3072, .f32⟩
  | .hbm, ⟨11, _⟩ => ⟨S2x1x3072, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x4096x2x128, .f32⟩
  | .hbm, ⟨16, _⟩ => ⟨S2x4096x256, .f32⟩
  | .hbm, ⟨17, _⟩ => ⟨S2x4096x512, .f32⟩
  | .hbm, ⟨18, _⟩ => ⟨S2x4096x256, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096x1024, .f32⟩
  | .hbm, ⟨25, _⟩ => ⟨S2x4096x1024, .f32⟩
  | .hbm, ⟨26, _⟩ => ⟨S_, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S8192x1024, .f32⟩
  | .hbm, ⟨36, _⟩ => ⟨S2x3072, .f32⟩
  | .hbm, ⟨37, _⟩ => ⟨S2x1x3072, .f32⟩
  | .hbm, ⟨38, _⟩ => ⟨S2x1x1024, .f32⟩
  | .hbm, ⟨39, _⟩ => ⟨S2x1x1024, .f32⟩
  | .hbm, ⟨40, _⟩ => ⟨S2x1x1024, .f32⟩
  | .hbm, ⟨41, _⟩ => ⟨S2x4096x1024, .f32⟩
  | .hbm, ⟨42, _⟩ => ⟨S_, .f32⟩
  | .hbm, ⟨43, _⟩ => ⟨S2x4096, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S2x4096x1, .f32⟩
  | .hbm, ⟨52, _⟩ => ⟨S2x4096x1024, .f32⟩
  | .hbm, ⟨53, _⟩ => ⟨S2x4096x1024, .f32⟩
  | .hbm, ⟨54, _⟩ => ⟨S1x1x1024, .f32⟩
  | .hbm, ⟨55, _⟩ => ⟨S2x4096x1024, .f32⟩
  | .hbm, ⟨56, _⟩ => ⟨S2x4096x1024, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S2x4096x1024, .f32⟩
  | .hbm, ⟨61, _⟩ => ⟨S2x4096x1024, .f32⟩
  | .hbm, ⟨62, _⟩ => ⟨S2x4096x1024, .f32⟩
  | .hbm, ⟨63, _⟩ => ⟨S2x4096x1024, .f32⟩
  | .hbm, ⟨64, _⟩ => ⟨S2x4096x3584, .f32⟩
  | .hbm, ⟨65, _⟩ => ⟨S8192x3584, .f32⟩
  | .hbm, ⟨66, _⟩ => ⟨S8192x768, .f32⟩
  | .hbm, ⟨67, _⟩ => ⟨S8192x1536, .f32⟩
  | .hbm, ⟨68, _⟩ => ⟨S8192x128, .f32⟩
  | .hbm, ⟨69, _⟩ => ⟨S8192x128, .f32⟩
  | .hbm, ⟨70, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== OutCtx.lean ====
abbrev S32x256x1024 : Shape := ⟨3, ![32, 256, 1024]⟩
abbrev S32x2x256x128 : Shape := ⟨4, ![32, 2, 256, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S3x1x3072 : Shape := ⟨3, ![3, 1, 3072]⟩
abbrev S1x1024 : Shape := ⟨2, ![1, 1024]⟩
abbrev S512x1024 : Shape := ⟨2, ![512, 1024]⟩
abbrev S2x2x256x128 : Shape := ⟨4, ![2, 2, 256, 128]⟩
abbrev S512x512 : Shape := ⟨2, ![512, 512]⟩
abbrev S512x256 : Shape := ⟨2, ![512, 256]⟩
abbrev S1x1x1024 : Shape := ⟨3, ![1, 1, 1024]⟩
abbrev S1x1x256x128 : Shape := ⟨4, ![1, 1, 256, 128]⟩
abbrev S256x128 : Shape := ⟨2, ![256, 128]⟩
abbrev S256x256 : Shape := ⟨2, ![256, 256]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S32x256x1024, .f32⟩
  | .hbm, ⟨1, _⟩ => ⟨S32x2x256x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S3x1x3072, .f32⟩
  | .hbm, ⟨10, _⟩ => ⟨S1024x1024, .bf16⟩
  | .hbm, ⟨11, _⟩ => ⟨S1x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S2x2x256x128, .f32⟩
  | .local _ .vmem, ⟨3, _⟩ => ⟨S2x2x256x128, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8192_i32 : BitVec 32 := 8192#32
  let v0 : BitVec 32 := Scalar.divsi arg0 c8192_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8192_i32 c0_i32_1
  let v7 : BitVec 32 := Scalar.extui v6
  let c0_i32_2 : BitVec 32 := 0#32
  let v8 : BitVec 1 := Scalar.cmpi .slt c8192_i32 c0_i32_2
  let v9 : BitVec 32 := Scalar.extui v8
  let v10 : BitVec 32 := Scalar.subi v7 v9
  let v11 : BitVec 1 := Scalar.cmpi .ne v5 v10
  let v12 : BitVec 32 := Scalar.remsi arg0 c8192_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c2_i32 : BitVec 32 := 2#32
  let c0_i32_6 : BitVec 32 := 0#32
  ![v17.toNat, c0_i32_5.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutCtxRefIdeal.lean ====
abbrev S32x256x1024 : Shape := ⟨3, ![32, 256, 1024]⟩
abbrev S32x2x256x128 : Shape := ⟨4, ![32, 2, 256, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S1x3072 : Shape := ⟨2, ![1, 3072]⟩
abbrev S1x1x3072 : Shape := ⟨3, ![1, 1, 3072]⟩
abbrev S1x1x1024 : Shape := ⟨3, ![1, 1, 1024]⟩
abbrev S32x256x2x128 : Shape := ⟨4, ![32, 256, 2, 128]⟩
abbrev S32x256x256 : Shape := ⟨3, ![32, 256, 256]⟩
abbrev S32x256x512 : Shape := ⟨3, ![32, 256, 512]⟩
abbrev S_ : Shape := ⟨0, ![]⟩
abbrev S32x256 : Shape := ⟨2, ![32, 256]⟩
abbrev S32x256x1 : Shape := ⟨3, ![32, 256, 1]⟩

abbrev nBuf : Space → Nat
  | .hbm => 50
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x2x256x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S1024, .f32⟩
  | .hbm, ⟨8, _⟩ => ⟨S1x3072, .f32⟩
  | .hbm, ⟨9, _⟩ => ⟨S1x1x3072, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S32x256x2x128, .f32⟩
  | .hbm, ⟨14, _⟩ => ⟨S32x256x256, .f32⟩
  | .hbm, ⟨15, _⟩ => ⟨S32x256x512, .f32⟩
  | .hbm, ⟨16, _⟩ => ⟨S32x256x256, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S_, .f32⟩
  | .hbm, ⟨35, _⟩ => ⟨S32x256, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S_, .f32⟩
  | .hbm, ⟨41, _⟩ => ⟨S32x256x1, .f32⟩
  | .hbm, ⟨42, _⟩ => ⟨S32x256x1, .f32⟩
  | .hbm, ⟨43, _⟩ => ⟨S32x256x1, .f32⟩
  | .hbm, ⟨44, _⟩ => ⟨S32x256x1024, .f32⟩
  | .hbm, ⟨45, _⟩ => ⟨S32x256x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== OutLat.lean ====
abbrev S2x4096x1024 : Shape := ⟨3, ![2, 4096, 1024]⟩
abbrev S2x2x4096x128 : Shape := ⟨4, ![2, 2, 4096, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S3x1x3072 : Shape := ⟨3, ![3, 1, 3072]⟩
abbrev S1x1024 : Shape := ⟨2, ![1, 1024]⟩
abbrev S512x1024 : Shape := ⟨2, ![512, 1024]⟩
abbrev S1x2x512x128 : Shape := ⟨4, ![1, 2, 512, 128]⟩
abbrev S512x512 : Shape := ⟨2, ![512, 512]⟩
abbrev S512x256 : Shape := ⟨2, ![512, 256]⟩
abbrev S1x1x1024 : Shape := ⟨3, ![1, 1, 1024]⟩
abbrev S1x1x512x128 : Shape := ⟨4, ![1, 1, 512, 128]⟩
abbrev S512x128 : Shape := ⟨2, ![512, 128]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S2x2x4096x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S3x1x3072, .f32⟩
  | .hbm, ⟨10, _⟩ => ⟨S1024x1024, .bf16⟩
  | .hbm, ⟨11, _⟩ => ⟨S1x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x2x512x128, .f32⟩
  | .local _ .vmem, ⟨3, _⟩ => ⟨S1x2x512x128, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c2_i32 : BitVec 32 := 2#32
  let c0_i32_6 : BitVec 32 := 0#32
  ![v17.toNat, c0_i32_5.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLatRefIdeal.lean ====
abbrev S2x4096x1024 : Shape := ⟨3, ![2, 4096, 1024]⟩
abbrev S2x2x4096x128 : Shape := ⟨4, ![2, 2, 4096, 128]⟩
abbrev S8192x512 : Shape := ⟨2, ![8192, 512]⟩
abbrev S8192x256 : Shape := ⟨2, ![8192, 256]⟩
abbrev S8192x1024 : Shape := ⟨2, ![8192, 1024]⟩
abbrev S3x3072 : Shape := ⟨2, ![3, 3072]⟩
abbrev S1024x1024 : Shape := ⟨2, ![1024, 1024]⟩
abbrev S1024 : Shape := ⟨1, ![1024]⟩
abbrev S2x3072 : Shape := ⟨2, ![2, 3072]⟩
abbrev S2x1x3072 : Shape := ⟨3, ![2, 1, 3072]⟩
abbrev S2x1x1024 : Shape := ⟨3, ![2, 1, 1024]⟩
abbrev S2x4096x2x128 : Shape := ⟨4, ![2, 4096, 2, 128]⟩
abbrev S2x4096x256 : Shape := ⟨3, ![2, 4096, 256]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x2x4096x128, .f32⟩
  | .hbm, ⟨2, _⟩ => ⟨S8192x512, .f32⟩
  | .hbm, ⟨3, _⟩ => ⟨S8192x256, .f32⟩
  | .hbm, ⟨4, _⟩ => ⟨S8192x1024, .f32⟩
  | .hbm, ⟨5, _⟩ => ⟨S3x3072, .f32⟩
  | .hbm, ⟨6, _⟩ => ⟨S1024x1024, .f32⟩
  | .hbm, ⟨7, _⟩ => ⟨S1024, .f32⟩
  | .hbm, ⟨8, _⟩ => ⟨S2x3072, .f32⟩
  | .hbm, ⟨9, _⟩ => ⟨S2x1x3072, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x4096x2x128, .f32⟩
  | .hbm, ⟨14, _⟩ => ⟨S2x4096x256, .f32⟩
  | .hbm, ⟨15, _⟩ => ⟨S2x4096x512, .f32⟩
  | .hbm, ⟨16, _⟩ => ⟨S2x4096x256, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x4096x1024, .f32⟩
  | .hbm, ⟨23, _⟩ => ⟨S2x4096x1024, .f32⟩
  | .hbm, ⟨24, _⟩ => ⟨S_, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x1024, .f32⟩
  | .hbm, ⟨45, _⟩ => ⟨S2x4096x1024, .f32⟩
  | .hbm, ⟨46, _⟩ => ⟨S1x1x1024, .f32⟩
  | .hbm, ⟨47, _⟩ => ⟨S2x4096x1024, .f32⟩
  | .hbm, ⟨48, _⟩ => ⟨S2x4096x1024, .f32⟩
  | .hbm, ⟨49, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Mod.lean ====
abbrev S1024 : Shape := ⟨1, ![1024]⟩
abbrev S2x1024 : Shape := ⟨2, ![2, 1024]⟩
abbrev S2x1024x3072 : Shape := ⟨3, ![2, 1024, 3072]⟩
abbrev S2x3072 : Shape := ⟨2, ![2, 3072]⟩
abbrev S_ : Shape := ⟨0, ![]⟩
abbrev S8x1024 : Shape := ⟨2, ![8, 1024]⟩
abbrev S1 : Shape := ⟨1, ![1]⟩
abbrev S2x1x3072 : Shape := ⟨3, ![2, 1, 3072]⟩
abbrev S2x8x3072 : Shape := ⟨3, ![2, 8, 3072]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S2x1024x3072, .f32⟩
  | .hbm, ⟨3, _⟩ => ⟨S2x3072, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x3072, .f32⟩
  | .hbm, ⟨13, _⟩ => ⟨S2x8x3072, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S1024 : Shape := ⟨1, ![1024]⟩
abbrev S2x1024 : Shape := ⟨2, ![2, 1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S1x8x3072 : Shape := ⟨3, ![1, 8, 3072]⟩
abbrev S2x8x3072 : Shape := ⟨3, ![2, 8, 3072]⟩

abbrev nBuf : Space → Nat
  | .hbm => 45
  | .vmem => 0
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x3072, .f32⟩
  | .hbm, ⟨18, _⟩ => ⟨S1024x3072, .f32⟩
  | .hbm, ⟨19, _⟩ => ⟨S8x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S8x3072, .f32⟩
  | .hbm, ⟨24, _⟩ => ⟨S8x3072, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x3072, .f32⟩
  | .hbm, ⟨35, _⟩ => ⟨S1024x3072, .f32⟩
  | .hbm, ⟨36, _⟩ => ⟨S8x3072, .f32⟩
  | .hbm, ⟨37, _⟩ => ⟨S1x3072, .f32⟩
  | .hbm, ⟨38, _⟩ => ⟨S3072, .f32⟩
  | .hbm, ⟨39, _⟩ => ⟨S1x3072, .f32⟩
  | .hbm, ⟨40, _⟩ => ⟨S8x3072, .f32⟩
  | .hbm, ⟨41, _⟩ => ⟨S8x3072, .f32⟩
  | .hbm, ⟨42, _⟩ => ⟨S1x8x3072, .f32⟩
  | .hbm, ⟨43, _⟩ => ⟨S1x8x3072, .f32⟩
  | .hbm, ⟨44, _⟩ => ⟨S2x8x3072, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Prep.lean ====
abbrev S8192x768 : Shape := ⟨2, ![8192, 768]⟩
abbrev S3x768 : Shape := ⟨2, ![3, 768]⟩
abbrev S768 : Shape := ⟨1, ![768]⟩
abbrev S2x4096x768 : Shape := ⟨3, ![2, 4096, 768]⟩
abbrev S1x768 : Shape := ⟨2, ![1, 768]⟩
abbrev S1x4x4096x128 : Shape := ⟨4, ![1, 4, 4096, 128]⟩
abbrev S1x512x768 : Shape := ⟨3, ![1, 512, 768]⟩
abbrev S1x8x768 : Shape := ⟨3, ![1, 8, 768]⟩
abbrev S1x4x512x128 : Shape := ⟨4, ![1, 4, 512, 128]⟩
abbrev S512x1 : Shape := ⟨2, ![512, 1]⟩
abbrev S512x768 : Shape := ⟨2, ![512, 768]⟩
abbrev S1x1x768 : Shape := ⟨3, ![1, 1, 768]⟩
abbrev S512x128 : Shape := ⟨2, ![512, 128]⟩
abbrev S1x1x512x128 : Shape := ⟨4, ![1, 1, 512, 128]⟩

abbrev nBuf : Space → Nat
  | .hbm => 8
  | .vmem => 20
  | .smem => 0
  | _ => 0

abbrev bufTy : (tb : Table) → Fin (tcTables nBuf tb) → BufTy
  | .hbm, ⟨0, _⟩ => ⟨S8192x768, .f32⟩
  | .hbm, ⟨1, _⟩ => ⟨S3x768, .f32⟩
  | .hbm, ⟨2, _⟩ => ⟨S768, .f32⟩
  | .hbm, ⟨3, _⟩ => ⟨S2x4096x768, .f32⟩
  | .hbm, ⟨4, _⟩ => ⟨S1x768, .f32⟩
  | .hbm, ⟨5, _⟩ => ⟨S1x4x4096x128, .f32⟩
  | .hbm, ⟨6, _⟩ => ⟨S1x4x4096x128, .f32⟩
  | .hbm, ⟨7, _⟩ => ⟨S1x4x4096x128, .f32⟩
  | .local _ .vmem, ⟨0, _⟩ => ⟨S1x512x768, .f32⟩
  | .local _ .vmem, ⟨1, _⟩ => ⟨S1x512x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S1x512x768, .f32⟩
  | .local _ .vmem, ⟨7, _⟩ => ⟨S1x512x768, .f32⟩
  | .local _ .vmem, ⟨8, _⟩ => ⟨S1x8x768, .f32⟩
  | .local _ .vmem, ⟨9, _⟩ => ⟨S1x8x768, .f32⟩
  | .local _ .vmem, ⟨10, _⟩ => ⟨S1x8x768, .f32⟩
  | .local _ .vmem, ⟨11, _⟩ => ⟨S1x8x768, .f32⟩
  | .local _ .vmem, ⟨12, _⟩ => ⟨S3x768, .f32⟩
  | .local _ .vmem, ⟨13, _⟩ => ⟨S1x768, .f32⟩
  | .local _ .vmem, ⟨14, _⟩ => ⟨S1x4x512x128, .f32⟩
  | .local _ .vmem, ⟨15, _⟩ => ⟨S1x4x512x128, .f32⟩
  | .local _ .vmem, ⟨16, _⟩ => ⟨S1x4x512x128, .f32⟩
  | .local _ .vmem, ⟨17, _⟩ => ⟨S1x4x512x128, .f32⟩
  | .local _ .vmem, ⟨18, _⟩ => ⟨S1x4x512x128, .f32⟩
  | .local _ .vmem, ⟨19, _⟩ => ⟨S1x4x512x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c64_i32 : BitVec 32 := 64#32
  let v2 : BitVec 32 := Scalar.muli arg1 c64_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  ![v1.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c1_i32 : BitVec 32 := 1#32
  let v2 : BitVec 32 := Scalar.addi arg1 c1_i32
  let c64_i32 : BitVec 32 := 64#32
  let v3 : BitVec 32 := Scalar.muli v2 c64_i32
  let c511_i32 : BitVec 32 := 511#32
  let v4 : BitVec 32 := Scalar.minsi v3 c511_i32
  let c0_i32_0 : BitVec 32 := 0#32
  let c0_i32_1 : BitVec 32 := 0#32
  ![v1.toNat, v4.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c64_i32 : BitVec 32 := 64#32
  let v2 : BitVec 32 := Scalar.muli arg1 c64_i32
  let c1_i32_0 : BitVec 32 := 1#32
  let v3 : BitVec 32 := Scalar.subi v2 c1_i32_0
  let c0_i32 : BitVec 32 := 0#32
  let v4 : BitVec 32 := Scalar.maxsi v3 c0_i32
  let c0_i32_1 : BitVec 32 := 0#32
  let c0_i32_2 : BitVec 32 := 0#32
  ![v1.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c1_i32_0 : BitVec 32 := 1#32
  let v2 : BitVec 32 := Scalar.addi arg1 c1_i32_0
  let c64_i32 : BitVec 32 := 64#32
  let v3 : BitVec 32 := Scalar.muli v2 c64_i32
  let c511_i32 : BitVec 32 := 511#32
  let v4 : BitVec 32 := Scalar.minsi v3 c511_i32
  let c0_i32 : BitVec 32 := 0#32
  let c0_i32_1 : BitVec 32 := 0#32
  ![v1.toNat, v4.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PrepRefIdeal.lean ====
abbrev S8192x768 : Shape := ⟨2, ![8192, 768]⟩
abbrev S3x768 : Shape := ⟨2, ![3, 768]⟩
abbrev S768 : Shape := ⟨1, ![768]⟩
abbrev S2x4096x768 : Shape := ⟨3, ![2, 4096, 768]⟩
abbrev S_ : Shape := ⟨0, ![]⟩
abbrev S2x4098x768 : Shape := ⟨3, ![2, 4098, 768]⟩
abbrev S1x768 : Shape := ⟨2, ![1, 768]⟩
abbrev S1x1x768 : Shape := ⟨3, ![1, 1, 768]⟩
abbrev S2x4096x256 : Shape := ⟨3, ![2, 4096, 256]⟩
abbrev S2x4096x2x128 : Shape := ⟨4, ![2, 4096, 2, 128]⟩
abbrev S2x2x4096x128 : Shape := ⟨4, ![2, 2, 4096, 128]⟩
abbrev S1x4x4096x128 : Shape := ⟨4, ![1, 4, 4096, 128]⟩

abbrev nBuf : Space → Nat
  | .hbm => 45
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S3x768, .f32⟩
  | .hbm, ⟨2, _⟩ => ⟨S768, .f32⟩
  | .hbm, ⟨3, _⟩ => ⟨S2x4096x768, .f32⟩
  | .hbm, ⟨4, _⟩ => ⟨S_, .i32⟩
  | .hbm, ⟨5, _⟩ => ⟨S_, .f32⟩
  | .hbm, ⟨6, _⟩ => ⟨S2x4098x768, .f32⟩
  | .hbm, ⟨7, _⟩ => ⟨S2x4096x768, .f32⟩
  | .hbm, ⟨8, _⟩ => ⟨S1x768, .f32⟩
  | .hbm, ⟨9, _⟩ => ⟨S768, .f32⟩
  | .hbm, ⟨10, _⟩ => ⟨S1x1x768, .f32⟩
  | .hbm, ⟨11, _⟩ => ⟨S2x4096x768, .f32⟩
  | .hbm, ⟨12, _⟩ => ⟨S2x4096x768, .f32⟩
  | .hbm, ⟨13, _⟩ => ⟨S_, .f32⟩
  | .hbm, ⟨14, _⟩ => ⟨S2x4096x768, .f32⟩
  | .hbm, ⟨15, _⟩ => ⟨S2x4096x768, .f32⟩
  | .hbm, ⟨16, _⟩ => ⟨S2x4096x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S2x4096x768, .f32⟩
  | .hbm, ⟨21, _⟩ => ⟨S2x4096x768, .f32⟩
  | .hbm, ⟨22, _⟩ => ⟨S2x4096x768, .f32⟩
  | .hbm, ⟨23, _⟩ => ⟨S2x4096x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S2x4096x768, .f32⟩
  | .hbm, ⟨28, _⟩ => ⟨S2x4096x768, .f32⟩
  | .hbm, ⟨29, _⟩ => ⟨S2x4096x768, .f32⟩
  | .hbm, ⟨30, _⟩ => ⟨S1x1x768, .f32⟩
  | .hbm, ⟨31, _⟩ => ⟨S2x4096x768, .f32⟩
  | .hbm, ⟨32, _⟩ => ⟨S2x4096x768, .f32⟩
  | .hbm, ⟨33, _⟩ => ⟨S2x4096x256, .f32⟩
  | .hbm, ⟨34, _⟩ => ⟨S2x4096x256, .f32⟩
  | .hbm, ⟨35, _⟩ => ⟨S2x4096x256, .f32⟩
  | .hbm, ⟨36, _⟩ => ⟨S2x4096x2x128, .f32⟩
  | .hbm, ⟨37, _⟩ => ⟨S2x2x4096x128, .f32⟩
  | .hbm, ⟨38, _⟩ => ⟨S1x4x4096x128, .f32⟩
  | .hbm, ⟨39, _⟩ => ⟨S2x4096x2x128, .f32⟩
  | .hbm, ⟨40, _⟩ => ⟨S2x2x4096x128, .f32⟩
  | .hbm, ⟨41, _⟩ => ⟨S1x4x4096x128, .f32⟩
  | .hbm, ⟨42, _⟩ => ⟨S2x4096x2x128, .f32⟩
  | .hbm, ⟨43, _⟩ => ⟨S2x2x4096x128, .f32⟩
  | .hbm, ⟨44, _⟩ => ⟨S1x4x4096x128, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.Pointwise

/-! Rows of extended reals that the two projections work on: the root mean square, the gate, and the
    contraction over three mixers laid end to end. -/

@[expose] public section

set_option maxRecDepth 16384

noncomputable section

namespace Cert.Rows
open Idealize.ShloMosaic

/-- A vector, a matrix, a box of extended reals, and a box of four axes. -/
abbrev D1 (a : ℕ) := (⟨1, ![a]⟩ : Shape).Idx → EReal
abbrev D2 (a b : ℕ) := (⟨2, ![a, b]⟩ : Shape).Idx → EReal
abbrev D3 (a b c : ℕ) := (⟨3, ![a, b, c]⟩ : Shape).Idx → EReal
abbrev D4 (a b c d : ℕ) := (⟨4, ![a, b, c, d]⟩ : Shape).Idx → EReal

/-- The gate `g · 1 / (1 + e^(-g))`. -/
def sil (g : EReal) : EReal := g * Ideal.div 1 (1 + Ideal.exp (-g))

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The gate divided in one step is the gate times the reciprocal. -/
theorem sil_eq (g : EReal) : Ideal.div g (1 + Ideal.exp (0 - g)) = sil g := by
  have h : (1 + Ideal.exp (-g)) ≠ 0 := by
    have h1 : (1 : EReal) ≤ 1 + Ideal.exp (-g) := le_add_of_nonneg_right (exp_nonneg _)
    exact (lt_of_lt_of_le zero_lt_one h1).ne'
  rw [zero_sub]
  unfold sil Ideal.div
  rw [if_neg h, if_neg h, one_mul]

/-- One output entry of the second projection: the three mixers' channels laid end to end, gated, against a
    column of the weight. -/
def mix (a : Fin 256 → EReal) (b : Fin 512 → EReal) (s : Fin 256 → EReal) (g w : Fin 1024 → EReal) : EReal :=
  ∑ x : Fin 1024, (if h : x.val < 256 then a ⟨x.val, h⟩ else if h : x.val - 256 < 512 then b ⟨x.val - 256, h⟩
      else s ⟨x.val - 256 - 512, by omega⟩) * sil (g x) * w x

/-- The contraction cut at the mixers' borders, the first mixer's channels in two halves. -/
theorem mix_eq (a : Fin 256 → EReal) (b : Fin 512 → EReal) (s : Fin 256 → EReal) (g w : Fin 1024 → EReal) :
    (∑ x : Fin 128, a ⟨x.val, by omega⟩ * sil (g ⟨x.val, by omega⟩) * w ⟨x.val, by omega⟩)
      + (∑ x : Fin 128, a ⟨128 + x.val, by omega⟩ * sil (g ⟨128 + x.val, by omega⟩) * w ⟨128 + x.val, by omega⟩)
      + (∑ x : Fin 512, b x * sil (g ⟨256 + x.val, by omega⟩) * w ⟨256 + x.val, by omega⟩)
      + (∑ x : Fin 256, s x * sil (g ⟨768 + x.val, by omega⟩) * w ⟨768 + x.val, by omega⟩) = mix a b s g w := by
  unfold mix
  rw [Fin.sum_univ_two_halves 256 768 rfl, Fin.sum_univ_two_halves (N := 768) 512 256 rfl, ← add_assoc]
  refine congrArg₂ (· + ·) (congrArg₂ (· + ·) ?_ ?_) ?_
  · rw [Fin.sum_univ_two_halves (N := 256) 128 128 rfl]
    refine congrArg₂ (· + ·) ?_ ?_ <;> refine Finset.sum_congr rfl fun x _ => ?_
    · rw [dif_pos (by dsimp only; omega)]
    · rw [dif_pos (by dsimp only; omega)]
  · refine Finset.sum_congr rfl fun x _ => ?_
    rw [dif_neg (by dsimp only; omega), dif_pos (by dsimp only; omega)]
    simp only [Nat.add_sub_cancel_left]
  · refine Finset.sum_congr rfl fun x _ => ?_
    rw [dif_neg (by dsimp only; omega), dif_neg (by dsimp only; omega)]
    simp only [← Nat.add_assoc, Nat.reduceAdd]
    exact congrArg (fun y => s y * _ * _) (Fin.ext (by dsimp only; omega))

/-- A row divided by its root mean square, at one position, times a gain. -/
def rms (y : Fin 1024 → EReal) (g : EReal) (k : Fin 1024) : EReal :=
  y k * Ideal.rsqrt (Ideal.div (∑ x, y x * y x) (Ideal.ofBits .f32 1149239296) + Ideal.ofBits .f32 897988541) * g

/-- The residual stream after a layer, at sample `b`, token `l` (row `r` of the matrices), channel `k`: the input plus the
    sample's gate times the projection of the three mixers' channels. -/
def res {B L : ℕ} (x : D3 B L 1024) (yh : D4 B 2 L 128) (yn : D2 8192 512) (ys : D2 8192 256) (g : D2 8192 1024)
    (gate : Fin 1024 → EReal) (w : D2 1024 1024) (b : Fin B) (l : Fin L) (r : Fin 8192) (k : Fin 1024) : EReal :=
  x (ix3 b l k) + gate k *
    mix (fun q => yh (ix4 b ⟨q.val / 128, by omega⟩ l ⟨q.val % 128, by omega⟩)) (fun q => yn (ix2 r q))
      (fun q => ys (ix2 r q)) (fun q => g (ix2 r q)) (fun q => w (ix2 q k))

/-- The residual stream of the context tokens; their modulation row is the first. -/
def cres (x : D3 32 256 1024) (yh : D4 32 2 256 128) (yn : D2 8192 512) (ys : D2 8192 256) (g : D2 8192 1024) (mod : D2 3 3072)
    (w : D2 1024 1024) (r : Fin 8192) (k : Fin 1024) : EReal :=
  res x yh yn ys g (fun k => mod (ix2 0 ⟨2048 + k.val, by omega⟩)) w
    ⟨r.val / 256, by omega⟩ ⟨r.val % 256, by omega⟩ r k

/-- The residual stream of the latent tokens; the modulation row of sample `b` is `1 + b`. -/
def lres (x : D3 2 4096 1024) (yh : D4 2 2 4096 128) (yn : D2 8192 512) (ys : D2 8192 256) (g : D2 8192 1024) (mod : D2 3 3072)
    (w : D2 1024 1024) (r : Fin 8192) (k : Fin 1024) : EReal :=
  res x yh yn ys g (fun k => mod (ix2 ⟨1 + r.val / 4096, by omega⟩ ⟨2048 + k.val, by omega⟩)) w
    ⟨r.val / 4096, by omega⟩ ⟨r.val % 4096, by omega⟩ r k

end Cert.Rows
-- ==== Proof.Soft.lean ====
module

public import proofs.«01_k».proof.Proof.Rows

/-! The softmax of a row of finite scores against a column of values, divided once at the end or entry by entry, and the
    two heads that share 128 lanes. -/

@[expose] public section

set_option maxRecDepth 16384

noncomputable section

namespace Cert.Soft
open Idealize.ShloMosaic

/-- The word that selects half `h` of the 128 lanes, as the launch computes it. -/
def lane (h : BitVec 32) (j : Fin 128) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32))
    h

theorem lane0 : ∀ j : Fin 128, lane 0#32 j = if j.val < 64 then 1#1 else 0#1 := by decide +kernel

theorem lane1 : ∀ j : Fin 128, lane 1#32 j = if j.val < 64 then 0#1 else 1#1 := by decide +kernel

/-- The score of a query against key `x`. -/
def score (q : Fin 64 → EReal) (k : Fin 256 → Fin 64 → EReal) (x : Fin 256) : EReal :=
  (∑ d, q d * k x d) * Ideal.ofBits FTy.f32 1040187392#32

/-- The largest score. -/
def top (s : Fin 256 → EReal) : EReal := Finset.fold max (Ideal.ofBits FTy.f32 4286578688#32) s Finset.univ

/-- The softmax of the scores against a column of the values, each weight divided by the sum. -/
def soft (s v : Fin 256 → EReal) : EReal :=
  ∑ x, Ideal.div (Ideal.exp (s x - max (Ideal.ofBits FTy.f32 4286578688#32) (top s)))
    (∑ y, Ideal.exp (s y - max (Ideal.ofBits FTy.f32 4286578688#32) (top s))) * v x

/-- The score of a query against key `x` over the lanes that a mask selects. -/
def mscore (h : BitVec 32) (q : Fin 128 → EReal) (k : Fin 256 → Fin 128 → EReal) (x : Fin 256) : EReal :=
  (∑ d, Scalar.select (lane h d) (q d * k x d) 0) * Ideal.ofBits FTy.f32 1040187392#32

/-- One head of a pair at lane `l`: masked scores, masked values, one reciprocal at the end. -/
def head (h : BitVec 32) (q : Fin 128 → EReal) (k : Fin 256 → Fin 128 → EReal) (v : Fin 256 → EReal) (l : Fin 128) : EReal :=
  (∑ x, Scalar.select (lane h l) (Ideal.exp (mscore h q k x - top (mscore h q k)) * v x) 0)
    * Ideal.div 1 (∑ x, Ideal.exp (mscore h q k x - top (mscore h q k)))

theorem low_eq : Ideal.ofBits FTy.f32 4286578688#32 = ⊥ := by
  simp [Ideal.ofBits, Ideal.ieee]

theorem eighth : ∃ r : ℝ, Ideal.ofBits FTy.f32 1040187392#32 = r := by
  simp only [Ideal.ofBits, Ideal.ieee]
  split
  · rename_i h; exact absurd h (by decide)
  · split <;> exact ⟨_, rfl⟩

/-- A finite sum of reals is real. -/
theorem sum_real {n : ℕ} (f : Fin n → EReal) (r : Fin n → ℝ) (h : ∀ x, f x = r x) : ∑ x, f x = ((∑ x, r x : ℝ) : EReal) := by
  rw [funext h]
  induction (Finset.univ : Finset (Fin n)) using Finset.induction_on with
  | empty => simp
  | insert a s ha ih => rw [Finset.sum_insert ha, Finset.sum_insert ha, ih, EReal.coe_add]

/-- A nonnegative real distributes over a sum of extended reals. -/
theorem sum_mul_real {n : ℕ} (f : Fin n → EReal) (c : ℝ) (hc : 0 ≤ c) : (∑ x, f x) * (c : EReal) = ∑ x, f x * (c : EReal) := by
  induction (Finset.univ : Finset (Fin n)) using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- The largest of finitely many real scores is real. -/
theorem top_real (s : Fin 256 → EReal) (hs : ∀ x, ∃ r : ℝ, s x = r) : ∃ r : ℝ, top s = r := by
  have e : top s = Finset.univ.sup s := by unfold top; rw [low_eq]; rfl
  obtain ⟨i, _, h⟩ := Finset.exists_mem_eq_sup (Finset.univ : Finset (Fin 256)) ⟨0, Finset.mem_univ _⟩ s
  rw [e, h]; exact hs i

/-- Scores of real queries and keys are real. -/
theorem score_real (q : Fin 64 → EReal) (k : Fin 256 → Fin 64 → EReal) (hq : ∀ d, ∃ r : ℝ, q d = r)
    (hk : ∀ x d, ∃ r : ℝ, k x d = r) (x : Fin 256) : ∃ r : ℝ, score q k x = r := by
  choose a ha using hq
  choose b hb using hk
  obtain ⟨c, hc⟩ := eighth
  refine ⟨(∑ d, a d * b x d) * c, ?_⟩
  unfold score
  rw [hc, sum_real _ (fun d => a d * b x d) (fun d => by rw [ha, hb, EReal.coe_mul]), EReal.coe_mul]

/-- Dividing once at the end is dividing every weight. -/
theorem soft_eq (s v : Fin 256 → EReal) (hs : ∀ x, ∃ r : ℝ, s x = r) :
    (∑ x, Ideal.exp (s x - top s) * v x) * Ideal.div 1 (∑ x, Ideal.exp (s x - top s)) = soft s v := by
  obtain ⟨M, hM⟩ := top_real s hs
  choose r hr using hs
  have he : ∀ x, Ideal.exp (s x - top s) = ((Real.exp (r x - M) : ℝ) : EReal) := fun x => by
    rw [hM, hr, ← EReal.coe_sub]; rfl
  unfold soft
  rw [low_eq, max_eq_right (bot_le : ⊥ ≤ top s), sum_real _ _ he]
  have hD : 0 < ∑ x, Real.exp (r x - M) := Finset.sum_pos (fun x _ => Real.exp_pos _) ⟨0, Finset.mem_univ _⟩
  have hd : ∀ a : EReal, Ideal.div a ((∑ x, Real.exp (r x - M) : ℝ) : EReal) = a * (((∑ x, Real.exp (r x - M))⁻¹ : ℝ) : EReal) := by
    intro a
    unfold Ideal.div
    rw [if_neg (by exact_mod_cast hD.ne'), EReal.coe_inv]
  rw [hd, one_mul, sum_mul_real _ _ (inv_nonneg.mpr hD.le)]
  refine Finset.sum_congr rfl fun x _ => ?_
  rw [hd, mul_right_comm]

/-- The first half's masked score is the score of its 64 lanes. -/
theorem mscore0 (q : Fin 128 → EReal) (k : Fin 256 → Fin 128 → EReal) :
    mscore 0#32 q k = score (fun d => q ⟨d.val, by omega⟩) (fun x d => k x ⟨d.val, by omega⟩) := by
  funext x
  unfold mscore score
  refine congrArg (· * _) ?_
  rw [Fin.sum_univ_two_halves 64 64 rfl]
  refine (congrArg₂ (· + ·) (Finset.sum_congr rfl fun d _ => ?_) (Finset.sum_eq_zero fun d _ => ?_)).trans (add_zero _)
  · rw [lane0, if_pos d.isLt]; rfl
  · rw [lane0, if_neg (by simp)]; rfl

/-- The second half's masked score is the score of its 64 lanes. -/
theorem mscore1 (q : Fin 128 → EReal) (k : Fin 256 → Fin 128 → EReal) :
    mscore 1#32 q k = score (fun d => q ⟨64 + d.val, by omega⟩) (fun x d => k x ⟨64 + d.val, by omega⟩) := by
  funext x
  unfold mscore score
  refine congrArg (· * _) ?_
  rw [Fin.sum_univ_two_halves 64 64 rfl]
  refine (congrArg₂ (· + ·) (Finset.sum_eq_zero fun d _ => ?_) (Finset.sum_congr rfl fun d _ => ?_)).trans (zero_add _)
  · rw [lane1, if_pos d.isLt]; rfl
  · rw [lane1, if_neg (by simp)]; rfl

/-- The two heads of a pair at lane `l`. -/
def pair (q : Fin 128 → EReal) (k : Fin 256 → Fin 128 → EReal) (v : Fin 256 → EReal) (l : Fin 128) : EReal :=
  head 0#32 q k v l + head 1#32 q k v l

/-- At lane `l` the pair is the head that owns the lane: its 64 lanes begin at `l / 64 * 64`. -/
theorem pair_eq (q : Fin 128 → EReal) (k : Fin 256 → Fin 128 → EReal) (v : Fin 256 → EReal) (l : Fin 128)
    (hq : ∀ d, ∃ r : ℝ, q d = r) (hk : ∀ x d, ∃ r : ℝ, k x d = r) :
    pair q k v l = soft (score (fun d => q ⟨l.val / 64 * 64 + d.val, by omega⟩)
      (fun x d => k x ⟨l.val / 64 * 64 + d.val, by omega⟩)) v := by
  unfold pair head
  rw [lane0, lane1, mscore0, mscore1]
  by_cases hl : l.val < 64
  · rw [if_pos hl, if_pos hl]
    have e : l.val / 64 * 64 = 0 := by omega
    simp only [e, zero_add]
    refine (congrArg₂ (· + ·) (soft_eq _ v fun x => score_real _ _ (fun d => hq _) (fun x d => hk x _) x)
      ((congrArg (· * _) (Finset.sum_eq_zero fun x _ => rfl)).trans (zero_mul _))).trans (add_zero _)
  · rw [if_neg hl, if_neg hl]
    have e : l.val / 64 * 64 = 64 := by omega
    simp only [e]
    refine (congrArg₂ (· + ·) ((congrArg (· * _) (Finset.sum_eq_zero fun x _ => rfl)).trans (zero_mul _))
      (soft_eq _ v fun x => score_real _ _ (fun d => hq _) (fun x d => hk x _) x)).trans (zero_add _)

/-- The attention over the qkv rows of each batch of 256 tokens: channel `i 1` belongs to the head whose 64 channels
    begin at `i 1 / 64 * 64`. -/
def att (x : Rows.D2 8192 1536) : Rows.D2 8192 512 := fun i =>
  soft (score (fun d => x (ix2 (i 0) ⟨(i 1).val / 64 * 64 + d.val, by have : (i 1).val < 512 := (i 1).isLt; omega⟩))
      (fun y d => x (ix2 ⟨(i 0).val / 256 * 256 + y.val, by have : (i 0).val < 8192 := (i 0).isLt; omega⟩
        ⟨512 + ((i 1).val / 64 * 64 + d.val), by have : (i 1).val < 512 := (i 1).isLt; omega⟩)))
    (fun y => x (ix2 ⟨(i 0).val / 256 * 256 + y.val, by have : (i 0).val < 8192 := (i 0).isLt; omega⟩
      ⟨1024 + (i 1).val, by have : (i 1).val < 512 := (i 1).isLt; omega⟩))

/-- A box of five axes. -/
abbrev D5 (a b c d e : ℕ) := (⟨5, ![a, b, c, d, e]⟩ : Shape).Idx → EReal

/-- The columns of the qkv rows from `off` on as a cache row: head, channel, token. -/
def keep (off : ℕ) (hoff : off ≤ 1024) (x : Rows.D2 8192 1536) (b : Fin 32) (h : Fin 8) (d : Fin 64) (l : Fin 256) : EReal :=
  x (ix2 ⟨b.val * 256 + l.val, by omega⟩ ⟨off + (h.val * 64 + d.val), by omega⟩)

/-- A cache whose row `r` holds the columns from `off` on and whose other rows are another cache's. -/
def cache (r off : ℕ) (hoff : off ≤ 1024) (x : Rows.D2 8192 1536) (prev : D5 32 2 8 64 256) : D5 32 2 8 64 256 := fun i =>
  if (i 1).val = r then keep off hoff x (i 0) (i 2) (i 3) (i 4) else prev i

/-- Every query and every key of the qkv rows is a real number. -/
def Fine (x : Rows.D2 8192 1536) : Prop := ∀ (r : Fin 8192) (k : Fin 1536), k.val < 1024 → ∃ a : ℝ, x (ix2 r k) = a

/-- The pair of heads that the columns `o` to `o + 127` of batch `t` make, at row `p` and lane `l`, is the attention there. -/
theorem pair_at (x : Rows.D2 8192 1536) (hx : Fine x) (t o : ℕ) (ht : t < 32) (ho : o ≤ 384) (hm : o % 64 = 0)
    (q k v : Rows.D2 256 128)
    (hq : ∀ (p : Fin 256) (l : Fin 128), q (ix2 p l) = x (ix2 ⟨t * 256 + p.val, by omega⟩ ⟨o + l.val, by omega⟩))
    (hk : ∀ (p : Fin 256) (l : Fin 128), k (ix2 p l) = x (ix2 ⟨t * 256 + p.val, by omega⟩ ⟨512 + (o + l.val), by omega⟩))
    (hv : ∀ (p : Fin 256) (l : Fin 128), v (ix2 p l) = x (ix2 ⟨t * 256 + p.val, by omega⟩ ⟨1024 + (o + l.val), by omega⟩))
    (p : Fin 256) (l : Fin 128) (i : Fin 8192) (j : Fin 512) (hi : i.val = t * 256 + p.val) (hj : j.val = o + l.val) :
    pair (fun d => q (ix2 p d)) (fun r d => k (ix2 r d)) (fun r => v (ix2 r l)) l = att x (ix2 i j) := by
  rw [pair_eq _ _ _ _ (fun d => by rw [hq]; exact hx _ _ (by show o + d.val < 1024; omega))
    (fun r d => by rw [hk]; exact hx _ _ (by show 512 + (o + d.val) < 1024; omega))]
  refine congrArg₂ soft (congrArg₂ score (funext fun d => (hq _ _).trans (congrArg x (congrArg₂ ix2 (Fin.ext ?_) (Fin.ext ?_))))
    (funext fun r => funext fun d => (hk _ _).trans (congrArg x (congrArg₂ ix2 (Fin.ext ?_) (Fin.ext ?_)))))
    (funext fun r => (hv _ _).trans (congrArg x (congrArg₂ ix2 (Fin.ext ?_) (Fin.ext ?_))))
  · exact hi.symm
  · show o + (l.val / 64 * 64 + d.val) = j.val / 64 * 64 + d.val
    omega
  · show t * 256 + r.val = i.val / 256 * 256 + r.val
    omega
  · show 512 + (o + (l.val / 64 * 64 + d.val)) = 512 + (j.val / 64 * 64 + d.val)
    omega
  · show t * 256 + r.val = i.val / 256 * 256 + r.val
    omega
  · show 1024 + (o + l.val) = 1024 + j.val
    omega

end Cert.Soft
-- ==== Proof.CtxPre.lean ====
module

public import proofs.«01_k».proof.Proof.Soft
public import proofs.«01_k».proof.Pre_finite_first
public import proofs.«01_k».proof.Pre_finite_next
public import Idealize.ShloMosaic.Lib.Tactic.CleanTypes

/-! What the context attention's preconditions say: every query and every key is a real number. -/

@[expose] public section

set_option maxRecDepth 16384

noncomputable section

namespace Cert.CtxPre
open Idealize.ShloMosaic Idealize.ShloMosaic.TcCoe Idealize.SL.Sem
open Cert.Rows Cert.Soft

theorem factsFirst : Cert.Pre_finite_first.Facts := ⟨by decide, by decide⟩

theorem factsNext : Cert.Pre_finite_next.Facts := ⟨by decide, by decide⟩

/-- A magnitude below infinity is a real number's. -/
theorem real_of_abs (a : EReal) (h : max a (-a) < ⊤) : ∃ r : ℝ, a = r := by
  induction a using EReal.rec with
  | bot => simp at h
  | coe r => exact ⟨r, rfl⟩
  | top => simp at h

theorem inf_eq : Ideal.ofBits FTy.f32 2139095040#32 = ⊤ := by
  simp [Ideal.ofBits, Ideal.ieee]

/-- A comparison's word that reads one says the comparison holds. -/
theorem lt_of_word (a b : EReal) (h : BitVec.ofBool (decide (a < b)) = 1#1) : a < b := by
  by_contra n
  rw [decide_eq_false n] at h
  exact absurd h (by decide)

theorem fineFirst (x : D2 8192 1536) (h : @Cert.Pre_finite_first.fn factsFirst Ideal _ x = fun _ => 1#1) : Fine x := by
  intro r k hk
  refine real_of_abs _ (lt_of_lt_of_eq (lt_of_word _ _ ?_) inf_eq)
  refine Eq.trans (Eq.symm ?_) (congrFun h (ix2 r (⟨k.val, hk⟩ : Fin 1024)))
  unfold Cert.Pre_finite_first.fn
  dsimp only
  pointwise []
  rfl

theorem fineNext (x : D2 8192 1536) (p q : D5 32 2 8 64 256) (h : @Cert.Pre_finite_next.fn factsNext Ideal _ x p q = fun _ => 1#1) : Fine x := by
  intro r k hk
  refine real_of_abs _ (lt_of_lt_of_eq (lt_of_word _ _ ?_) inf_eq)
  refine Eq.trans (Eq.symm ?_) (congrFun h (ix2 r (⟨k.val, hk⟩ : Fin 1024)))
  unfold Cert.Pre_finite_next.fn
  dsimp only
  pointwise []
  rfl

end Cert.CtxPre
-- ==== Proof.ModValue.lean ====
module

public import proofs.«01_k».proof.Proof.Rows
public import proofs.«01_k».proof.Proof.Gen.ModIdeal.Value
public import proofs.«01_k».proof.Proof.Gen.ModRefIdeal.Run
public import Idealize.ShloMosaic.Lib.Routing.OpsSet
public import Idealize.ShloMosaic.Lib.Routing.OpsPair
public import Idealize.ShloMosaic.Lib.Tactic.CleanTypes

/-! The modulation of both layers: what the launch writes, and what the reference computes, are both the array `M` of
    this module, a gated condition row against one weight column, plus the bias. -/

@[expose] public section

set_option maxRecDepth 16384

noncomputable section

namespace Cert.ModValue
open Idealize.ShloMosaic Idealize.ShloMosaic.TcCoe Idealize.SL.Sem
open Idealize.ShloMosaic.Routing
open Cert.ModIdeal Cert.ModIdeal.Gen Cert.Rows

/-- The eight condition rows: the context's, the two latent sequences', and five rows of zeros. -/
def cond (a : D1 1024) (b : D2 2 1024) (r : Fin 8) (k : Fin 1024) : EReal :=
  if _h : r.val < 1 then a (ix1 k) else if h : r.val - 1 < 2 then b (ix2 ⟨r.val - 1, h⟩ k) else 0

/-- Layer `l`'s modulation row `r` at column `n`. -/
def M (a : D1 1024) (b : D2 2 1024) (w : D3 2 1024 3072) (s : D2 2 3072) : D3 2 8 3072 :=
  fun i => (∑ k, sil (cond a b (i 1) k) * w (ix3 (i 0) k (i 2))) + s (ix2 (i 0) (i 2))

/-- Every condition and every weight is a real number. -/
def Fine (a : D1 1024) (b : D2 2 1024) (w : D3 2 1024 3072) : Prop :=
  (∀ k, ∃ r : ℝ, a (ix1 k) = r) ∧ (∀ p k, ∃ r : ℝ, b (ix2 p k) = r) ∧ ∀ l k n, ∃ r : ℝ, w (ix3 l k n) = r

/-- The gate of a real number is a real number. -/
theorem sil_real (r : ℝ) : ∃ q : ℝ, sil r = q := by
  have h : (1 + Real.exp (-r)) ≠ 0 := by positivity
  refine ⟨r * (1 / (1 + Real.exp (-r))), ?_⟩
  unfold sil
  rw [← EReal.coe_neg]
  show (r : EReal) * Ideal.div 1 (1 + ((Real.exp (-r) : ℝ) : EReal)) = _
  rw [← EReal.coe_one, ← EReal.coe_add, Ideal.div_coe h]
  simp

/-- A real number less itself. -/
theorem sub_real {a : EReal} (h : ∃ r : ℝ, a = r) : a - a = 0 := by
  obtain ⟨r, rfl⟩ := h
  exact EReal.sub_self (EReal.coe_ne_top r) (EReal.coe_ne_bot r)

/-- Three products of two numbers cut into a leading part and a rest are one product, where the rests are zero. -/
theorem three {n : ℕ} (a b : Fin n → EReal) (ha : ∀ k, ∃ r : ℝ, a k = r) (hb : ∀ k, ∃ r : ℝ, b k = r) :
    (∑ k, a k * b k) + (∑ k, a k * (b k - b k)) + (∑ k, (a k - a k) * b k) = ∑ k, a k * b k := by
  have e1 : ∑ k, a k * (b k - b k) = 0 := Finset.sum_eq_zero fun k _ => by rw [sub_real (hb k), mul_zero]
  have e2 : ∑ k, (a k - a k) * b k = 0 := Finset.sum_eq_zero fun k _ => by rw [sub_real (ha k), zero_mul]
  rw [e1, e2, add_zero, add_zero]

section Kernel

variable (m : (ℓ : Loc nD τ sig) → Buf (Elt Ideal) ℓ)

/-- Where each window's block lies at grid point `t`. -/
theorem idx : ∀ t : Fin grid0.N, win0_0.index t = ![0, 0] ∧ win0_1.index t = ![t.val / 6, 0, t.val % 6]
   ∧ win0_2.index t = ![t.val / 6, 0, t.val % 6] ∧ win0_3.index t = ![t.val / 6, 0, t.val % 6] := by decide +kernel

/-- The rows that the host writes into the zero matrix. -/
def rows (a : D1 1024) (b : D2 2 1024) : D2 8 1024 :=
  Host.scatter scatter_S8x1024_S1_S2x1024_01_n_0_0 (fun _ b => b)
    (Host.scatter scatter_S8x1024_S1_S1024_0_0_0_0 (fun _ b => b)
      (broadcastInDim S8x1024 ![] Facts₀.bcast_S_S8x1024 (constant S_ .f32 0x00000000#32 : FVec Ideal S_ .f32))
      (broadcastInDim S1 ![] Facts₀.bcast_S_S1 (constantI S_ 32 0#32)) a)
    (broadcastInDim S1 ![] Facts₀.bcast_S_S1 (constantI S_ 32 1#32)) b

theorem lands1 (j : S1024.Idx) (i : IVec S1 32) (hi : i (ix1 (0 : Fin 1)) = 0#32) (r : Fin 8) (k : Fin 1024) :
    scatter_S8x1024_S1_S1024_0_0_0_0.resultIdx? j i = some (ix2 r k) ↔ r.val = 0 ∧ (j 0).val = k.val := by
  refine (resultIdx?_ix2 _ j i r k).trans ?_
  have s0 : scatter_S8x1024_S1_S1024_0_0_0_0.start j i 0 = 0 := by
    unfold ScatterDims.start
    rw [dif_pos (by decide)]
    have e : ∀ x : S1.Idx, i x = 0#32 := fun x => by
      rw [show x = ix1 (0 : Fin 1) from by funext b; match b with | ⟨0, _⟩ => exact Subsingleton.elim (α := Fin 1) _ _, hi]
    rw [e]; rfl
  have s1 : scatter_S8x1024_S1_S1024_0_0_0_0.start j i 1 = 0 := by
    unfold ScatterDims.start
    rw [dif_neg (by decide)]
  have w0 : scatter_S8x1024_S1_S1024_0_0_0_0.window j 0 = 0 := by
    unfold ScatterDims.window
    rw [dif_neg (by decide)]
  have w1 : scatter_S8x1024_S1_S1024_0_0_0_0.window j 1 = (j 0).val := by
    unfold ScatterDims.window
    rw [dif_pos (by decide)]
    rfl
  rw [s0, s1, w0, w1]
  omega

theorem lands2 (j : S2x1024.Idx) (i : IVec S1 32) (hi : i (ix1 (0 : Fin 1)) = 1#32) (r : Fin 8) (k : Fin 1024) :
    scatter_S8x1024_S1_S2x1024_01_n_0_0.resultIdx? j i = some (ix2 r k) ↔ r.val = (j 0).val + 1 ∧ (j 1).val = k.val := by
  refine (resultIdx?_ix2 _ j i r k).trans ?_
  have s0 : scatter_S8x1024_S1_S2x1024_01_n_0_0.start j i 0 = 1 := by
    unfold ScatterDims.start
    rw [dif_pos (by decide)]
    have e : ∀ x : S1.Idx, i x = 1#32 := fun x => by
      rw [show x = ix1 (0 : Fin 1) from by funext b; match b with | ⟨0, _⟩ => exact Subsingleton.elim (α := Fin 1) _ _, hi]
    rw [e]; rfl
  have s1 : scatter_S8x1024_S1_S2x1024_01_n_0_0.start j i 1 = 0 := by
    unfold ScatterDims.start
    rw [dif_neg (by decide)]
  have w0 : scatter_S8x1024_S1_S2x1024_01_n_0_0.window j 0 = (j 0).val := by
    unfold ScatterDims.window
    rw [dif_pos (by decide)]
    rfl
  have w1 : scatter_S8x1024_S1_S2x1024_01_n_0_0.window j 1 = (j 1).val := by
    unfold ScatterDims.window
    rw [dif_pos (by decide)]
    rfl
  rw [s0, s1, w0, w1]
  omega

/-- They are the condition rows. -/
theorem rows_at (a : D1 1024) (b : D2 2 1024) (r : Fin 8) (k : Fin 1024) : rows a b (ix2 r k) = cond a b r k := by
  unfold rows cond
  by_cases h0 : r.val < 1
  · rw [dif_pos h0, scatter_set_miss _ _ _ _ _ fun j hj => by have := ((lands2 j _ rfl r k).1 hj).1; omega]
    refine scatter_set_hit _ _ _ _ _ _ (fun j hj => ?_) (ix1 k) ((lands1 _ _ rfl r k).2 ⟨by omega, rfl⟩)
    have h := ((lands1 j _ rfl r k).1 hj).2
    congr 1; funext x; match x with | ⟨0, _⟩ => exact Fin.ext h
  · rw [dif_neg h0]
    by_cases h1 : r.val - 1 < 2
    · rw [dif_pos h1]
      refine scatter_set_hit _ _ _ _ _ _ (fun j hj => ?_) (ix2 ⟨r.val - 1, h1⟩ k)
        ((lands2 _ _ rfl r k).2 ⟨by show r.val = r.val - 1 + 1; omega, rfl⟩)
      obtain ⟨h, h'⟩ := (lands2 j _ rfl r k).1 hj
      congr 1; funext x
      match x with
      | ⟨0, _⟩ => exact Fin.ext (by show (j 0).val = r.val - 1; omega)
      | ⟨1, _⟩ => exact Fin.ext h'
    · rw [dif_neg h1, scatter_set_miss _ _ _ _ _ fun j hj => by
          have := ((lands2 j _ rfl r k).1 hj).1
          have q : (j 0).val < 2 := (j 0).isLt
          omega,
        scatter_set_miss _ _ _ _ _ fun j hj => by have := ((lands1 j _ rfl r k).1 hj).1; omega]
      pointwise []

/-- The array `M` of the launch's arguments. -/
abbrev KM (c : Dev nD) : D3 2 8 3072 :=
  M (m ((c : Thread nD τ).loc main_arg0)) (m ((c : Thread nD τ).loc main_arg1)) (m ((c : Thread nD τ).loc main_arg2))
    (m ((c : Thread nD τ).loc main_arg3))

/-- They are what the launch finds as its first operand. -/
theorem V_rows (c : Dev nD) : V m c main_v4 = rows (m ((c : Thread nD τ).loc main_arg0)) (m ((c : Thread nD τ).loc main_arg1)) := by
  simp only [V, hostOps0, List.flatten_cons, List.flatten_nil, List.append_nil, List.cons_append, List.nil_append]
  after_results_simp
  rfl

/-- The first window's block is the condition rows. -/
theorem x_at (c : Dev nD) (t : Fin cfg0.N) (r : Fin 8) (k : Fin 1024) :
    iblk m c 0 t (ix2 r k) = cond (m ((c : Thread nD τ).loc main_arg0)) (m ((c : Thread nD τ).loc main_arg1)) r k := by
  rw [← rows_at, ← V_rows m c]
  unfold iblk
  generalize V m c = v
  blk_ext [idx t]

/-- The second window's block is six columns of blocks of one layer's weight. -/
theorem w_at (c : Dev nD) (t : Fin cfg0.N) (k : Fin 1024) (q : Fin 512) (l : Fin 2) (n : Fin 3072)
    (hl : l.val = t.val / 6) (hn : n.val = t.val % 6 * 512 + q.val) :
    iblk m c 1 t (ix3 (0 : Fin 1) k q) = m ((c : Thread nD τ).loc main_arg2) (ix3 l k n) := by
  blk_ext [iblk, V, idx t]

theorem b_at (c : Dev nD) (t : Fin cfg0.N) (q : Fin 512) (l : Fin 2) (n : Fin 3072)
    (hl : l.val = t.val / 6) (hn : n.val = t.val % 6 * 512 + q.val) :
    iblk m c 2 t (ix3 (0 : Fin 1) (0 : Fin 1) q) = m ((c : Thread nD τ).loc main_arg3) (ix2 l n) := by
  blk_point [iblk, V, idx t]

/-- What grid point `t` leaves in the output window's buffer, at an index of the array. -/
theorem out3 (c : Dev nD) (t : Fin cfg0.N) (y : S1x8x512.Idx) (i : S2x8x3072.Idx)
    (h0' : (i 0).val = t.val / 6) (h1' : (i 1).val = (y 1).val) (h2' : (i 2).val = t.val % 6 * 512 + (y 2).val)
    (hf : Fine (m ((c : Thread nD τ).loc main_arg0)) (m ((c : Thread nD τ).loc main_arg1)) (m ((c : Thread nD τ).loc main_arg2))) :
    out0_3 (iblk m c 0 t) (iblk m c 1 t) (iblk m c 2 t) y = KM m c i := by
  unfold out0_3
  canon_tiles x h
  idx_vars x
  pointwise [k0_pay1]
  rw [b_at m c t x2 (i 0) (i 2) h0' (by rw [h2', h2])]
  simp only [x_at m c t, w_at m c t _ x2 (i 0) (i 2) h0' (by rw [h2', h2]), sil_eq]
  obtain ⟨ha, hb, hw⟩ := hf
  refine (congrArg (· + _) (three (fun k => sil (cond _ _ x1 k)) (fun k => _) (fun k => ?_) fun k => hw _ _ _)).trans ?_
  · unfold cond
    split
    · obtain ⟨r, e⟩ := ha k; rw [e]; exact sil_real r
    · split
      · obtain ⟨r, e⟩ := hb ⟨x1.val - 1, by assumption⟩ k; rw [e]; exact sil_real r
      · exact sil_real 0
  · show _ = KM m c i
    unfold KM M
    rw [show i 1 = x1 from Fin.ext (by rw [h1', h1])]

/-- The launch's output array. -/
theorem arr3 (c : Dev nD)
    (hf : Fine (m ((c : Thread nD τ).loc main_arg0)) (m ((c : Thread nD τ).loc main_arg1)) (m ((c : Thread nD τ).loc main_arg2))) :
    (dats m 0 c).arrAt 3 cfg0.N = KM m c := by
  refine (dats m 0 c).arrAt_eq_of_covers 3 _ (by decide +kernel) fun t ht y => ?_
  blk_simp
  rw [after0_3]
  refine out3 m c t y _ ?_ ?_ ?_ hf
  · blk_simp [idx t]
  · blk_simp [idx t]
  · blk_simp [idx t]

end Kernel

section Reference

variable (m : (ℓ : Loc Cert.ModRefIdeal.nD Cert.ModRefIdeal.τ Cert.ModRefIdeal.sig) → Buf (Elt Ideal) ℓ)

/-- The array `M` of the reference's arguments. -/
abbrev RM (c : Dev Cert.ModRefIdeal.nD) : D3 2 8 3072 :=
  M (m ((c.tc : Thread Cert.ModRefIdeal.nD Cert.ModRefIdeal.τ).loc Cert.ModRefIdeal.main_arg0))
    (m ((c.tc : Thread Cert.ModRefIdeal.nD Cert.ModRefIdeal.τ).loc Cert.ModRefIdeal.main_arg1))
    (m ((c.tc : Thread Cert.ModRefIdeal.nD Cert.ModRefIdeal.τ).loc Cert.ModRefIdeal.main_arg2))
    (m ((c.tc : Thread Cert.ModRefIdeal.nD Cert.ModRefIdeal.τ).loc Cert.ModRefIdeal.main_arg3))

set_option maxHeartbeats 4000000 in
/-- The reference ends with `M`. -/
theorem runR (ρ : Dev Cert.ModRefIdeal.nD → PrngReg) :
    θ_run Cert.ModRefIdeal.defs (onTc (τ := Cert.ModRefIdeal.τ) (Cert.ModRefIdeal.main (F := Ideal)))
      ⟨m, fun _ => 0, ρ⟩ fun r => ∀ c : Dev Cert.ModRefIdeal.nD,
      r.2.mem ((c.tc : Thread Cert.ModRefIdeal.nD Cert.ModRefIdeal.τ).loc Cert.ModRefIdeal.main_v23) = RM m c
      ∧ r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3) := by
  refine Idealize.ShloMosaic.θ_run_mono (Cert.ModRefIdeal.Value.run m ρ) ?_
  intro r h c
  obtain ⟨h5, h⟩ := h c
  refine ⟨h5.trans ?_, h⟩
  funext (i : S2x8x3072.Idx)
  idx_vars i
  clean_types
  pointwise [M, sil, cond]
  by_cases h0 : i0.val < 1
  · obtain rfl : i0 = 0 := Fin.ext (by show i0.val = 0; omega)
    rfl
  · obtain rfl : i0 = 1 := Fin.ext (by show i0.val = 1; omega)
    rfl

end Reference

end Cert.ModValue
-- ==== Proof.ModPre.lean ====
module

public import proofs.«01_k».proof.Proof.CtxPre
public import proofs.«01_k».proof.Proof.ModValue
public import proofs.«01_k».proof.Pre_finite_mod

/-! What the modulation's precondition says: every condition and every weight is a real number. -/

@[expose] public section

set_option maxRecDepth 16384

noncomputable section

namespace Cert.ModPre
open Idealize.ShloMosaic Idealize.ShloMosaic.TcCoe Idealize.SL.Sem
open Cert.Rows Cert.ModValue Cert.CtxPre

theorem facts : Cert.Pre_finite_mod.Facts := by constructor <;> decide

/-- Words joined by `and` that read one each read one. -/
theorem and_one : ∀ x y : BitVec 1, IntOp.andi x y = 1#1 → x = 1#1 ∧ y = 1#1 := by decide

/-- The precondition at a layer, a channel and a column. -/
theorem at_one (a : D1 1024) (b : D2 2 1024) (w : D3 2 1024 3072) (s : D2 2 3072)
    (h : @Cert.Pre_finite_mod.fn facts Ideal _ a b w s = fun _ => 1#1) (l : Fin 2) (k : Fin 1024) (n : Fin 3072) :
    (∃ r : ℝ, w (ix3 l k n) = r) ∧ (∃ r : ℝ, b (ix2 l k) = r) ∧ ∃ r : ℝ, a (ix1 k) = r := by
  have q := congrFun h (ix3 l k n)
  unfold Cert.Pre_finite_mod.fn at q
  dsimp only at q
  have e : IntOp.andi (IntOp.andi
      (BitVec.ofBool (decide (max (w (ix3 l k n)) (-w (ix3 l k n)) < Ideal.ofBits FTy.f32 2139095040#32)))
      (BitVec.ofBool (decide (max (b (ix2 l k)) (-b (ix2 l k)) < Ideal.ofBits FTy.f32 2139095040#32))))
      (BitVec.ofBool (decide (max (a (ix1 k)) (-a (ix1 k)) < Ideal.ofBits FTy.f32 2139095040#32))) = 1#1 := by
    refine Eq.trans (Eq.symm ?_) q
    pointwise []
    rfl
  obtain ⟨e, ea⟩ := and_one _ _ e
  obtain ⟨ew, eb⟩ := and_one _ _ e
  exact ⟨real_of_abs _ (lt_of_lt_of_eq (lt_of_word _ _ ew) inf_eq), real_of_abs _ (lt_of_lt_of_eq (lt_of_word _ _ eb) inf_eq),
    real_of_abs _ (lt_of_lt_of_eq (lt_of_word _ _ ea) inf_eq)⟩

theorem fine (a : D1 1024) (b : D2 2 1024) (w : D3 2 1024 3072) (s : D2 2 3072)
    (h : @Cert.Pre_finite_mod.fn facts Ideal _ a b w s = fun _ => 1#1) : Fine a b w :=
  ⟨fun k => (at_one a b w s h 0 k 0).2.2, fun p k => (at_one a b w s h p k 0).2.1, fun l k n => (at_one a b w s h l k n).1⟩

end Cert.ModPre
-- ==== Proof.CtxRefValue.lean ====
module

public import proofs.«01_k».proof.Proof.Soft
public import proofs.«01_k».proof.Proof.Gen.CtxNextRefIdeal.Run
public import proofs.«01_k».proof.Proof.Gen.CtxFirstRefIdeal.Run
public import Idealize.ShloMosaic.Lib.Tactic.CleanTypes

/-! What the references of the context attention compute: the attention `att` and the caches. -/

@[expose] public section

set_option maxRecDepth 16384

noncomputable section

namespace Cert.CtxRefValue
open Idealize.ShloMosaic Idealize.ShloMosaic.TcCoe Idealize.SL.Sem
open Cert.Rows Cert.Soft

open Cert.CtxNextRefIdeal Cert.CtxNextRefIdeal.Gen Idealize.ShloMosaic.StableHlo

/-- The reference's scores, of every batch, head, query and key. -/
def rscore (x : FVec Ideal S8192x1536 .f32) : FVec Ideal S32x8x256x256 .f32 :=
  mulf ((Host.dotGeneral dot_S32x8x256x64_S32x8x256x64_S32x8x256x256_3_3_2_2_01_01 none ((transpose S32x8x256x64 [0, 2, 1, 3] (shapeCast _ (extractStridedSlice S32x256x512 ![0, 0, 0] (shapeCast _ x shapeCasts_S8192x1536_S32x256x1536) slices_S32x256x1536_S32x256x512_0_0_0) shapeCasts_S32x256x512_S32x256x8x64) transposes_S32x256x8x64_S32x8x256x64_0_2_1_3) : FVec Ideal S32x8x256x64 .f32) ((transpose S32x8x256x64 [0, 2, 1, 3] (shapeCast _ (extractStridedSlice S32x256x512 ![0, 0, 512] (shapeCast _ x shapeCasts_S8192x1536_S32x256x1536) slices_S32x256x1536_S32x256x512_0_0_512) shapeCasts_S32x256x512_S32x256x8x64) transposes_S32x256x8x64_S32x8x256x64_0_2_1_3) : FVec Ideal S32x8x256x64 .f32)) : FVec Ideal S32x8x256x256 .f32) ((broadcastInDim S32x8x256x256 ![] bcast_S_S32x8x256x256 (constant (F := Ideal) S_ .f32 0x3E000000#32)) : FVec Ideal S32x8x256x256 .f32)

/-- The reference's row maxima. -/
def rtop (s : FVec Ideal S32x8x256x256 .f32) : FVec Ideal S32x8x256 .f32 :=
  maximumf ((broadcastInDim S32x8x256 ![] bcast_S_S32x8x256 (constant (F := Ideal) S_ .f32 0xFF800000#32)) : FVec Ideal S32x8x256 .f32) (Host.reduce FloatOps.maximumf s (constant (F := Ideal) S_ .f32 0xFF800000#32) reducesTo_S32x8x256x256_S32x8x256_d3 h_S_)

/-- The reference's weights before they are divided. -/
def rexp (s : FVec Ideal S32x8x256x256 .f32) (t : FVec Ideal S32x8x256 .f32) : FVec Ideal S32x8x256x256 .f32 :=
  ((Host.exp (subf s ((broadcastInDim S32x8x256x256 ![0, 1, 2, 3] bcast_S32x8x256x1_S32x8x256x256_0_1_2_3 ((broadcastInDim S32x8x256x1 ![0, 1, 2] bcast_S32x8x256_S32x8x256x1_0_1_2 t) : FVec Ideal S32x8x256x1 .f32)) : FVec Ideal S32x8x256x256 .f32))) : FVec Ideal S32x8x256x256 .f32)

/-- The reference's sums of the weights. -/
def rsum (e : FVec Ideal S32x8x256x256 .f32) : FVec Ideal S32x8x256 .f32 :=
  Host.reduceAdd e (constant (F := Ideal) S_ .f32 0x00000000#32) reducesTo_S32x8x256x256_S32x8x256_d3 h_S_

/-- The reference's weights. -/
def rweight (e : FVec Ideal S32x8x256x256 .f32) (z : FVec Ideal S32x8x256 .f32) : FVec Ideal S32x8x256x256 .f32 :=
  ((Host.divf e ((broadcastInDim S32x8x256x256 ![0, 1, 2, 3] bcast_S32x8x256x1_S32x8x256x256_0_1_2_3 ((broadcastInDim S32x8x256x1 ![0, 1, 2] bcast_S32x8x256_S32x8x256x1_0_1_2 z) : FVec Ideal S32x8x256x1 .f32)) : FVec Ideal S32x8x256x256 .f32)) : FVec Ideal S32x8x256x256 .f32)

/-- The reference's weighted values, over any weights. -/
def rout (w : FVec Ideal S32x8x256x256 .f32) (x : FVec Ideal S8192x1536 .f32) : FVec Ideal S8192x512 .f32 :=
  shapeCast _ (shapeCast _ (transpose S32x256x8x64 [0, 2, 1, 3] ((Host.dotGeneral dot_S32x8x256x256_S32x8x256x64_S32x8x256x64_3_2_2_3_01_01 none w ((transpose S32x8x256x64 [0, 2, 1, 3] (shapeCast _ (extractStridedSlice S32x256x512 ![0, 0, 1024] (shapeCast _ x shapeCasts_S8192x1536_S32x256x1536) slices_S32x256x1536_S32x256x512_0_0_1024) shapeCasts_S32x256x512_S32x256x8x64) transposes_S32x256x8x64_S32x8x256x64_0_2_1_3) : FVec Ideal S32x8x256x64 .f32)) : FVec Ideal S32x8x256x64 .f32) transposes_S32x8x256x64_S32x256x8x64_0_2_1_3) shapeCasts_S32x256x8x64_S32x256x512) shapeCasts_S32x256x512_S8192x512

/-- The reference's weights of its scores. -/
abbrev rweights (s : FVec Ideal S32x8x256x256 .f32) : FVec Ideal S32x8x256x256 .f32 :=
  rweight (rexp s (rtop s)) (rsum (rexp s (rtop s)))

/-- The reference's scores are `score`. -/
theorem rscore_at (x : FVec Ideal S8192x1536 .f32) (b : Fin 32) (h : Fin 8) (q k : Fin 256) : rscore x (ix4 b h q k)
    = score (fun d => x (ix2 ⟨b.val * 256 + q.val, by omega⟩ ⟨h.val * 64 + d.val, by omega⟩))
      (fun y d => x (ix2 ⟨b.val * 256 + y.val, by omega⟩ ⟨512 + (h.val * 64 + d.val), by omega⟩)) k := by
  unfold rscore score
  clean_types
  pointwise []

/-- A maximum over the last of four axes. -/
theorem rowtop (a b d n : ℕ) (s : FVec Ideal (⟨4, ![a, b, d, n]⟩ : Shape) .f32) (c : FVec Ideal S_ .f32)
    (hr : (⟨4, ![a, b, d, n]⟩ : Shape).ReducesTo [3] (⟨3, ![a, b, d]⟩ : Shape)) (hu : 0 < S_.numel)
    (x : Fin a) (y : Fin b) (z : Fin d) :
    Host.reduce FloatOps.maximumf s c hr hu (ix3 x y z)
      = Finset.fold max (c (Shape.Idx.first hu)) (fun k : Fin n => s (ix4 x y z k)) Finset.univ := by
  simp only [pointwise]

theorem max_at (x y : FVec Ideal S32x8x256 .f32) (i : S32x8x256.Idx) (u v : EReal) (hu : x i = u) (hv : y i = v) :
    maximumf x y i = max u v := by
  subst hu hv
  rfl

theorem least_at (i : S_.Idx) : constant (F := Ideal) S_ .f32 0xFF800000#32 i = Ideal.ofBits FTy.f32 4286578688#32 := rfl

theorem rtop_at (s : FVec Ideal S32x8x256x256 .f32) (b : Fin 32) (h : Fin 8) (q : Fin 256) :
    rtop s (ix3 b h q) = max (Ideal.ofBits FTy.f32 4286578688#32) (top (fun k => s (ix4 b h q k))) := by
  refine max_at _ _ _ _ _ rfl ?_
  rw [rowtop 32 8 256 256 s, least_at]
  rfl

theorem rexp_at (s : FVec Ideal S32x8x256x256 .f32) (t : FVec Ideal S32x8x256 .f32) (b : Fin 32) (h : Fin 8) (q k : Fin 256) :
    rexp s t (ix4 b h q k) = Ideal.exp (s (ix4 b h q k) - t (ix3 b h q)) := by
  unfold rexp
  clean_types
  pointwise []

theorem rsum_at (e : FVec Ideal S32x8x256x256 .f32) (b : Fin 32) (h : Fin 8) (q : Fin 256) :
    rsum e (ix3 b h q) = ∑ k : Fin 256, e (ix4 b h q k) := by
  unfold rsum
  clean_types
  pointwise []

theorem rweight_at (e : FVec Ideal S32x8x256x256 .f32) (z : FVec Ideal S32x8x256 .f32) (b : Fin 32) (h : Fin 8) (q k : Fin 256) :
    rweight e z (ix4 b h q k) = Ideal.div (e (ix4 b h q k)) (z (ix3 b h q)) := by
  unfold rweight
  clean_types
  pointwise []

theorem rout_at (w : FVec Ideal S32x8x256x256 .f32) (x : FVec Ideal S8192x1536 .f32) (i : Fin 8192) (j : Fin 512) : rout w x (ix2 i j)
    = ∑ y : Fin 256, w (ix4 ⟨i.val / 256, by omega⟩ ⟨j.val / 64, by omega⟩ ⟨i.val % 256, by omega⟩ y)
      * x (ix2 ⟨i.val / 256 * 256 + y.val, by omega⟩ ⟨1024 + j.val, by omega⟩) := by
  unfold rout
  clean_types
  pointwise []

/-- The weighted values are the softmax of the scores against the values. -/
theorem rrest_at (s : FVec Ideal S32x8x256x256 .f32) (x : FVec Ideal S8192x1536 .f32) (i : Fin 8192) (j : Fin 512) : rout (rweights s) x (ix2 i j)
    = soft (fun k => s (ix4 ⟨i.val / 256, by omega⟩ ⟨j.val / 64, by omega⟩ ⟨i.val % 256, by omega⟩ k))
      (fun y => x (ix2 ⟨i.val / 256 * 256 + y.val, by omega⟩ ⟨1024 + j.val, by omega⟩)) := by
  refine (rout_at _ x i j).trans (Finset.sum_congr rfl fun y _ => congrArg (· * _) ?_)
  show rweight _ _ _ = _
  rw [rweight_at, rsum_at, rexp_at, rtop_at]
  exact congrArg (Ideal.div _) (Finset.sum_congr rfl fun k _ => by rw [rexp_at, rtop_at])

/-- The reference's attention array is `att`. -/
theorem attention (x : FVec Ideal S8192x1536 .f32) : rout (rweights (rscore x)) x = att x := by
  funext (i : (⟨2, ![8192, 512]⟩ : Shape).Idx)
  idx_vars i
  rw [rrest_at]
  unfold att
  refine congrArg (soft · _) (funext fun k => (rscore_at x _ _ _ k).trans ?_)
  refine congrArg (fun q => score q _ k) (funext fun d => congrArg x (congrArg₂ ix2 (Fin.ext ?_) rfl))
  show i0.val / 256 * 256 + i0.val % 256 = i0.val
  omega

/-- The columns from 512 on, or from 1024 on, as a cache row of every batch. -/
def rkeys (x : FVec Ideal S8192x1536 .f32) : FVec Ideal S32x1x8x64x256 .f32 :=
  broadcastInDim S32x1x8x64x256 ![0, 2, 3, 4] bcast_S32x8x64x256_S32x1x8x64x256_0_2_3_4 (transpose S32x8x64x256 [0, 1, 3, 2] (transpose S32x8x256x64 [0, 2, 1, 3] (shapeCast S32x256x8x64 (extractStridedSlice S32x256x512 ![0, 0, 512] (shapeCast S32x256x1536 x shapeCasts_S8192x1536_S32x256x1536) slices_S32x256x1536_S32x256x512_0_0_512) shapeCasts_S32x256x512_S32x256x8x64) transposes_S32x256x8x64_S32x8x256x64_0_2_1_3) transposes_S32x8x256x64_S32x8x64x256_0_1_3_2)

@[inherit_doc rkeys]
def rvals (x : FVec Ideal S8192x1536 .f32) : FVec Ideal S32x1x8x64x256 .f32 :=
  broadcastInDim S32x1x8x64x256 ![0, 2, 3, 4] bcast_S32x8x64x256_S32x1x8x64x256_0_2_3_4 (transpose S32x8x64x256 [0, 1, 3, 2] (transpose S32x8x256x64 [0, 2, 1, 3] (shapeCast S32x256x8x64 (extractStridedSlice S32x256x512 ![0, 0, 1024] (shapeCast S32x256x1536 x shapeCasts_S8192x1536_S32x256x1536) slices_S32x256x1536_S32x256x512_0_0_1024) shapeCasts_S32x256x512_S32x256x8x64) transposes_S32x256x8x64_S32x8x256x64_0_2_1_3) transposes_S32x8x256x64_S32x8x64x256_0_1_3_2)

theorem rkeys_at (x : FVec Ideal S8192x1536 .f32) (b : Fin 32) (z : Fin 1) (h : Fin 8) (d : Fin 64) (l : Fin 256) :
    rkeys x (ix5 b z h d l) = keep 512 (by decide) x b h d l := by
  unfold rkeys keep
  clean_types
  pointwise []

theorem rvals_at (x : FVec Ideal S8192x1536 .f32) (b : Fin 32) (z : Fin 1) (h : Fin 8) (d : Fin 64) (l : Fin 256) :
    rvals x (ix5 b z h d l) = keep 1024 (by decide) x b h d l := by
  unfold rvals keep
  clean_types
  pointwise []

/-- The first row of a cache. -/
def rold (p : FVec Ideal S32x2x8x64x256 .f32) : FVec Ideal S32x1x8x64x256 .f32 :=
  broadcastInDim S32x1x8x64x256 ![0, 2, 3, 4] bcast_S32x8x64x256_S32x1x8x64x256_0_2_3_4 (shapeCast S32x8x64x256 (extractStridedSlice S32x1x8x64x256 ![0, 0, 0, 0, 0] p slices_S32x2x8x64x256_S32x1x8x64x256_0_0_0_0_0) shapeCasts_S32x1x8x64x256_S32x8x64x256)

/-- A row of zeros. -/
def rzero : FVec Ideal S32x1x8x64x256 .f32 :=
  broadcastInDim S32x1x8x64x256 ![0, 2, 3, 4] bcast_S32x8x64x256_S32x1x8x64x256_0_2_3_4 (broadcastInDim S32x8x64x256 ![] Cert.CtxFirstRefIdeal.Gen.bcast_S_S32x8x64x256 (constant (F := Ideal) S_ .f32 0x00000000#32))

theorem rold_at (p : FVec Ideal S32x2x8x64x256 .f32) (b : Fin 32) (z : Fin 1) (h : Fin 8) (d : Fin 64) (l : Fin 256) :
    rold p (ix5 b z h d l) = p (ix5 b (0 : Fin 2) h d l) := by
  unfold rold
  clean_types
  pointwise []

theorem rzero_at (b : Fin 32) (z : Fin 1) (h : Fin 8) (d : Fin 64) (l : Fin 256) : rzero (ix5 b z h d l) = 0 := by
  unfold rzero
  clean_types
  pointwise []

/-- A cache of two rows, at an index. -/
theorem two_at (u v : FVec Ideal S32x1x8x64x256 .f32) (b : Fin 32) (r : Fin 2) (h : Fin 8) (d : Fin 64) (l : Fin 256) :
    concatenate S32x2x8x64x256 1 [⟨S32x1x8x64x256, u⟩, ⟨S32x1x8x64x256, v⟩]
        concatenates_S32x1x8x64x256_S32x1x8x64x256_S32x2x8x64x256_d1 (ix5 b r h d l)
      = if r.val = 0 then u (ix5 b (0 : Fin 1) h d l) else v (ix5 b (0 : Fin 1) h d l) := by
  fin_cases r
  · refine Eq.trans ?_ (if_pos rfl).symm
    pointwise []
  · refine Eq.trans ?_ (if_neg (by decide)).symm
    pointwise []

theorem keysNext (x : FVec Ideal S8192x1536 .f32) (p : FVec Ideal S32x2x8x64x256 .f32) :
    concatenate S32x2x8x64x256 1 [⟨S32x1x8x64x256, rold p⟩, ⟨S32x1x8x64x256, rkeys x⟩]
        concatenates_S32x1x8x64x256_S32x1x8x64x256_S32x2x8x64x256_d1 = cache 1 512 (by decide) x p := by
  funext (i : S32x2x8x64x256.Idx)
  idx_vars i
  rw [two_at, rold_at, rkeys_at]
  fin_cases i1 <;> rfl

theorem valsNext (x : FVec Ideal S8192x1536 .f32) (p : FVec Ideal S32x2x8x64x256 .f32) :
    concatenate S32x2x8x64x256 1 [⟨S32x1x8x64x256, rold p⟩, ⟨S32x1x8x64x256, rvals x⟩]
        concatenates_S32x1x8x64x256_S32x1x8x64x256_S32x2x8x64x256_d1 = cache 1 1024 (by decide) x p := by
  funext (i : S32x2x8x64x256.Idx)
  idx_vars i
  rw [two_at, rold_at, rvals_at]
  fin_cases i1 <;> rfl

theorem keysFirst (x : FVec Ideal S8192x1536 .f32) :
    concatenate S32x2x8x64x256 1 [⟨S32x1x8x64x256, rkeys x⟩, ⟨S32x1x8x64x256, rzero⟩]
        concatenates_S32x1x8x64x256_S32x1x8x64x256_S32x2x8x64x256_d1 = cache 0 512 (by decide) x fun _ => 0 := by
  funext (i : S32x2x8x64x256.Idx)
  idx_vars i
  rw [two_at, rzero_at, rkeys_at]
  fin_cases i1 <;> rfl

theorem valsFirst (x : FVec Ideal S8192x1536 .f32) :
    concatenate S32x2x8x64x256 1 [⟨S32x1x8x64x256, rvals x⟩, ⟨S32x1x8x64x256, rzero⟩]
        concatenates_S32x1x8x64x256_S32x1x8x64x256_S32x2x8x64x256_d1 = cache 0 1024 (by decide) x fun _ => 0 := by
  funext (i : S32x2x8x64x256.Idx)
  idx_vars i
  rw [two_at, rzero_at, rvals_at]
  fin_cases i1 <;> rfl

end Cert.CtxRefValue
-- ==== Proof.CtxRow.lean ====
module

public import proofs.«01_k».proof.Proof.Soft
public import proofs.«01_k».proof.Proof.Gen.CtxFirstIdeal.Value
public import Idealize.ShloMosaic.Lib.Tactic.CleanTypes

/-! The rectangles through which the context attention of layer 0 stores one head of a cache. -/

@[expose] public section

set_option maxRecDepth 16384

noncomputable section

namespace Cert.CtxRow
open Idealize.ShloMosaic Idealize.ShloMosaic.TcCoe Idealize.SL.Sem
open Cert.Rows Cert.Soft

open Cert.CtxFirstIdeal Cert.CtxFirstIdeal.Gen

/-- Head `h`'s rectangle of a cache's first row, as the launch stores it. -/
abbrev rowRect (h : ℕ) (i0 : ∀ a, (![0, 0, 0, 0, 0] : Fin 5 → ℕ) a + (![1, 1, 8, 64, 256] : Fin 5 → ℕ) a ≤ S1x2x8x64x256.size a)
    (ih : ∀ a, (![h, 0, 0] : Fin 3 → ℕ) a + (![1, 64, 256] : Fin 3 → ℕ) a ≤ S8x64x256.size a)
    (a : (![1, 8, 64, 256] : Fin 4 → ℕ) 0 = 1) (b : ∀ i : Fin 3, (![1, 8, 64, 256] : Fin 4 → ℕ) i.succ = (![8, 64, 256] : Fin 3 → ℕ) i)
    (c : (![1, 1, 8, 64, 256] : Fin 5 → ℕ) 0 = 1)
    (d : ∀ i : Fin 4, (![1, 1, 8, 64, 256] : Fin 5 → ℕ) i.succ = (![1, 8, 64, 256] : Fin 4 → ℕ) i)
    (e : ∀ a, (Rect.unit (s := S1x2x8x64x256) ![0, 0, 0, 0, 0] ![1, 1, 8, 64, 256] i0).stride a = 1) : Rect S1x2x8x64x256 :=
  (Rect.unit (s := S1x2x8x64x256) ![0, 0, 0, 0, 0] ![1, 1, 8, 64, 256] i0).within
    (((Rect.unit (s := S8x64x256) ![h, 0, 0] ![1, 64, 256] ih).consLift ![1, 8, 64, 256] a b).consLift ![1, 1, 8, 64, 256] c d) e

/-- An index of the first row with head `h` lies in head `h`'s rectangle. -/
theorem row_mem (h : ℕ) (i0) (ih) (a) (b) (c) (d) (e) (y : S1x2x8x64x256.Idx) (h1 : (y 1).val = 0) (h2 : (y 2).val = h) :
    y ∈ (rowRect h i0 ih a b c d e).set := by
  have h0 : (y 0).val = 0 := by have : (y 0).val < 1 := (y 0).isLt; omega
  refine (LoadRect.mem_set _).mpr fun k => ?_
  fin_cases k
  · exact ⟨0, Nat.one_pos, h0⟩
  · exact ⟨0, Nat.one_pos, h1⟩
  · exact ⟨0, Nat.one_pos, by show (y 2).val = 0 + h + 1 * 0; omega⟩
  · exact ⟨(y 3).val, (y 3).isLt, by show (y 3).val = 0 + 0 + 1 * (y 3).val; omega⟩
  · exact ⟨(y 4).val, (y 4).isLt, by show (y 4).val = 0 + 0 + 1 * (y 4).val; omega⟩

/-- What head `h`'s store holds at an index. -/
theorem row_at (h : ℕ) (i0) (ih) (a) (b) (c) (d) (e) (hR : (rowRect h i0 ih a b c d e).shape.numel = (Rect.unit (s := S8x64x256) ![h, 0, 0] ![1, 64, 256] ih).shape.numel) (w : S1x64x256.Idx → EReal) (y : S1x2x8x64x256.Idx) (v : EReal)
    (H : (y 1).val = 0 → (y 2).val = h → w (ix3 (0 : Fin 1) (y 3) (y 4)) = v) :
    View.RectAt (Val := Elt Ideal) (e := .f32) y (rowRect h i0 ih a b c d e)
      (Rect.payAlong (r := Rect.unit (s := S8x64x256) ![h, 0, 0] ![1, 64, 256] ih) hR w) v := by
  intro x hx
  have x1 : (x 1).val = 0 := by have : (x 1).val < 1 := (x 1).isLt; omega
  have x2 : (x 2).val = 0 := by have : (x 2).val < 1 := (x 2).isLt; omega
  have e1 : (y 1).val = 0 := by
    rw [← hx]; show 0 + 0 + 1 * (x 1).val = 0; omega
  have e2 : (y 2).val = h := by
    rw [← hx]; show 0 + h + 1 * (x 2).val = h; omega
  have e3 : (y 3).val = (x 3).val := by
    rw [← hx]; show 0 + 0 + 1 * (x 3).val = (x 3).val; omega
  have e4 : (y 4).val = (x 4).val := by
    rw [← hx]; show 0 + 0 + 1 * (x 4).val = (x 4).val; omega
  rw [← H e1 e2]
  refine congrArg w (funext fun k => Fin.ext ?_)
  have q := Shape.reshapeEquiv_reshapeEquiv
    (Rect.numel_consLift (Rect.unit (s := S8x64x256) ![h, 0, 0] ![1, 64, 256] ih) ![1, 8, 64, 256] a b)
    (Rect.numel_consLift ((Rect.unit (s := S8x64x256) ![h, 0, 0] ![1, 64, 256] ih).consLift ![1, 8, 64, 256] a b) ![1, 1, 8, 64, 256] c d) x
  have r1 := Rect.reshapeEquiv_consLift_succ ((Rect.unit (s := S8x64x256) ![h, 0, 0] ![1, 64, 256] ih).consLift ![1, 8, 64, 256] a b)
    ![1, 1, 8, 64, 256] c d x
  have r2 := Rect.reshapeEquiv_consLift_succ (Rect.unit (s := S8x64x256) ![h, 0, 0] ![1, 64, 256] ih) ![1, 8, 64, 256] a b
    (Shape.reshapeEquiv (Rect.numel_consLift ((Rect.unit (s := S8x64x256) ![h, 0, 0] ![1, 64, 256] ih).consLift ![1, 8, 64, 256] a b) ![1, 1, 8, 64, 256] c d) x)
  refine (congrArg Fin.val (congrFun q k)).symm.trans ((r2 k).symm.trans ((r1 k.succ).symm.trans ?_))
  fin_cases k
  · exact x2
  · exact e3.symm
  · exact e4.symm

/-- An index of some later piece is an index of some piece. -/
theorem cover_tail {S : Shape} {y : S.Idx} (p : View.Piece (Elt Ideal) S .f32) (L : List (View.Piece (Elt Ideal) S .f32))
    (h : ∃ q ∈ L, y ∈ q.1.set) : ∃ q ∈ p :: L, y ∈ q.1.set := by
  obtain ⟨q, hq, hy⟩ := h
  exact ⟨q, List.mem_cons_of_mem _ hq, hy⟩

/-- The row and the head of an index of a block of a cache. -/
theorem row_cases (y : S1x2x8x64x256.Idx) : (y 1).val = 1 ∨ ((y 1).val = 0 ∧ ((y 2).val = 7 ∨ (y 2).val = 6 ∨ (y 2).val = 5
    ∨ (y 2).val = 4 ∨ (y 2).val = 3 ∨ (y 2).val = 2 ∨ (y 2).val = 1 ∨ (y 2).val = 0)) := by
  have h1 : (y 1).val < 2 := (y 1).isLt
  have h2 : (y 2).val < 8 := (y 2).isLt
  omega

/-- An index of the second row lies in the second row's rectangle. -/
theorem rest_mem {inb} (y : S1x2x8x64x256.Idx) (h1 : (y 1).val = 1) :
    y ∈ (Rect.unit (s := S1x2x8x64x256) ![0, 1, 0, 0, 0] ![1, 1, 8, 64, 256] inb).set := by
  have h0 : (y 0).val = 0 := by have : (y 0).val < 1 := (y 0).isLt; omega
  refine (LoadRect.mem_set _).mpr fun k => ?_
  fin_cases k
  · exact ⟨0, Nat.one_pos, h0⟩
  · exact ⟨0, Nat.one_pos, h1⟩
  · exact ⟨(y 2).val, (y 2).isLt, by show (y 2).val = 0 + 1 * (y 2).val; omega⟩
  · exact ⟨(y 3).val, (y 3).isLt, by show (y 3).val = 0 + 1 * (y 3).val; omega⟩
  · exact ⟨(y 4).val, (y 4).isLt, by show (y 4).val = 0 + 1 * (y 4).val; omega⟩

end Cert.CtxRow
-- ==== Proof.CtxFirstValue.lean ====
module

public import proofs.«01_k».proof.Proof.CtxRefValue
public import proofs.«01_k».proof.Proof.CtxRow
public import proofs.«01_k».proof.Proof.Gen.CtxFirstIdeal.Value
public import proofs.«01_k».proof.Proof.Gen.CtxFirstRefIdeal.Run
public import Idealize.ShloMosaic.Lib.Tactic.CleanTypes

/-! The context attention of layer 0: what the launch writes, and what the reference computes, are the attention `att` of
    finite queries and keys, and the caches with the keys and the values in layer 0's rows. -/

@[expose] public section

set_option maxRecDepth 16384

noncomputable section

namespace Cert.CtxFirstValue
open Idealize.ShloMosaic Idealize.ShloMosaic.TcCoe Idealize.SL.Sem
open Cert.CtxFirstIdeal Cert.CtxFirstIdeal.Gen Cert.Rows Cert.Soft Cert.CtxRow

section Kernel

variable (m : (ℓ : Loc nD τ sig) → Buf (Elt Ideal) ℓ)

/-- Where each window's block lies at grid point `t`. -/
theorem idx : ∀ t : Fin grid0.N, win0_0.index t = ![t.val, 0] ∧ win0_1.index t = ![t.val, 1]
   ∧ win0_2.index t = ![t.val, 2] ∧ win0_3.index t = ![t.val, 0] ∧ win0_4.index t = ![t.val, 0, 0, 0, 0]
   ∧ win0_5.index t = ![t.val, 0, 0, 0, 0] := by decide +kernel

/-- The launch's qkv rows. -/
abbrev qkv (c : Dev nD) : D2 8192 1536 := m ((c : Thread nD τ).loc main_arg0)

/-- The pair of heads of three blocks of 128 lanes. -/
abbrev lanes (q k v : Vec Ideal S256x128 .f32) (y : S256x128.Idx) : EReal :=
  pair (fun d => q (ix2 (y 0) d)) (fun r d => k (ix2 r d)) (fun r => v (ix2 r (y 1))) (y 1)

theorem pair3 (q k v : Vec Ideal S256x128 .f32) (y : S256x128.Idx) :
    k0_pay60 q v (k0_pay51 k) (k0_pay56 q v (k0_pay51 k) k0_pay52 k0_pay53 k0_pay54 k0_pay55)
      (iota Kind.tc S1x128 32 [1] iota_S1x128_d1_w32) (64#32) k0_pay57 k0_pay58 k0_pay59 y = lanes q k v y := by
  idx_vars y
  unfold lanes pair head mscore top lane
  pointwise [k0_pay60, k0_pay59, k0_pay58, k0_pay57, k0_pay56, k0_pay55, k0_pay54, k0_pay53, k0_pay52, k0_pay51]

theorem pair2 (q k v : Vec Ideal S256x128 .f32) (y : S256x128.Idx) :
    k0_pay43 (k0_pay39 k0_pay35 (k0_pay38 q v (k0_pay34 k) (iota Kind.tc S1x128 32 [1] iota_S1x128_d1_w32) (64#32) k0_pay36 k0_pay37 0#32))
      (k0_pay41 v) (k0_pay42 q (k0_pay34 k)) y = lanes q k v y := by
  idx_vars y
  unfold lanes pair head mscore top lane
  pointwise [k0_pay43, k0_pay42, k0_pay41, k0_pay40, k0_pay39, k0_pay38, k0_pay37, k0_pay36, k0_pay35, k0_pay34]

theorem pair1 (q k v : Vec Ideal S256x128 .f32) (y : S256x128.Idx) :
    k0_pay26 q v (k0_pay19 k) (k0_pay23 v k0_pay20 k0_pay21 (k0_pay22 q k) (FloatOps.ofBits FTy.f32 0#32))
      k0_pay24 (FloatOps.ofBits FTy.f32 0#32) k0_pay25 y = lanes q k v y := by
  idx_vars y
  unfold lanes pair head mscore top lane
  pointwise [k0_pay26, k0_pay25, k0_pay24, k0_pay23, k0_pay22, k0_pay21, k0_pay20, k0_pay19]

theorem pair0 (q k v : Vec Ideal S256x128 .f32) (y : S256x128.Idx) :
    k0_pay12 q v (k0_pay4 k) (k0_pay9 q v (k0_pay4 k) k0_pay5 k0_pay6 k0_pay7 k0_pay8 0#32)
      (iota Kind.tc S1x128 32 [1] iota_S1x128_d1_w32) (64#32) k0_pay10 k0_pay11 (1#1) y = lanes q k v y := by
  idx_vars y
  unfold lanes pair head mscore top lane
  pointwise [k0_pay12, k0_pay11, k0_pay10, k0_pay9, k0_pay8, k0_pay7, k0_pay6, k0_pay5, k0_pay4]
  rfl

/-- What grid point `t` leaves in the attention's buffer, at an index of the array. -/
theorem out3 (c : Dev nD) (hx : Fine (qkv m c)) (t : Fin cfg0.N) (y : S256x512.Idx) (i : S8192x512.Idx)
    (hr : (i 0).val = t.val * 256 + (y 0).val) (hc : (i 1).val = (y 1).val) :
    (outsAt0 m c t).1 y = att (qkv m c) i := by
  have hN : t.val < 32 := t.isLt
  idx_vars i
  unfold outsAt0
  dsimp only
  frame_out
  canon_tiles x h <;> idx_vars x
  · refine (pair3 _ _ _ (ix2 x0 x1)).trans (pair_at (qkv m c) hx t.val 384 hN (by omega) (by omega) _ _ _ (fun p l => ?_) (fun p l => ?_) (fun p l => ?_) x0 x1 i0 i1 (by rw [← h0]; exact hr) (by rw [← h1]; exact hc))
    · blk_point [iblk, V, idx t]
    · blk_point [iblk, V, idx t]
    · blk_point [iblk, V, idx t]
  · refine (pair2 _ _ _ (ix2 x0 x1)).trans (pair_at (qkv m c) hx t.val 256 hN (by omega) (by omega) _ _ _ (fun p l => ?_) (fun p l => ?_) (fun p l => ?_) x0 x1 i0 i1 (by rw [← h0]; exact hr) (by rw [← h1]; exact hc)) <;>
    blk_point [iblk, V, idx t]
  · refine (pair1 _ _ _ (ix2 x0 x1)).trans (pair_at (qkv m c) hx t.val 128 hN (by omega) (by omega) _ _ _ (fun p l => ?_) (fun p l => ?_) (fun p l => ?_) x0 x1 i0 i1 (by rw [← h0]; exact hr) (by rw [← h1]; exact hc)) <;>
    blk_point [iblk, V, idx t]
  · refine (pair0 _ _ _ (ix2 x0 x1)).trans (pair_at (qkv m c) hx t.val 0 hN (by omega) (by omega) _ _ _ (fun p l => ?_) (fun p l => ?_) (fun p l => ?_) x0 x1 i0 i1 (by rw [← h0]; exact hr) (by rw [← h1]; simpa using hc)) <;>
    blk_point [iblk, V, idx t]

/-- The launch's attention array. -/
theorem arr3 (c : Dev nD) (hx : Fine (qkv m c)) : (dats m 0 c).arrAt 3 cfg0.N = att (qkv m c) := by
  refine (dats m 0 c).arrAt_eq_of_covers 3 _ (by decide +kernel) fun t hf y => ?_
  blk_simp
  rw [after0_3]
  refine out3 m c hx t y _ ?_ ?_
  · blk_simp [idx t]
  · blk_simp [idx t]

/-- What grid point `t` leaves in the first cache's buffer, at an index of the array. -/
theorem out4 (c : Dev nD) (t : Fin cfg0.N) (y : S1x2x8x64x256.Idx) (i : S32x2x8x64x256.Idx)
    (hi0 : (i 0).val = t.val) (hi1 : (i 1).val = (y 1).val) (hi2 : (i 2).val = (y 2).val) (hi3 : (i 3).val = (y 3).val)
    (hi4 : (i 4).val = (y 4).val) : (outsAt0 m c t).2.1 y = cache 0 512 (by decide) (qkv m c) (fun _ => 0) i := by
  have hN : t.val < 32 := t.isLt
  idx_vars i
  unfold outsAt0
  dsimp only
  frame_out
  refine View.canon_eq_of_allAt _ _ _ ?_ ?_
  · rcases row_cases y with h | ⟨h1, h | h | h | h | h | h | h | h⟩
    · refine cover_tail _ _ ?_; refine cover_tail _ _ ?_; refine cover_tail _ _ ?_; refine cover_tail _ _ ?_; refine cover_tail _ _ ?_; refine cover_tail _ _ ?_; refine cover_tail _ _ ?_; refine cover_tail _ _ ?_; exact ⟨_, List.mem_cons_self, rest_mem (inb := by decide) y h⟩
    · exact ⟨_, List.mem_cons_self, row_mem 7 _ _ _ _ _ _ (fun _ => rfl) y h1 h⟩
    · refine cover_tail _ _ ?_; exact ⟨_, List.mem_cons_self, row_mem 6 _ _ _ _ _ _ (fun _ => rfl) y h1 h⟩
    · refine cover_tail _ _ ?_; refine cover_tail _ _ ?_; exact ⟨_, List.mem_cons_self, row_mem 5 _ _ _ _ _ _ (fun _ => rfl) y h1 h⟩
    · refine cover_tail _ _ ?_; refine cover_tail _ _ ?_; refine cover_tail _ _ ?_; exact ⟨_, List.mem_cons_self, row_mem 4 _ _ _ _ _ _ (fun _ => rfl) y h1 h⟩
    · refine cover_tail _ _ ?_; refine cover_tail _ _ ?_; refine cover_tail _ _ ?_; refine cover_tail _ _ ?_; exact ⟨_, List.mem_cons_self, row_mem 3 _ _ _ _ _ _ (fun _ => rfl) y h1 h⟩
    · refine cover_tail _ _ ?_; refine cover_tail _ _ ?_; refine cover_tail _ _ ?_; refine cover_tail _ _ ?_; refine cover_tail _ _ ?_; exact ⟨_, List.mem_cons_self, row_mem 2 _ _ _ _ _ _ (fun _ => rfl) y h1 h⟩
    · refine cover_tail _ _ ?_; refine cover_tail _ _ ?_; refine cover_tail _ _ ?_; refine cover_tail _ _ ?_; refine cover_tail _ _ ?_; refine cover_tail _ _ ?_; exact ⟨_, List.mem_cons_self, row_mem 1 _ _ _ _ _ _ (fun _ => rfl) y h1 h⟩
    · refine cover_tail _ _ ?_; refine cover_tail _ _ ?_; refine cover_tail _ _ ?_; refine cover_tail _ _ ?_; refine cover_tail _ _ ?_; refine cover_tail _ _ ?_; refine cover_tail _ _ ?_; exact ⟨_, List.mem_cons_self, row_mem 0 _ _ _ _ _ _ (fun _ => rfl) y h1 h⟩
  · refine View.allAt_cons _ _ _ (row_at 7 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons _ _ _ (row_at 6 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons _ _ _ (row_at 5 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons _ _ _ (row_at 4 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons _ _ _ (row_at 3 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons _ _ _ (row_at 2 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons _ _ _ (row_at 1 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons _ _ _ (row_at 0 _ _ _ _ _ _ _ _ _ y _ fun h1 h2 => ?_) ?_
    · refine Eq.trans (b := keep 512 (by decide) (qkv m c) i0 i2 i3 i4) ?_ (if_pos (hi1.trans h1)).symm
      unfold keep
      pointwise [k0_pay1, k0_pay2, k0_pay3, k0_pay13, k0_pay14, k0_pay15, k0_pay27, k0_pay28, k0_pay29, k0_pay30, k0_pay44, k0_pay45, k0_pay46, k0_pay61, k0_pay62, k0_pay63, k0_pay64]
      blk_point [iblk, V, idx t]
    refine View.allAt_cons_unit _ _ _ _ _ (fun x hx => ?_) (View.allAt_nil _ _)
    have h1 : (y 1).val = 1 + (x 1).val := hx 1
    refine Eq.trans (b := (0 : EReal)) ?_ (if_neg (show ¬ i1.val = 0 by omega)).symm
    idx_vars x
    pointwise [k0_pay1, k0_pay2, k0_pay3, k0_pay13, k0_pay14, k0_pay15, k0_pay27, k0_pay28, k0_pay29, k0_pay30, k0_pay44, k0_pay45, k0_pay46, k0_pay61, k0_pay62, k0_pay63, k0_pay64]

/-- The launch's first cache. -/
theorem arr4 (c : Dev nD) : (dats m 0 c).arrAt 4 cfg0.N = cache 0 512 (by decide) (qkv m c) (fun _ => 0) := by
  refine (dats m 0 c).arrAt_eq_of_covers 4 _ (by decide +kernel) fun t hf y => ?_
  blk_simp
  rw [after0_4]
  refine out4 m c t y _ ?_ ?_ ?_ ?_ ?_ <;> blk_simp [idx t]

/-- What grid point `t` leaves in the second cache's buffer, at an index of the array. -/
theorem out5 (c : Dev nD) (t : Fin cfg0.N) (y : S1x2x8x64x256.Idx) (i : S32x2x8x64x256.Idx)
    (hi0 : (i 0).val = t.val) (hi1 : (i 1).val = (y 1).val) (hi2 : (i 2).val = (y 2).val) (hi3 : (i 3).val = (y 3).val)
    (hi4 : (i 4).val = (y 4).val) : (outsAt0 m c t).2.2 y = cache 0 1024 (by decide) (qkv m c) (fun _ => 0) i := by
  have hN : t.val < 32 := t.isLt
  idx_vars i
  unfold outsAt0
  dsimp only
  frame_out
  refine View.canon_eq_of_allAt _ _ _ ?_ ?_
  · rcases row_cases y with h | ⟨h1, h | h | h | h | h | h | h | h⟩
    · refine cover_tail _ _ ?_; refine cover_tail _ _ ?_; refine cover_tail _ _ ?_; refine cover_tail _ _ ?_; refine cover_tail _ _ ?_; refine cover_tail _ _ ?_; refine cover_tail _ _ ?_; refine cover_tail _ _ ?_; exact ⟨_, List.mem_cons_self, rest_mem (inb := by decide) y h⟩
    · exact ⟨_, List.mem_cons_self, row_mem 7 _ _ _ _ _ _ (fun _ => rfl) y h1 h⟩
    · refine cover_tail _ _ ?_; exact ⟨_, List.mem_cons_self, row_mem 6 _ _ _ _ _ _ (fun _ => rfl) y h1 h⟩
    · refine cover_tail _ _ ?_; refine cover_tail _ _ ?_; exact ⟨_, List.mem_cons_self, row_mem 5 _ _ _ _ _ _ (fun _ => rfl) y h1 h⟩
    · refine cover_tail _ _ ?_; refine cover_tail _ _ ?_; refine cover_tail _ _ ?_; exact ⟨_, List.mem_cons_self, row_mem 4 _ _ _ _ _ _ (fun _ => rfl) y h1 h⟩
    · refine cover_tail _ _ ?_; refine cover_tail _ _ ?_; refine cover_tail _ _ ?_; refine cover_tail _ _ ?_; exact ⟨_, List.mem_cons_self, row_mem 3 _ _ _ _ _ _ (fun _ => rfl) y h1 h⟩
    · refine cover_tail _ _ ?_; refine cover_tail _ _ ?_; refine cover_tail _ _ ?_; refine cover_tail _ _ ?_; refine cover_tail _ _ ?_; exact ⟨_, List.mem_cons_self, row_mem 2 _ _ _ _ _ _ (fun _ => rfl) y h1 h⟩
    · refine cover_tail _ _ ?_; refine cover_tail _ _ ?_; refine cover_tail _ _ ?_; refine cover_tail _ _ ?_; refine cover_tail _ _ ?_; refine cover_tail _ _ ?_; exact ⟨_, List.mem_cons_self, row_mem 1 _ _ _ _ _ _ (fun _ => rfl) y h1 h⟩
    · refine cover_tail _ _ ?_; refine cover_tail _ _ ?_; refine cover_tail _ _ ?_; refine cover_tail _ _ ?_; refine cover_tail _ _ ?_; refine cover_tail _ _ ?_; refine cover_tail _ _ ?_; exact ⟨_, List.mem_cons_self, row_mem 0 _ _ _ _ _ _ (fun _ => rfl) y h1 h⟩
  · refine View.allAt_cons _ _ _ (row_at 7 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons _ _ _ (row_at 6 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons _ _ _ (row_at 5 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons _ _ _ (row_at 4 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons _ _ _ (row_at 3 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons _ _ _ (row_at 2 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons _ _ _ (row_at 1 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons _ _ _ (row_at 0 _ _ _ _ _ _ _ _ _ y _ fun h1 h2 => ?_) ?_
    · refine Eq.trans (b := keep 1024 (by decide) (qkv m c) i0 i2 i3 i4) ?_ (if_pos (hi1.trans h1)).symm
      unfold keep
      pointwise [k0_pay1, k0_pay2, k0_pay3, k0_pay16, k0_pay17, k0_pay18, k0_pay31, k0_pay32, k0_pay33, k0_pay47, k0_pay48, k0_pay49, k0_pay50, k0_pay65, k0_pay66, k0_pay67]
      blk_point [iblk, V, idx t]
    refine View.allAt_cons_unit _ _ _ _ _ (fun x hx => ?_) (View.allAt_nil _ _)
    have h1 : (y 1).val = 1 + (x 1).val := hx 1
    refine Eq.trans (b := (0 : EReal)) ?_ (if_neg (show ¬ i1.val = 0 by omega)).symm
    idx_vars x
    pointwise [k0_pay1, k0_pay2, k0_pay3, k0_pay16, k0_pay17, k0_pay18, k0_pay31, k0_pay32, k0_pay33, k0_pay47, k0_pay48, k0_pay49, k0_pay50, k0_pay65, k0_pay66, k0_pay67]

/-- The launch's second cache. -/
theorem arr5 (c : Dev nD) : (dats m 0 c).arrAt 5 cfg0.N = cache 0 1024 (by decide) (qkv m c) (fun _ => 0) := by
  refine (dats m 0 c).arrAt_eq_of_covers 5 _ (by decide +kernel) fun t hf y => ?_
  blk_simp
  rw [after0_5]
  refine out5 m c t y _ ?_ ?_ ?_ ?_ ?_ <;> blk_simp [idx t]

end Kernel

section Reference

/-- The reference's memory. -/
abbrev RMem := (ℓ : Loc Cert.CtxFirstRefIdeal.nD Cert.CtxFirstRefIdeal.τ Cert.CtxFirstRefIdeal.sig) → Buf (Elt Ideal) ℓ

variable (m : RMem)

/-- The reference's qkv rows. -/
abbrev rqkv (c : Dev Cert.CtxFirstRefIdeal.nD) : D2 8192 1536 :=
  m ((c.tc : Thread Cert.CtxFirstRefIdeal.nD Cert.CtxFirstRefIdeal.τ).loc Cert.CtxFirstRefIdeal.main_arg0)

/-- The reference's attention array. -/
theorem ref_att (c : Dev Cert.CtxFirstRefIdeal.nD) :
    Cert.CtxFirstRefIdeal.Value.res_main_v27 (F := Ideal) m c = att (rqkv m c) :=
  (show _ = CtxRefValue.rout (CtxRefValue.rweights (CtxRefValue.rscore (rqkv m c))) (rqkv m c) from rfl).trans
    (CtxRefValue.attention _)

/-- The reference ends with the attention and the two caches. -/
theorem runR (g : Dev Cert.CtxFirstRefIdeal.nD → PrngReg) :
    θ_run (Cert.CtxFirstRefIdeal.defs (F := Ideal)) (onTc (τ := Cert.CtxFirstRefIdeal.τ) (Cert.CtxFirstRefIdeal.main (F := Ideal)))
      ⟨m, fun _ => 0, g⟩ fun r => ∀ c : Dev Cert.CtxFirstRefIdeal.nD,
      r.2.mem ((c.tc : Thread Cert.CtxFirstRefIdeal.nD Cert.CtxFirstRefIdeal.τ).loc Cert.CtxFirstRefIdeal.main_v27) = att (rqkv m c)
      ∧ r.2.mem ((c.tc : Thread Cert.CtxFirstRefIdeal.nD Cert.CtxFirstRefIdeal.τ).loc Cert.CtxFirstRefIdeal.main_v33)
        = cache 0 512 (by decide) (rqkv m c) (fun _ => 0)
      ∧ r.2.mem ((c.tc : Thread Cert.CtxFirstRefIdeal.nD Cert.CtxFirstRefIdeal.τ).loc Cert.CtxFirstRefIdeal.main_v37)
        = cache 0 1024 (by decide) (rqkv m c) (fun _ => 0)
      ∧ r.2.mem ((c.tc : Thread Cert.CtxFirstRefIdeal.nD Cert.CtxFirstRefIdeal.τ).loc Cert.CtxFirstRefIdeal.main_arg0)
        = m ((c.tc : Thread Cert.CtxFirstRefIdeal.nD Cert.CtxFirstRefIdeal.τ).loc Cert.CtxFirstRefIdeal.main_arg0) :=
  θ_run_mono (Cert.CtxFirstRefIdeal.Value.run m g) fun r h c =>
    ⟨(h c).1.trans (ref_att m c), (h c).2.1.trans (CtxRefValue.keysFirst _), (h c).2.2.1.trans (CtxRefValue.valsFirst _),
      (h c).2.2.2⟩

end Reference
end Cert.CtxFirstValue
-- ==== Proof.CtxNextValue.lean ====
module

public import proofs.«01_k».proof.Proof.CtxRefValue
public import proofs.«01_k».proof.Proof.Gen.CtxNextIdeal.Value
public import proofs.«01_k».proof.Proof.Gen.CtxNextRefIdeal.Run
public import Idealize.ShloMosaic.Lib.Tactic.CleanTypes
public import Idealize.ShloMosaic.Lib.Pipeline.ValueKit.Partial

/-! The context attention of layer 1: what the launch writes, and what the reference computes, are the attention `att` of
    finite queries and keys, and the caches with the keys and the values in layer 1's rows. -/

@[expose] public section

set_option maxRecDepth 16384

noncomputable section

namespace Cert.CtxNextValue
open Idealize.ShloMosaic Idealize.ShloMosaic.TcCoe Idealize.SL.Sem
open Cert.CtxNextIdeal Cert.CtxNextIdeal.Gen Cert.Rows Cert.Soft

section Kernel

variable (m : (ℓ : Loc nD τ sig) → Buf (Elt Ideal) ℓ)

/-- Where each window's block lies at grid point `t`. -/
theorem idx : ∀ t : Fin grid0.N, win0_0.index t = ![t.val, 0] ∧ win0_1.index t = ![t.val, 1]
   ∧ win0_2.index t = ![t.val, 2] ∧ win0_3.index t = ![t.val, 0] ∧ win0_4.index t = ![t.val, 1, 0, 0, 0]
   ∧ win0_5.index t = ![t.val, 1, 0, 0, 0] := by decide +kernel

/-- The launch's qkv rows. -/
abbrev qkv (c : Dev nD) : D2 8192 1536 := m ((c : Thread nD τ).loc main_arg0)

/-- The pair of heads of three blocks of 128 lanes. -/
abbrev lanes (q k v : Vec Ideal S256x128 .f32) (y : S256x128.Idx) : EReal :=
  pair (fun d => q (ix2 (y 0) d)) (fun r d => k (ix2 r d)) (fun r => v (ix2 r (y 1))) (y 1)

theorem pair3 (q k v : Vec Ideal S256x128 .f32) (y : S256x128.Idx) :
    k0_pay58 v (k0_pay55 k0_pay51 (k0_pay53 q k) (k0_pay54 v)) k0_pay56 (k0_pay57 q (k0_pay50 k)) y = lanes q k v y := by
  idx_vars y
  unfold lanes pair head mscore top lane
  pointwise [k0_pay58, k0_pay55, k0_pay51, k0_pay52, k0_pay53, k0_pay54, k0_pay56, k0_pay57, k0_pay50]

theorem pair2 (q k v : Vec Ideal S256x128 .f32) (y : S256x128.Idx) :
    k0_pay43
      (k0_pay38 q v (k0_pay33 k) k0_pay34 (iota Kind.tc S1x128 32 [1] iota_S1x128_d1_w32) (64#32) k0_pay35 k0_pay36 k0_pay37)
      (k0_pay40 v (iota Kind.tc S1x128 32 [1] iota_S1x128_d1_w32))
      (k0_pay41 q (k0_pay33 k) (iota Kind.tc S1x128 32 [1] iota_S1x128_d1_w32))
      (k0_pay42 q (k0_pay33 k) (iota Kind.tc S1x128 32 [1] iota_S1x128_d1_w32)) y = lanes q k v y := by
  idx_vars y
  unfold lanes pair head mscore top lane
  pointwise [k0_pay43, k0_pay42, k0_pay41, k0_pay40, k0_pay39, k0_pay38, k0_pay37, k0_pay36, k0_pay35, k0_pay34, k0_pay33]

theorem pair1 (q k v : Vec Ideal S256x128 .f32) (y : S256x128.Idx) :
    k0_pay25 q v (k0_pay18 k) (k0_pay22 q v (k0_pay18 k) k0_pay19 k0_pay20 k0_pay21 1#32)
      (iota Kind.tc S1x128 32 [1] iota_S1x128_d1_w32) (64#32) k0_pay23 k0_pay24 (1#32) (0#32) y = lanes q k v y := by
  idx_vars y
  unfold lanes pair head mscore top lane
  pointwise [k0_pay25, k0_pay24, k0_pay23, k0_pay22, k0_pay21, k0_pay20, k0_pay19, k0_pay18]
  rfl

theorem pair0 (q k v : Vec Ideal S256x128 .f32) (y : S256x128.Idx) :
    k0_pay10 q v (k0_pay3 k) (k0_pay7 v k0_pay4 k0_pay5 (k0_pay6 q k) (FloatOps.ofBits FTy.f32 0#32))
      k0_pay8 (FloatOps.ofBits FTy.f32 0#32) k0_pay9 y = lanes q k v y := by
  idx_vars y
  unfold lanes pair head mscore top lane
  pointwise [k0_pay10, k0_pay9, k0_pay8, k0_pay7, k0_pay6, k0_pay5, k0_pay4, k0_pay3]

/-- What grid point `t` leaves in the attention's buffer, at an index of the array. -/
theorem out3 (c : Dev nD) (hx : Fine (qkv m c)) (t : Fin cfg0.N) (y : S256x512.Idx) (i : S8192x512.Idx)
    (hr : (i 0).val = t.val * 256 + (y 0).val) (hc : (i 1).val = (y 1).val) :
    (outsAt0 m c t).1 y = att (qkv m c) i := by
  have hN : t.val < 32 := t.isLt
  idx_vars i
  unfold outsAt0
  dsimp only
  frame_out
  canon_tiles x h <;> idx_vars x
  · refine (pair3 _ _ _ (ix2 x0 x1)).trans (pair_at (qkv m c) hx t.val 384 hN (by omega) (by omega) _ _ _ (fun p l => ?_) (fun p l => ?_) (fun p l => ?_) x0 x1 i0 i1 (by rw [← h0]; exact hr) (by rw [← h1]; exact hc))
    · blk_point [iblk, V, idx t]
    · blk_point [iblk, V, idx t]
    · blk_point [iblk, V, idx t]
  · refine (pair2 _ _ _ (ix2 x0 x1)).trans (pair_at (qkv m c) hx t.val 256 hN (by omega) (by omega) _ _ _ (fun p l => ?_) (fun p l => ?_) (fun p l => ?_) x0 x1 i0 i1 (by rw [← h0]; exact hr) (by rw [← h1]; exact hc)) <;>
    blk_point [iblk, V, idx t]
  · refine (pair1 _ _ _ (ix2 x0 x1)).trans (pair_at (qkv m c) hx t.val 128 hN (by omega) (by omega) _ _ _ (fun p l => ?_) (fun p l => ?_) (fun p l => ?_) x0 x1 i0 i1 (by rw [← h0]; exact hr) (by rw [← h1]; exact hc)) <;>
    blk_point [iblk, V, idx t]
  · refine (pair0 _ _ _ (ix2 x0 x1)).trans (pair_at (qkv m c) hx t.val 0 hN (by omega) (by omega) _ _ _ (fun p l => ?_) (fun p l => ?_) (fun p l => ?_) x0 x1 i0 i1 (by rw [← h0]; exact hr) (by rw [← h1]; simpa using hc)) <;>
    blk_point [iblk, V, idx t]

/-- The launch's attention array. -/
theorem arr3 (c : Dev nD) (hx : Fine (qkv m c)) : (dats m 0 c).arrAt 3 cfg0.N = att (qkv m c) := by
  refine (dats m 0 c).arrAt_eq_of_covers 3 _ (by decide +kernel) fun t hf y => ?_
  blk_simp
  rw [after0_3]
  refine out3 m c hx t y _ ?_ ?_
  · blk_simp [idx t]
  · blk_simp [idx t]

/-- What grid point `t` leaves in the first cache's buffer, at an index of the array. -/
theorem out4 (c : Dev nD) (t : Fin cfg0.N) (y : S1x1x8x64x256.Idx) (i : S32x2x8x64x256.Idx) (p : D5 32 2 8 64 256)
    (hi0 : (i 0).val = t.val) (hi1 : (i 1).val = 1) (hi2 : (i 2).val = (y 2).val) (hi3 : (i 3).val = (y 3).val)
    (hi4 : (i 4).val = (y 4).val) : (outsAt0 m c t).2.1 y = cache 1 512 (by decide) (qkv m c) p i := by
  have hN : t.val < 32 := t.isLt
  idx_vars i
  unfold outsAt0
  dsimp only
  refine Eq.trans (b := keep 512 (by decide) (qkv m c) i0 i2 i3 i4) ?_ (if_pos hi1).symm
  unfold keep
  frame_out
  canon_tiles x h <;> idx_vars x
  all_goals pointwise [k0_pay61, k0_pay60, k0_pay46, k0_pay45, k0_pay29, k0_pay28, k0_pay27, k0_pay26, k0_pay13, k0_pay12, k0_pay11, k0_pay59, k0_pay44]
  all_goals blk_point [iblk, V, idx t]

/-- The launch's first cache. -/
theorem arr4 (c : Dev nD) : (dats m 0 c).arrAt 4 cfg0.N
    = cache 1 512 (by decide) (qkv m c) (m ((c : Thread nD τ).loc main_arg1)) := by
  refine ((dats m 0 c).arrAt_eq_of_coversWhere 4 (cache 1 512 (by decide) (qkv m c) (m ((c : Thread nD τ).loc main_arg1)))
    (P := fun i : S32x2x8x64x256.Idx => (i 1).val = 1)
    (fun β => β (1 : Fin 5) = 1) (by decide +kernel) (fun t hf y => ?_)
    (fun j => by blk_simp [Pipeline.Window.cell_apply]; omega)).trans ?_
  · blk_simp
    rw [after0_4]
    refine out4 m c t y _ _ ?_ ?_ ?_ ?_ ?_ <;> blk_simp [idx t]
  · funext (i : S32x2x8x64x256.Idx)
    by_cases h : (i 1).val = 1
    · rw [if_pos h]
    · rw [if_neg h]
      show V m c main_v0_1 i = _
      unfold cache
      rw [if_neg h]
      entry_read
      rfl

/-- What grid point `t` leaves in the second cache's buffer, at an index of the array. -/
theorem out5 (c : Dev nD) (t : Fin cfg0.N) (y : S1x1x8x64x256.Idx) (i : S32x2x8x64x256.Idx) (p : D5 32 2 8 64 256)
    (hi0 : (i 0).val = t.val) (hi1 : (i 1).val = 1) (hi2 : (i 2).val = (y 2).val) (hi3 : (i 3).val = (y 3).val)
    (hi4 : (i 4).val = (y 4).val) : (outsAt0 m c t).2.2 y = cache 1 1024 (by decide) (qkv m c) p i := by
  have hN : t.val < 32 := t.isLt
  idx_vars i
  unfold outsAt0
  dsimp only
  refine Eq.trans (b := keep 1024 (by decide) (qkv m c) i0 i2 i3 i4) ?_ (if_pos hi1).symm
  unfold keep
  frame_out
  canon_tiles x h <;> idx_vars x
  all_goals pointwise [k0_pay1, k0_pay2, k0_pay14, k0_pay15, k0_pay16, k0_pay17, k0_pay30, k0_pay31, k0_pay32, k0_pay47, k0_pay48, k0_pay49, k0_pay62, k0_pay63]
  all_goals blk_point [iblk, V, idx t]

/-- The launch's second cache. -/
theorem arr5 (c : Dev nD) : (dats m 0 c).arrAt 5 cfg0.N
    = cache 1 1024 (by decide) (qkv m c) (m ((c : Thread nD τ).loc main_arg2)) := by
  refine ((dats m 0 c).arrAt_eq_of_coversWhere 5 (cache 1 1024 (by decide) (qkv m c) (m ((c : Thread nD τ).loc main_arg2)))
    (P := fun i : S32x2x8x64x256.Idx => (i 1).val = 1)
    (fun β => β (1 : Fin 5) = 1) (by decide +kernel) (fun t hf y => ?_)
    (fun j => by blk_simp [Pipeline.Window.cell_apply]; omega)).trans ?_
  · blk_simp
    rw [after0_5]
    refine out5 m c t y _ _ ?_ ?_ ?_ ?_ ?_ <;> blk_simp [idx t]
  · funext (i : S32x2x8x64x256.Idx)
    by_cases h : (i 1).val = 1
    · rw [if_pos h]
    · rw [if_neg h]
      show V m c main_v0_2 i = _
      unfold cache
      rw [if_neg h]
      entry_read
      rfl

end Kernel

section Reference

/-- The reference's memory. -/
abbrev RMem := (ℓ : Loc Cert.CtxNextRefIdeal.nD Cert.CtxNextRefIdeal.τ Cert.CtxNextRefIdeal.sig) → Buf (Elt Ideal) ℓ

variable (m : RMem)

/-- The reference's qkv rows. -/
abbrev rqkv (c : Dev Cert.CtxNextRefIdeal.nD) : D2 8192 1536 :=
  m ((c.tc : Thread Cert.CtxNextRefIdeal.nD Cert.CtxNextRefIdeal.τ).loc Cert.CtxNextRefIdeal.main_arg0)

/-- The reference's previous keys. -/
abbrev rprevk (c : Dev Cert.CtxNextRefIdeal.nD) : D5 32 2 8 64 256 :=
  m ((c.tc : Thread Cert.CtxNextRefIdeal.nD Cert.CtxNextRefIdeal.τ).loc Cert.CtxNextRefIdeal.main_arg1)

/-- The reference's previous values. -/
abbrev rprevv (c : Dev Cert.CtxNextRefIdeal.nD) : D5 32 2 8 64 256 :=
  m ((c.tc : Thread Cert.CtxNextRefIdeal.nD Cert.CtxNextRefIdeal.τ).loc Cert.CtxNextRefIdeal.main_arg2)

/-- The reference's attention array. -/
theorem ref_att (c : Dev Cert.CtxNextRefIdeal.nD) :
    Cert.CtxNextRefIdeal.Value.res_main_v27 (F := Ideal) m c = att (rqkv m c) :=
  (show _ = CtxRefValue.rout (CtxRefValue.rweights (CtxRefValue.rscore (rqkv m c))) (rqkv m c) from rfl).trans
    (CtxRefValue.attention _)

/-- The reference ends with the attention and the two caches. -/
theorem runR (g : Dev Cert.CtxNextRefIdeal.nD → PrngReg) :
    θ_run (Cert.CtxNextRefIdeal.defs (F := Ideal)) (onTc (τ := Cert.CtxNextRefIdeal.τ) (Cert.CtxNextRefIdeal.main (F := Ideal)))
      ⟨m, fun _ => 0, g⟩ fun r => ∀ c : Dev Cert.CtxNextRefIdeal.nD,
      r.2.mem ((c.tc : Thread Cert.CtxNextRefIdeal.nD Cert.CtxNextRefIdeal.τ).loc Cert.CtxNextRefIdeal.main_v27) = att (rqkv m c)
      ∧ r.2.mem ((c.tc : Thread Cert.CtxNextRefIdeal.nD Cert.CtxNextRefIdeal.τ).loc Cert.CtxNextRefIdeal.main_v34)
        = cache 1 512 (by decide) (rqkv m c) (rprevk m c)
      ∧ r.2.mem ((c.tc : Thread Cert.CtxNextRefIdeal.nD Cert.CtxNextRefIdeal.τ).loc Cert.CtxNextRefIdeal.main_v39)
        = cache 1 1024 (by decide) (rqkv m c) (rprevv m c)
      ∧ r.2.mem ((c.tc : Thread Cert.CtxNextRefIdeal.nD Cert.CtxNextRefIdeal.τ).loc Cert.CtxNextRefIdeal.main_arg0)
        = m ((c.tc : Thread Cert.CtxNextRefIdeal.nD Cert.CtxNextRefIdeal.τ).loc Cert.CtxNextRefIdeal.main_arg0)
      ∧ r.2.mem ((c.tc : Thread Cert.CtxNextRefIdeal.nD Cert.CtxNextRefIdeal.τ).loc Cert.CtxNextRefIdeal.main_arg1)
        = m ((c.tc : Thread Cert.CtxNextRefIdeal.nD Cert.CtxNextRefIdeal.τ).loc Cert.CtxNextRefIdeal.main_arg1)
      ∧ r.2.mem ((c.tc : Thread Cert.CtxNextRefIdeal.nD Cert.CtxNextRefIdeal.τ).loc Cert.CtxNextRefIdeal.main_arg2)
        = m ((c.tc : Thread Cert.CtxNextRefIdeal.nD Cert.CtxNextRefIdeal.τ).loc Cert.CtxNextRefIdeal.main_arg2) :=
  θ_run_mono (Cert.CtxNextRefIdeal.Value.run m g) fun r h c =>
    ⟨(h c).1.trans (ref_att m c), (h c).2.1.trans (CtxRefValue.keysNext _ _), (h c).2.2.1.trans (CtxRefValue.valsNext _ _),
      (h c).2.2.2⟩

end Reference
end Cert.CtxNextValue
-- ==== Proof.InProjValue.lean ====
module

public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Tactic.CleanTypes

/-! The input projection: what the launch writes, and what the reference computes, are both the array
    `Y` of this module, an RMS-normalised and modulated row against one weight column. -/

@[expose] public section

set_option maxRecDepth 16384

noncomputable section

namespace Cert.InProjValue
open Idealize.ShloMosaic Idealize.ShloMosaic.TcCoe Idealize.SL.Sem
open Cert.InProjIdeal Cert.InProjIdeal.Gen

/-- A vector, a matrix and a box of extended reals. -/
abbrev D1 (a : ℕ) := (⟨1, ![a]⟩ : Shape).Idx → EReal
abbrev D2 (a b : ℕ) := (⟨2, ![a, b]⟩ : Shape).Idx → EReal
abbrev D3 (a b c : ℕ) := (⟨3, ![a, b, c]⟩ : Shape).Idx → EReal

/-- The normalised and modulated input at batch `b`, position `l`, channel `k`: the row over its root mean
    square, times the gain, times one plus the scale, plus the shift; the modulation row of sample `b` is `1 + b`. -/
def nrm (x : D3 2 4096 1024) (mod : D2 3 3072) (g : D1 1024) (b : Fin 2) (l : Fin 4096) (k : Fin 1024) : EReal :=
  x (ix3 b l k) * Ideal.rsqrt (Ideal.div (∑ q, x (ix3 b l q) * x (ix3 b l q)) (Ideal.ofBits FTy.f32 1149239296#32) +
                Ideal.ofBits FTy.f32 897988541#32) * g (ix1 k) * (1 + mod (ix2 ⟨1 + b.val, by omega⟩ ⟨1024 + k.val, by omega⟩))
    + mod (ix2 ⟨1 + b.val, by omega⟩ ⟨k.val, by omega⟩)

/-- Row `r` of the two samples' positions laid end to end, against column `n` of the weight. -/
def Y (x : D3 2 4096 1024) (mod : D2 3 3072) (g : D1 1024) (w : D2 1024 3584) (r : Fin 8192) (n : Fin 3584) : EReal :=
  ∑ k, nrm x mod g ⟨r.val / 4096, by omega⟩ ⟨r.val % 4096, by omega⟩ k * w (ix2 k n)

/-- The columns of `Y` from `off` on, `W` of them. -/
def YO (W off : ℕ) (h : off + W ≤ 3584) (x : D3 2 4096 1024) (mod : D2 3 3072) (g : D1 1024) (w : D2 1024 3584) : D2 8192 W :=
  fun i => Y x mod g w (i 0) ⟨off + (i 1).val, by have : (i 1).val < W := (i 1).isLt; omega⟩

section Kernel

variable (m : (ℓ : Loc nD τ sig) → Buf (Elt Ideal) ℓ)

/-- Where each window's block lies at grid point `t`. -/
theorem idx : ∀ t : Fin grid0.N, win0_0.index t = ![t.val, 0] ∧ win0_1.index t = ![0, 0]
   ∧ win0_2.index t = ![1 + t.val / 8, 0, 0]
   ∧ win0_3.index t = ![1 + t.val / 8, 0, 1] ∧ win0_4.index t = ![0, 0]
   ∧ win0_5.index t = ![t.val, 0] ∧ win0_6.index t = ![t.val, 0] ∧ win0_7.index t = ![t.val, 0]
   ∧ win0_8.index t = ![t.val, 0] ∧ win0_9.index t = ![t.val, 0] := by decide +kernel

set_option maxHeartbeats 1000000 in
/-- The normalised row block of grid point `t` is `nrm` at the rows `t * 512 + p`. -/
theorem h_at (c : Dev nD) (t : Fin cfg0.N) (p : Fin 512) (k : Fin 1024) (b : Fin 2) (l : Fin 4096)
   (h : b.val * 4096 + l.val = t.val * 512 + p.val) :
  k0_pay2 (View.ld (iblk m c 0 t) r0_0) (View.ld (iblk m c 1 t) r0_1) (View.ld (iblk m c 3 t) r0_2)
          (View.ld (iblk m c 2 t) r0_2) (ix2 p k) =
   nrm (m ((c : Thread nD τ).loc main_arg0)) (m ((c : Thread nD τ).loc main_arg1)) (m ((c : Thread nD τ).loc main_arg2)) b l k := by
  have hN : t.val < 16 := t.isLt
  unfold nrm
  pointwise [k0_pay2]
  blk_point [iblk, V, idx t]

/-- The weight's block is the whole weight. -/
theorem w_at (c : Dev nD) (t : Fin cfg0.N) (k : Fin 1024) (n n' : Fin 3584) (h : n.val = n'.val) :
  iblk m c 4 t (ix2 k n) = m ((c : Thread nD τ).loc main_arg3) (ix2 k n') := by
  obtain rfl : n = n' := Fin.ext h
  blk_ext [iblk, V, idx t]

/-- The array `YO` of the launch's arguments. -/
abbrev KY (W off : ℕ) (h : off + W ≤ 3584) (c : Dev nD) : D2 8192 W :=
  YO W off h (m ((c : Thread nD τ).loc main_arg0)) (m ((c : Thread nD τ).loc main_arg1))
    (m ((c : Thread nD τ).loc main_arg2)) (m ((c : Thread nD τ).loc main_arg3))

/-- A row of the normalised block against a column of the weight's block is an entry of `Y`. -/
theorem sum_at (c : Dev nD) (t : Fin cfg0.N) (p : Fin 512) (n : Fin 3584) (W off : ℕ) (hW) (i : (⟨2, ![8192, W]⟩ : Shape).Idx)
    (h0 : (i 0).val = t.val * 512 + p.val) (h1 : n.val = off + (i 1).val) :
    ∑ q, k0_pay2 (View.ld (iblk m c 0 t) r0_0) (View.ld (iblk m c 1 t) r0_1) (View.ld (iblk m c 3 t) r0_2)
          (View.ld (iblk m c 2 t) r0_2) (ix2 p q) * iblk m c 4 t (ix2 q n)
      = KY m W off hW c i := by
  unfold KY YO Y
  refine Finset.sum_congr rfl fun q _ => ?_
  refine congrArg₂ (· * ·) (h_at m c t p q _ _ ?_) (w_at m c t q n _ h1)
  simp only [h0]
  omega

/-- A matrix at an index known by its coordinates. -/
theorem app2 {a b : ℕ} {α : Type} (f : (⟨2, ![a, b]⟩ : Shape).Idx → α) (i j : (⟨2, ![a, b]⟩ : Shape).Idx)
    (h0 : (i 0).val = (j 0).val) (h1 : (i 1).val = (j 1).val) : f i = f j := by
  congr 1; funext x; apply Fin.ext
  match x with
  | ⟨0, _⟩ => exact h0
  | ⟨1, _⟩ => exact h1

theorem val0 {a b : ℕ} (p : Fin a) (q : Fin b) : (ix2 p q 0).val = p.val := rfl
theorem val1 {a b : ℕ} (p : Fin a) (q : Fin b) : (ix2 p q 1).val = q.val := rfl

/-- What grid point `t` leaves in window 5's buffer, at an index of the array. -/
theorem out5 (c : Dev nD) (t : Fin cfg0.N) (y : S512x768.Idx) (i : S8192x768.Idx)
    (hr : (i 0).val = t.val * 512 + (y 0).val) (hc : (i 1).val = (y 1).val) :
    out0_5 (iblk m c 0 t) (iblk m c 1 t) (iblk m c 2 t) (iblk m c 3 t) (iblk m c 4 t) y = KY m 768 0 (by decide) c i := by
  unfold out0_5 k0_pay17
  canon_tiles x h
  all_goals
    idx_vars x
    pointwise [k0_pay3, k0_pay4, k0_pay5]
  · exact sum_at m c t x0 ⟨512 + x1.val, by omega⟩ _ _ _ i (by rw [hr, h0]) (by rw [hc, h1]; simp only [val1]; omega)
  · exact sum_at m c t x0 ⟨256 + x1.val, by omega⟩ _ _ _ i (by rw [hr, h0]) (by rw [hc, h1]; simp only [val1]; omega)
  · exact sum_at m c t x0 ⟨x1.val, by omega⟩ _ _ _ i (by rw [hr, h0]) (by rw [hc, h1]; simp only [val1]; omega)

/-- The launch's output array of window 5. -/
theorem arr5 (c : Dev nD) : (dats m 0 c).arrAt 5 cfg0.N = KY m 768 0 (by decide) c := by
  refine (dats m 0 c).arrAt_eq_of_covers 5 _ (by decide +kernel) fun t hf y => ?_
  blk_simp
  rw [after0_5]
  refine out5 m c t y _ ?_ ?_
  · blk_simp [idx t]
  · blk_simp [idx t]

/-- What grid point `t` leaves in window 6's buffer, at an index of the array. -/
theorem out6 (c : Dev nD) (t : Fin cfg0.N) (y : S512x1536.Idx) (i : S8192x1536.Idx)
    (hr : (i 0).val = t.val * 512 + (y 0).val) (hc : (i 1).val = (y 1).val) :
    out0_6 (iblk m c 0 t) (iblk m c 1 t) (iblk m c 2 t) (iblk m c 3 t) (iblk m c 4 t) y = KY m 1536 768 (by decide) c i := by
  unfold out0_6 k0_pay17
  canon_tiles x h
  all_goals
    idx_vars x
    pointwise [k0_pay6, k0_pay7, k0_pay8, k0_pay9, k0_pay10, k0_pay11]
  · exact sum_at m c t x0 ⟨2048 + x1.val, by omega⟩ _ _ _ i (by rw [hr, h0]) (by rw [hc, h1]; simp only [val1]; omega)
  · exact sum_at m c t x0 ⟨1792 + x1.val, by omega⟩ _ _ _ i (by rw [hr, h0]) (by rw [hc, h1]; simp only [val1]; omega)
  · exact sum_at m c t x0 ⟨1536 + x1.val, by omega⟩ _ _ _ i (by rw [hr, h0]) (by rw [hc, h1]; simp only [val1]; omega)
  · exact sum_at m c t x0 ⟨1280 + x1.val, by omega⟩ _ _ _ i (by rw [hr, h0]) (by rw [hc, h1]; simp only [val1]; omega)
  · exact sum_at m c t x0 ⟨1024 + x1.val, by omega⟩ _ _ _ i (by rw [hr, h0]) (by rw [hc, h1]; simp only [val1]; omega)
  · exact sum_at m c t x0 ⟨768 + x1.val, by omega⟩ _ _ _ i (by rw [hr, h0]) (by rw [hc, h1])

/-- The launch's output array of window 6. -/
theorem arr6 (c : Dev nD) : (dats m 0 c).arrAt 6 cfg0.N = KY m 1536 768 (by decide) c := by
  refine (dats m 0 c).arrAt_eq_of_covers 6 _ (by decide +kernel) fun t hf y => ?_
  blk_simp
  rw [after0_6]
  refine out6 m c t y _ ?_ ?_
  · blk_simp [idx t]
  · blk_simp [idx t]

/-- What grid point `t` leaves in window 7's buffer, at an index of the array. -/
theorem out7 (c : Dev nD) (t : Fin cfg0.N) (y : S512x128.Idx) (i : S8192x128.Idx)
    (hr : (i 0).val = t.val * 512 + (y 0).val) (hc : (i 1).val = (y 1).val) :
    out0_7 (iblk m c 0 t) (iblk m c 1 t) (iblk m c 2 t) (iblk m c 3 t) (iblk m c 4 t) y = KY m 128 2304 (by decide) c i := by
  unfold out0_7 k0_pay17
  canon_tiles x h
  all_goals
    idx_vars x
    pointwise [k0_pay12]
  · exact sum_at m c t x0 ⟨2304 + x1.val, by omega⟩ _ _ _ i (by rw [hr, h0]) (by rw [hc, h1])

/-- The launch's output array of window 7. -/
theorem arr7 (c : Dev nD) : (dats m 0 c).arrAt 7 cfg0.N = KY m 128 2304 (by decide) c := by
  refine (dats m 0 c).arrAt_eq_of_covers 7 _ (by decide +kernel) fun t hf y => ?_
  blk_simp
  rw [after0_7]
  refine out7 m c t y _ ?_ ?_
  · blk_simp [idx t]
  · blk_simp [idx t]

/-- What grid point `t` leaves in window 8's buffer, at an index of the array. -/
theorem out8 (c : Dev nD) (t : Fin cfg0.N) (y : S512x128.Idx) (i : S8192x128.Idx)
    (hr : (i 0).val = t.val * 512 + (y 0).val) (hc : (i 1).val = (y 1).val) :
    out0_8 (iblk m c 0 t) (iblk m c 1 t) (iblk m c 2 t) (iblk m c 3 t) (iblk m c 4 t) y = KY m 128 2432 (by decide) c i := by
  unfold out0_8 k0_pay17
  canon_tiles x h
  all_goals
    idx_vars x
    pointwise [k0_pay13]
  · exact sum_at m c t x0 ⟨2432 + x1.val, by omega⟩ _ _ _ i (by rw [hr, h0]) (by rw [hc, h1])

/-- The launch's output array of window 8. -/
theorem arr8 (c : Dev nD) : (dats m 0 c).arrAt 8 cfg0.N = KY m 128 2432 (by decide) c := by
  refine (dats m 0 c).arrAt_eq_of_covers 8 _ (by decide +kernel) fun t hf y => ?_
  blk_simp
  rw [after0_8]
  refine out8 m c t y _ ?_ ?_
  · blk_simp [idx t]
  · blk_simp [idx t]

/-- What grid point `t` leaves in window 9's buffer, at an index of the array. -/
theorem out9 (c : Dev nD) (t : Fin cfg0.N) (y : S512x1024.Idx) (i : S8192x1024.Idx)
    (hr : (i 0).val = t.val * 512 + (y 0).val) (hc : (i 1).val = (y 1).val) :
    out0_9 (iblk m c 0 t) (iblk m c 1 t) (iblk m c 2 t) (iblk m c 3 t) (iblk m c 4 t) y = KY m 1024 2560 (by decide) c i := by
  unfold out0_9 k0_pay17
  canon_tiles x h
  all_goals
    idx_vars x
    pointwise [k0_pay14, k0_pay15, k0_pay16, k0_pay1]
  · exact sum_at m c t x0 ⟨3328 + x1.val, by omega⟩ _ _ _ i (by rw [hr, h0]) (by rw [hc, h1]; simp only [val1]; omega)
  · exact sum_at m c t x0 ⟨3072 + x1.val, by omega⟩ _ _ _ i (by rw [hr, h0]) (by rw [hc, h1]; simp only [val1]; omega)
  · exact sum_at m c t x0 ⟨2816 + x1.val, by omega⟩ _ _ _ i (by rw [hr, h0]) (by rw [hc, h1]; simp only [val1]; omega)
  · exact sum_at m c t x0 ⟨2560 + x1.val, by omega⟩ _ _ _ i (by rw [hr, h0]) (by rw [hc, h1])

/-- The launch's output array of window 9. -/
theorem arr9 (c : Dev nD) : (dats m 0 c).arrAt 9 cfg0.N = KY m 1024 2560 (by decide) c := by
  refine (dats m 0 c).arrAt_eq_of_covers 9 _ (by decide +kernel) fun t hf y => ?_
  blk_simp
  rw [after0_9]
  refine out9 m c t y _ ?_ ?_
  · blk_simp [idx t]
  · blk_simp [idx t]

end Kernel

section Reference

variable (m : (ℓ : Loc Cert.InProjRefIdeal.nD Cert.InProjRefIdeal.τ Cert.InProjRefIdeal.sig) → Buf (Elt Ideal) ℓ)

/-- The array `YO` of the reference's arguments. -/
abbrev RY (W off : ℕ) (h : off + W ≤ 3584) (c : Dev Cert.InProjRefIdeal.nD) : D2 8192 W :=
  YO W off h (m ((c.tc : Thread Cert.InProjRefIdeal.nD Cert.InProjRefIdeal.τ).loc Cert.InProjRefIdeal.main_arg0))
    (m ((c.tc : Thread Cert.InProjRefIdeal.nD Cert.InProjRefIdeal.τ).loc Cert.InProjRefIdeal.main_arg1))
    (m ((c.tc : Thread Cert.InProjRefIdeal.nD Cert.InProjRefIdeal.τ).loc Cert.InProjRefIdeal.main_arg2))
    (m ((c.tc : Thread Cert.InProjRefIdeal.nD Cert.InProjRefIdeal.τ).loc Cert.InProjRefIdeal.main_arg3))

set_option maxHeartbeats 4000000 in
/-- The reference ends with its five results at the five column ranges of `Y`. -/
theorem runR (ρ : Dev Cert.InProjRefIdeal.nD → PrngReg) :
    θ_run Cert.InProjRefIdeal.defs (onTc (τ := Cert.InProjRefIdeal.τ) (Cert.InProjRefIdeal.main (F := Ideal)))
      ⟨m, fun _ => 0, ρ⟩ fun r => ∀ c : Dev Cert.InProjRefIdeal.nD,
      r.2.mem ((c.tc : Thread Cert.InProjRefIdeal.nD Cert.InProjRefIdeal.τ).loc Cert.InProjRefIdeal.main_v26) = RY m 768 0 (by decide) c
      ∧ r.2.mem ((c.tc : Thread Cert.InProjRefIdeal.nD Cert.InProjRefIdeal.τ).loc Cert.InProjRefIdeal.main_v27) = RY m 1536 768 (by decide) c
      ∧ r.2.mem ((c.tc : Thread Cert.InProjRefIdeal.nD Cert.InProjRefIdeal.τ).loc Cert.InProjRefIdeal.main_v28) = RY m 128 2304 (by decide) c
      ∧ r.2.mem ((c.tc : Thread Cert.InProjRefIdeal.nD Cert.InProjRefIdeal.τ).loc Cert.InProjRefIdeal.main_v29) = RY m 128 2432 (by decide) c
      ∧ r.2.mem ((c.tc : Thread Cert.InProjRefIdeal.nD Cert.InProjRefIdeal.τ).loc Cert.InProjRefIdeal.main_v30) = RY m 1024 2560 (by decide) c
      ∧ r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3) := by
  refine Idealize.ShloMosaic.θ_run_mono (Cert.InProjRefIdeal.Value.run m ρ) ?_
  intro r h c
  obtain ⟨h5, h6, h7, h8, h9, h⟩ := h c
  refine ⟨h5.trans ?_, h6.trans ?_, h7.trans ?_, h8.trans ?_, h9.trans ?_, h⟩
  · funext (i : S8192x768.Idx)
    idx_vars i
    clean_types
    pointwise [YO, Y, nrm]
  · funext (i : S8192x1536.Idx)
    idx_vars i
    clean_types
    pointwise [YO, Y, nrm]
  · funext (i : S8192x128.Idx)
    idx_vars i
    clean_types
    pointwise [YO, Y, nrm]
  · funext (i : S8192x128.Idx)
    idx_vars i
    clean_types
    pointwise [YO, Y, nrm]
  · funext (i : S8192x1024.Idx)
    idx_vars i
    clean_types
    pointwise [YO, Y, nrm]

end Reference

end Cert.InProjValue
-- ==== Proof.InCtxValue.lean ====
module

public import proofs.«01_k».proof.Proof.Gen.InCtxIdeal.Value
public import proofs.«01_k».proof.Proof.Gen.InCtxRefIdeal.Run
public import Idealize.ShloMosaic.Lib.Pipeline.ValueKit
public import Idealize.ShloMosaic.Lib.Pointwise
public import Idealize.ShloMosaic.Lib.Tactic.CleanTypes

/-! The context tokens' input projection: what the launch writes, and what the reference computes, are both the array
    `Y` of this module, an RMS-normalised and modulated row against one weight column. -/

@[expose] public section

set_option maxRecDepth 16384

noncomputable section

namespace Cert.InCtxValue
open Idealize.ShloMosaic Idealize.ShloMosaic.TcCoe Idealize.SL.Sem
open Cert.InCtxIdeal Cert.InCtxIdeal.Gen

/-- A vector, a matrix and a box of extended reals. -/
abbrev D1 (a : ℕ) := (⟨1, ![a]⟩ : Shape).Idx → EReal
abbrev D2 (a b : ℕ) := (⟨2, ![a, b]⟩ : Shape).Idx → EReal
abbrev D3 (a b c : ℕ) := (⟨3, ![a, b, c]⟩ : Shape).Idx → EReal

/-- The normalised and modulated input at batch `b`, position `l`, channel `k`: the row over its root mean
    square, times the gain, times one plus the scale, plus the shift; the modulation row is the first. -/
def nrm (x : D3 32 256 1024) (mod : D2 3 3072) (g : D1 1024) (b : Fin 32) (l : Fin 256) (k : Fin 1024) : EReal :=
  x (ix3 b l k) * Ideal.rsqrt (Ideal.div (∑ q, x (ix3 b l q) * x (ix3 b l q)) (Ideal.ofBits FTy.f32 1149239296#32) +
                Ideal.ofBits FTy.f32 897988541#32) * g (ix1 k) * (1 + mod (ix2 0 ⟨1024 + k.val, by omega⟩))
    + mod (ix2 0 ⟨k.val, by omega⟩)

/-- Row `r` of the 32 sequences' positions laid end to end, against column `n` of the weight. -/
def Y (x : D3 32 256 1024) (mod : D2 3 3072) (g : D1 1024) (w : D2 1024 3584) (r : Fin 8192) (n : Fin 3584) : EReal :=
  ∑ k, nrm x mod g ⟨r.val / 256, by omega⟩ ⟨r.val % 256, by omega⟩ k * w (ix2 k n)

/-- The columns of `Y` from `off` on, `W` of them. -/
def YO (W off : ℕ) (h : off + W ≤ 3584) (x : D3 32 256 1024) (mod : D2 3 3072) (g : D1 1024) (w : D2 1024 3584) : D2 8192 W :=
  fun i => Y x mod g w (i 0) ⟨off + (i 1).val, by have : (i 1).val < W := (i 1).isLt; omega⟩

section Kernel

variable (m : (ℓ : Loc nD τ sig) → Buf (Elt Ideal) ℓ)

/-- Where each window's block lies at grid point `t`. -/
theorem idx : ∀ t : Fin grid0.N, win0_0.index t = ![t.val, 0] ∧ win0_1.index t = ![0, 0]
   ∧ win0_2.index t = ![0, 0, 0]
   ∧ win0_3.index t = ![0, 0, 1] ∧ win0_4.index t = ![0, 0]
   ∧ win0_5.index t = ![t.val, 0] ∧ win0_6.index t = ![t.val, 0] ∧ win0_7.index t = ![t.val, 0]
   ∧ win0_8.index t = ![t.val, 0] ∧ win0_9.index t = ![t.val, 0] := by decide +kernel

set_option maxHeartbeats 1000000 in
/-- The normalised row block of grid point `t` is `nrm` at the rows `t * 512 + p`. -/
theorem h_at (c : Dev nD) (t : Fin cfg0.N) (p : Fin 512) (k : Fin 1024) (b : Fin 32) (l : Fin 256)
   (h : b.val * 256 + l.val = t.val * 512 + p.val) :
  k0_pay2 (View.ld (iblk m c 0 t) r0_0) (View.ld (iblk m c 1 t) r0_1) (View.ld (iblk m c 3 t) r0_2)
          (View.ld (iblk m c 2 t) r0_2) (ix2 p k) =
   nrm (m ((c : Thread nD τ).loc main_arg0)) (m ((c : Thread nD τ).loc main_arg1)) (m ((c : Thread nD τ).loc main_arg2)) b l k := by
  have hN : t.val < 16 := t.isLt
  unfold nrm
  pointwise [k0_pay2]
  blk_point [iblk, V, idx t]

/-- The weight's block is the whole weight. -/
theorem w_at (c : Dev nD) (t : Fin cfg0.N) (k : Fin 1024) (n n' : Fin 3584) (h : n.val = n'.val) :
  iblk m c 4 t (ix2 k n) = m ((c : Thread nD τ).loc main_arg3) (ix2 k n') := by
  obtain rfl : n = n' := Fin.ext h
  blk_ext [iblk, V, idx t]

/-- The array `YO` of the launch's arguments. -/
abbrev KY (W off : ℕ) (h : off + W ≤ 3584) (c : Dev nD) : D2 8192 W :=
  YO W off h (m ((c : Thread nD τ).loc main_arg0)) (m ((c : Thread nD τ).loc main_arg1))
    (m ((c : Thread nD τ).loc main_arg2)) (m ((c : Thread nD τ).loc main_arg3))

/-- A row of the normalised block against a column of the weight's block is an entry of `Y`. -/
theorem sum_at (c : Dev nD) (t : Fin cfg0.N) (p : Fin 512) (n : Fin 3584) (W off : ℕ) (hW) (i : (⟨2, ![8192, W]⟩ : Shape).Idx)
    (h0 : (i 0).val = t.val * 512 + p.val) (h1 : n.val = off + (i 1).val) :
    ∑ q, k0_pay2 (View.ld (iblk m c 0 t) r0_0) (View.ld (iblk m c 1 t) r0_1) (View.ld (iblk m c 3 t) r0_2)
          (View.ld (iblk m c 2 t) r0_2) (ix2 p q) * iblk m c 4 t (ix2 q n)
      = KY m W off hW c i := by
  unfold KY YO Y
  refine Finset.sum_congr rfl fun q _ => ?_
  refine congrArg₂ (· * ·) (h_at m c t p q _ _ ?_) (w_at m c t q n _ h1)
  simp only [h0]
  omega

/-- A matrix at an index known by its coordinates. -/
theorem app2 {a b : ℕ} {α : Type} (f : (⟨2, ![a, b]⟩ : Shape).Idx → α) (i j : (⟨2, ![a, b]⟩ : Shape).Idx)
    (h0 : (i 0).val = (j 0).val) (h1 : (i 1).val = (j 1).val) : f i = f j := by
  congr 1; funext x; apply Fin.ext
  match x with
  | ⟨0, _⟩ => exact h0
  | ⟨1, _⟩ => exact h1

theorem val0 {a b : ℕ} (p : Fin a) (q : Fin b) : (ix2 p q 0).val = p.val := rfl
theorem val1 {a b : ℕ} (p : Fin a) (q : Fin b) : (ix2 p q 1).val = q.val := rfl

/-- What grid point `t` leaves in window 5's buffer, at an index of the array. -/
theorem out5 (c : Dev nD) (t : Fin cfg0.N) (y : S512x768.Idx) (i : S8192x768.Idx)
    (hr : (i 0).val = t.val * 512 + (y 0).val) (hc : (i 1).val = (y 1).val) :
    out0_5 (iblk m c 0 t) (iblk m c 1 t) (iblk m c 2 t) (iblk m c 3 t) (iblk m c 4 t) y = KY m 768 0 (by decide) c i := by
  unfold out0_5 k0_pay17
  canon_tiles x h
  all_goals
    idx_vars x
    pointwise [k0_pay3, k0_pay4, k0_pay5]
  · exact sum_at m c t x0 ⟨512 + x1.val, by omega⟩ _ _ _ i (by rw [hr, h0]) (by rw [hc, h1]; simp only [val1]; omega)
  · exact sum_at m c t x0 ⟨256 + x1.val, by omega⟩ _ _ _ i (by rw [hr, h0]) (by rw [hc, h1]; simp only [val1]; omega)
  · exact sum_at m c t x0 ⟨x1.val, by omega⟩ _ _ _ i (by rw [hr, h0]) (by rw [hc, h1]; simp only [val1]; omega)

/-- The launch's output array of window 5. -/
theorem arr5 (c : Dev nD) : (dats m 0 c).arrAt 5 cfg0.N = KY m 768 0 (by decide) c := by
  refine (dats m 0 c).arrAt_eq_of_covers 5 _ (by decide +kernel) fun t hf y => ?_
  blk_simp
  rw [after0_5]
  refine out5 m c t y _ ?_ ?_
  · blk_simp [idx t]
  · blk_simp [idx t]

/-- What grid point `t` leaves in window 6's buffer, at an index of the array. -/
theorem out6 (c : Dev nD) (t : Fin cfg0.N) (y : S512x1536.Idx) (i : S8192x1536.Idx)
    (hr : (i 0).val = t.val * 512 + (y 0).val) (hc : (i 1).val = (y 1).val) :
    out0_6 (iblk m c 0 t) (iblk m c 1 t) (iblk m c 2 t) (iblk m c 3 t) (iblk m c 4 t) y = KY m 1536 768 (by decide) c i := by
  unfold out0_6 k0_pay17
  canon_tiles x h
  all_goals
    idx_vars x
    pointwise [k0_pay6, k0_pay7, k0_pay8, k0_pay9, k0_pay10, k0_pay11]
  · exact sum_at m c t x0 ⟨2048 + x1.val, by omega⟩ _ _ _ i (by rw [hr, h0]) (by rw [hc, h1]; simp only [val1]; omega)
  · exact sum_at m c t x0 ⟨1792 + x1.val, by omega⟩ _ _ _ i (by rw [hr, h0]) (by rw [hc, h1]; simp only [val1]; omega)
  · exact sum_at m c t x0 ⟨1536 + x1.val, by omega⟩ _ _ _ i (by rw [hr, h0]) (by rw [hc, h1]; simp only [val1]; omega)
  · exact sum_at m c t x0 ⟨1280 + x1.val, by omega⟩ _ _ _ i (by rw [hr, h0]) (by rw [hc, h1]; simp only [val1]; omega)
  · exact sum_at m c t x0 ⟨1024 + x1.val, by omega⟩ _ _ _ i (by rw [hr, h0]) (by rw [hc, h1]; simp only [val1]; omega)
  · exact sum_at m c t x0 ⟨768 + x1.val, by omega⟩ _ _ _ i (by rw [hr, h0]) (by rw [hc, h1])

/-- The launch's output array of window 6. -/
theorem arr6 (c : Dev nD) : (dats m 0 c).arrAt 6 cfg0.N = KY m 1536 768 (by decide) c := by
  refine (dats m 0 c).arrAt_eq_of_covers 6 _ (by decide +kernel) fun t hf y => ?_
  blk_simp
  rw [after0_6]
  refine out6 m c t y _ ?_ ?_
  · blk_simp [idx t]
  · blk_simp [idx t]

/-- What grid point `t` leaves in window 7's buffer, at an index of the array. -/
theorem out7 (c : Dev nD) (t : Fin cfg0.N) (y : S512x128.Idx) (i : S8192x128.Idx)
    (hr : (i 0).val = t.val * 512 + (y 0).val) (hc : (i 1).val = (y 1).val) :
    out0_7 (iblk m c 0 t) (iblk m c 1 t) (iblk m c 2 t) (iblk m c 3 t) (iblk m c 4 t) y = KY m 128 2304 (by decide) c i := by
  unfold out0_7 k0_pay17
  canon_tiles x h
  all_goals
    idx_vars x
    pointwise [k0_pay12]
  · exact sum_at m c t x0 ⟨2304 + x1.val, by omega⟩ _ _ _ i (by rw [hr, h0]) (by rw [hc, h1])

/-- The launch's output array of window 7. -/
theorem arr7 (c : Dev nD) : (dats m 0 c).arrAt 7 cfg0.N = KY m 128 2304 (by decide) c := by
  refine (dats m 0 c).arrAt_eq_of_covers 7 _ (by decide +kernel) fun t hf y => ?_
  blk_simp
  rw [after0_7]
  refine out7 m c t y _ ?_ ?_
  · blk_simp [idx t]
  · blk_simp [idx t]

/-- What grid point `t` leaves in window 8's buffer, at an index of the array. -/
theorem out8 (c : Dev nD) (t : Fin cfg0.N) (y : S512x128.Idx) (i : S8192x128.Idx)
    (hr : (i 0).val = t.val * 512 + (y 0).val) (hc : (i 1).val = (y 1).val) :
    out0_8 (iblk m c 0 t) (iblk m c 1 t) (iblk m c 2 t) (iblk m c 3 t) (iblk m c 4 t) y = KY m 128 2432 (by decide) c i := by
  unfold out0_8 k0_pay17
  canon_tiles x h
  all_goals
    idx_vars x
    pointwise [k0_pay13]
  · exact sum_at m c t x0 ⟨2432 + x1.val, by omega⟩ _ _ _ i (by rw [hr, h0]) (by rw [hc, h1])

/-- The launch's output array of window 8. -/
theorem arr8 (c : Dev nD) : (dats m 0 c).arrAt 8 cfg0.N = KY m 128 2432 (by decide) c := by
  refine (dats m 0 c).arrAt_eq_of_covers 8 _ (by decide +kernel) fun t hf y => ?_
  blk_simp
  rw [after0_8]
  refine out8 m c t y _ ?_ ?_
  · blk_simp [idx t]
  · blk_simp [idx t]

/-- What grid point `t` leaves in window 9's buffer, at an index of the array. -/
theorem out9 (c : Dev nD) (t : Fin cfg0.N) (y : S512x1024.Idx) (i : S8192x1024.Idx)
    (hr : (i 0).val = t.val * 512 + (y 0).val) (hc : (i 1).val = (y 1).val) :
    out0_9 (iblk m c 0 t) (iblk m c 1 t) (iblk m c 2 t) (iblk m c 3 t) (iblk m c 4 t) y = KY m 1024 2560 (by decide) c i := by
  unfold out0_9 k0_pay17
  canon_tiles x h
  all_goals
    idx_vars x
    pointwise [k0_pay14, k0_pay15, k0_pay16, k0_pay1]
  · exact sum_at m c t x0 ⟨3328 + x1.val, by omega⟩ _ _ _ i (by rw [hr, h0]) (by rw [hc, h1]; simp only [val1]; omega)
  · exact sum_at m c t x0 ⟨3072 + x1.val, by omega⟩ _ _ _ i (by rw [hr, h0]) (by rw [hc, h1]; simp only [val1]; omega)
  · exact sum_at m c t x0 ⟨2816 + x1.val, by omega⟩ _ _ _ i (by rw [hr, h0]) (by rw [hc, h1]; simp only [val1]; omega)
  · exact sum_at m c t x0 ⟨2560 + x1.val, by omega⟩ _ _ _ i (by rw [hr, h0]) (by rw [hc, h1])

/-- The launch's output array of window 9. -/
theorem arr9 (c : Dev nD) : (dats m 0 c).arrAt 9 cfg0.N = KY m 1024 2560 (by decide) c := by
  refine (dats m 0 c).arrAt_eq_of_covers 9 _ (by decide +kernel) fun t hf y => ?_
  blk_simp
  rw [after0_9]
  refine out9 m c t y _ ?_ ?_
  · blk_simp [idx t]
  · blk_simp [idx t]

end Kernel

section Reference

variable (m : (ℓ : Loc Cert.InCtxRefIdeal.nD Cert.InCtxRefIdeal.τ Cert.InCtxRefIdeal.sig) → Buf (Elt Ideal) ℓ)

/-- The array `YO` of the reference's arguments. -/
abbrev RY (W off : ℕ) (h : off + W ≤ 3584) (c : Dev Cert.InCtxRefIdeal.nD) : D2 8192 W :=
  YO W off h (m ((c.tc : Thread Cert.InCtxRefIdeal.nD Cert.InCtxRefIdeal.τ).loc Cert.InCtxRefIdeal.main_arg0))
    (m ((c.tc : Thread Cert.InCtxRefIdeal.nD Cert.InCtxRefIdeal.τ).loc Cert.InCtxRefIdeal.main_arg1))
    (m ((c.tc : Thread Cert.InCtxRefIdeal.nD Cert.InCtxRefIdeal.τ).loc Cert.InCtxRefIdeal.main_arg2))
    (m ((c.tc : Thread Cert.InCtxRefIdeal.nD Cert.InCtxRefIdeal.τ).loc Cert.InCtxRefIdeal.main_arg3))

set_option maxHeartbeats 4000000 in
/-- The reference ends with its five results at the five column ranges of `Y`. -/
theorem runR (ρ : Dev Cert.InCtxRefIdeal.nD → PrngReg) :
    θ_run Cert.InCtxRefIdeal.defs (onTc (τ := Cert.InCtxRefIdeal.τ) (Cert.InCtxRefIdeal.main (F := Ideal)))
      ⟨m, fun _ => 0, ρ⟩ fun r => ∀ c : Dev Cert.InCtxRefIdeal.nD,
      r.2.mem ((c.tc : Thread Cert.InCtxRefIdeal.nD Cert.InCtxRefIdeal.τ).loc Cert.InCtxRefIdeal.main_v26) = RY m 768 0 (by decide) c
      ∧ r.2.mem ((c.tc : Thread Cert.InCtxRefIdeal.nD Cert.InCtxRefIdeal.τ).loc Cert.InCtxRefIdeal.main_v27) = RY m 1536 768 (by decide) c
      ∧ r.2.mem ((c.tc : Thread Cert.InCtxRefIdeal.nD Cert.InCtxRefIdeal.τ).loc Cert.InCtxRefIdeal.main_v28) = RY m 128 2304 (by decide) c
      ∧ r.2.mem ((c.tc : Thread Cert.InCtxRefIdeal.nD Cert.InCtxRefIdeal.τ).loc Cert.InCtxRefIdeal.main_v29) = RY m 128 2432 (by decide) c
      ∧ r.2.mem ((c.tc : Thread Cert.InCtxRefIdeal.nD Cert.InCtxRefIdeal.τ).loc Cert.InCtxRefIdeal.main_v30) = RY m 1024 2560 (by decide) c
      ∧ r.2.mem ((c.tc : Thread Cert.InCtxRefIdeal.nD Cert.InCtxRefIdeal.τ).loc Cert.InCtxRefIdeal.main_arg0) = m ((c.tc : Thread Cert.InCtxRefIdeal.nD Cert.InCtxRefIdeal.τ).loc Cert.InCtxRefIdeal.main_arg0)
      ∧ r.2.mem ((c.tc : Thread Cert.InCtxRefIdeal.nD Cert.InCtxRefIdeal.τ).loc Cert.InCtxRefIdeal.main_arg1) = m ((c.tc : Thread Cert.InCtxRefIdeal.nD Cert.InCtxRefIdeal.τ).loc Cert.InCtxRefIdeal.main_arg1)
      ∧ r.2.mem ((c.tc : Thread Cert.InCtxRefIdeal.nD Cert.InCtxRefIdeal.τ).loc Cert.InCtxRefIdeal.main_arg2) = m ((c.tc : Thread Cert.InCtxRefIdeal.nD Cert.InCtxRefIdeal.τ).loc Cert.InCtxRefIdeal.main_arg2)
      ∧ r.2.mem ((c.tc : Thread Cert.InCtxRefIdeal.nD Cert.InCtxRefIdeal.τ).loc Cert.InCtxRefIdeal.main_arg3) = m ((c.tc : Thread Cert.InCtxRefIdeal.nD Cert.InCtxRefIdeal.τ).loc Cert.InCtxRefIdeal.main_arg3) := by
  refine Idealize.ShloMosaic.θ_run_mono (Cert.InCtxRefIdeal.Value.run m ρ) ?_
  intro r h c
  obtain ⟨h5, h6, h7, h8, h9, h⟩ := h c
  refine ⟨h5.trans ?_, h6.trans ?_, h7.trans ?_, h8.trans ?_, h9.trans ?_, h⟩
  · funext (i : S8192x768.Idx)
    idx_vars i
    clean_types
    pointwise [YO, Y, nrm]
  · funext (i : S8192x1536.Idx)
    idx_vars i
    clean_types
    pointwise [YO, Y, nrm]
  · funext (i : S8192x128.Idx)
    idx_vars i
    clean_types
    pointwise [YO, Y, nrm]
  · funext (i : S8192x128.Idx)
    idx_vars i
    clean_types
    pointwise [YO, Y, nrm]
  · funext (i : S8192x1024.Idx)
    idx_vars i
    clean_types
    pointwise [YO, Y, nrm]

end Reference

end Cert.InCtxValue
-- ==== Proof.OutInValue.lean ====
module

public import proofs.«01_k».proof.Proof.Rows
public import proofs.«01_k».proof.Proof.Gen.OutInIdeal.Value
public import proofs.«01_k».proof.Proof.Gen.OutInRefIdeal.Run
public import Idealize.ShloMosaic.Lib.Tactic.CleanTypes

/-! The context tokens' output projection and the next layer's input projection: what the launch writes, and what the
    reference computes, are both the arrays `X` and `YO` of this module. -/

@[expose] public section

set_option maxRecDepth 16384

noncomputable section

namespace Cert.OutInValue
open Idealize.ShloMosaic Idealize.ShloMosaic.TcCoe Idealize.SL.Sem
open Cert.OutInIdeal Cert.OutInIdeal.Gen Cert.Rows

/-- The residual stream as a matrix. -/
def X (x : D3 32 256 1024) (yh : D4 32 2 256 128) (yn : D2 8192 512) (ys : D2 8192 256) (g : D2 8192 1024) (mod : D2 3 3072)
    (w : D2 1024 1024) : D2 8192 1024 :=
  fun i => cres x yh yn ys g mod w (i 0) (i 1)

/-- The stream `y` normalised and modulated at channel `k`, for the next layer. -/
def nrm (y : Fin 1024 → EReal) (mod2 : D2 3 3072) (ng : D1 1024) (k : Fin 1024) : EReal :=
  rms y (ng (ix1 k)) k * (1 + mod2 (ix2 0 ⟨1024 + k.val, by omega⟩)) + mod2 (ix2 0 ⟨k.val, by omega⟩)

/-- The columns of the next layer's projection from `off` on, `W` of them. -/
def YO (W off : ℕ) (h : off + W ≤ 3584) (y : Fin 8192 → Fin 1024 → EReal) (mod2 : D2 3 3072) (ng : D1 1024)
    (wi : D2 1024 3584) : D2 8192 W :=
  fun i => ∑ k, nrm (y (i 0)) mod2 ng k * wi (ix2 k ⟨off + (i 1).val, by have : (i 1).val < W := (i 1).isLt; omega⟩)

section Kernel

variable (m : (ℓ : Loc nD τ sig) → Buf (Elt Ideal) ℓ)

/-- Where each window's block lies at grid point `t`. -/
theorem idx : ∀ t : Fin grid0.N, win0_0.index t = ![t.val, 0] ∧ win0_1.index t = ![t.val, 0, 0, 0]
   ∧ win0_2.index t = ![t.val, 0] ∧ win0_3.index t = ![t.val, 0] ∧ win0_4.index t = ![t.val, 0]
   ∧ win0_5.index t = ![0, 0, 2] ∧ win0_6.index t = ![0, 0] ∧ win0_7.index t = ![0, 0]
   ∧ win0_8.index t = ![0, 0, 0] ∧ win0_9.index t = ![0, 0, 1] ∧ win0_10.index t = ![0, 0]
   ∧ win0_11.index t = ![t.val, 0] ∧ win0_12.index t = ![t.val, 0] ∧ win0_13.index t = ![t.val, 0]
   ∧ win0_14.index t = ![t.val, 0] ∧ win0_15.index t = ![t.val, 0] ∧ win0_16.index t = ![t.val, 0] := by decide +kernel

/-- The residual stream `cres` of the launch's arguments. -/
abbrev kres (c : Dev nD) (r : Fin 8192) (k : Fin 1024) : EReal :=
  cres (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r k

/-- The input's block and the gate's block at grid point `t`. -/
abbrev bx (c : Dev nD) (t : Fin cfg0.N) : Vec Ideal S512x1024 .f32 := iblk m c 0 t
abbrev bm (c : Dev nD) (t : Fin cfg0.N) : Vec Ideal S1x1x1024 .f32 := iblk m c 5 t

/-- The third mixer's block and the weight at grid point `t`. -/
abbrev bs (c : Dev nD) (t : Fin cfg0.N) (i : S512x256.Idx) : EReal := iblk m c 3 t i
abbrev bw (c : Dev nD) (t : Fin cfg0.N) (i : S1024x1024.Idx) : EReal := iblk m c 6 t i

/-- The projection's block at grid point `t`: its three parts, one per mixer. -/
abbrev acc (c : Dev nD) (t : Fin cfg0.N) (p : Fin 512) (k : Fin 1024) : EReal :=
  k0_pay6 (View.ld (iblk m c 4 t) r0_0) (View.ld (iblk m c 1 t) r0_1) (View.ld (iblk m c 1 t) r0_2)
      (View.ld (iblk m c 1 t) r0_3) (View.ld (iblk m c 1 t) r0_4) (View.ld (iblk m c 6 t) r0_5) (ix2 p k) +
    k0_pay7 (View.ld (iblk m c 4 t) r0_0) (View.ld (iblk m c 2 t) r0_6) (View.ld (iblk m c 6 t) r0_7) (ix2 p k) +
    ∑ x : Fin 256, bs m c t (ix2 p x) * k0_pay5 (View.ld (iblk m c 4 t) r0_0) (ix2 p ⟨768 + x.val, by omega⟩) *
      bw m c t (ix2 ⟨768 + x.val, by omega⟩ k)

set_option maxHeartbeats 1000000 in
/-- The residual block of grid point `t` is `cres` at the rows `t * 512 + p`. -/
theorem r_at (c : Dev nD) (t : Fin cfg0.N) (p : Fin 512) (k : Fin 1024) (r : Fin 8192)
    (h : r.val = t.val * 512 + p.val) :
    bx m c t (ix2 p k) + bm m c t (ix3 0 0 k) * acc m c t p k = kres m c r k := by
  have hN : t.val < 16 := t.isLt
  unfold kres cres res acc bx bm bs bw
  rw [← mix_eq]
  simp only [← sil_eq]
  pointwise [k0_pay5, k0_pay6, k0_pay7]
  blk_point [iblk, V, idx t]

/-- The array `X` of the launch's arguments. -/
abbrev KX (c : Dev nD) : D2 8192 1024 :=
  X (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The array `YO` of the launch's arguments. -/
abbrev KY (W off : ℕ) (h : off + W ≤ 3584) (c : Dev nD) : D2 8192 W :=
  YO W off h (kres m c) (m ((c : Thread nD τ).loc main_arg7)) (m ((c : Thread nD τ).loc main_arg8))
    (m ((c : Thread nD τ).loc main_arg9))

/-- The next layer's shift block and weight block at grid point `t`, and the scaled block, its sum with the shift. -/
abbrev bh (c : Dev nD) (t : Fin cfg0.N) (i : S1x1x1024.Idx) : EReal := iblk m c 8 t i
abbrev bi (c : Dev nD) (t : Fin cfg0.N) (i : S1024x3584.Idx) : EReal := iblk m c 10 t i
abbrev bn (c : Dev nD) (t : Fin cfg0.N) (p : Fin 512) (k : Fin 1024) : EReal :=
  k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p k) + bh m c t (ix3 0 0 k)

/-- The next layer's gain, scale and shift blocks are their rows of the arguments, and its weight's block the weight. -/
theorem g_at (c : Dev nD) (t : Fin cfg0.N) (k : Fin 1024) : iblk m c 7 t (ix2 0 k) = m ((c : Thread nD τ).loc main_arg8) (ix1 k) := by
  blk_point [iblk, V, idx t]
theorem sc_at (c : Dev nD) (t : Fin cfg0.N) (k : Fin 1024) :
    iblk m c 9 t (ix3 0 0 k) = m ((c : Thread nD τ).loc main_arg7) (ix2 0 ⟨1024 + k.val, by omega⟩) := by
  blk_point [iblk, V, idx t]
theorem sh_at (c : Dev nD) (t : Fin cfg0.N) (k : Fin 1024) :
    iblk m c 8 t (ix3 0 0 k) = m ((c : Thread nD τ).loc main_arg7) (ix2 0 ⟨k.val, by omega⟩) := by
  blk_point [iblk, V, idx t]
theorem w_at (c : Dev nD) (t : Fin cfg0.N) (k : Fin 1024) (n n' : Fin 3584) (h : n.val = n'.val) :
    iblk m c 10 t (ix2 k n) = m ((c : Thread nD τ).loc main_arg9) (ix2 k n') := by
  obtain rfl : n = n' := Fin.ext h
  blk_ext [iblk, V, idx t]

/-- The normalised and modulated block of grid point `t` is `nrm` at the rows `t * 512 + p`. -/
theorem n_at (c : Dev nD) (t : Fin cfg0.N) (p : Fin 512) (k : Fin 1024) (r : Fin 8192)
    (h : r.val = t.val * 512 + p.val) :
    bn m c t p k = nrm (kres m c r) (m ((c : Thread nD τ).loc main_arg7)) (m ((c : Thread nD τ).loc main_arg8)) k := by
  have hx := fun k => r_at m c t p k r h
  unfold nrm bn bh rms
  rw [← g_at m c t, ← sc_at m c t, ← sh_at m c t, ← funext hx]
  unfold k0_pay25 k0_pay22 k0_pay23 k0_pay24
  pointwise [k0_pay9, k0_pay8]
  rfl

/-- A row of the normalised block against a column of the weight's block is an entry of `YO`. -/
theorem sum_at (c : Dev nD) (t : Fin cfg0.N) (p : Fin 512) (n : Fin 3584) (W off : ℕ) (hW) (i : (⟨2, ![8192, W]⟩ : Shape).Idx)
    (h0 : (i 0).val = t.val * 512 + p.val) (h1 : n.val = off + (i 1).val) :
    ∑ q, bn m c t p q * bi m c t (ix2 q n) = KY m W off hW c i :=
  Finset.sum_congr rfl fun q _ => congrArg₂ (· * ·) (n_at m c t p q (i 0) h0) (w_at m c t q n _ h1)

/-- The second coordinate of a pair. -/
theorem val1 {a b : ℕ} (p : Fin a) (q : Fin b) : (ix2 p q 1).val = q.val := rfl

/-- What grid point `t` leaves in window 11's buffer, at an index of the array. -/
theorem out11 (c : Dev nD) (t : Fin cfg0.N) (y : S512x1024.Idx) (i : S8192x1024.Idx)
    (hr : (i 0).val = t.val * 512 + (y 0).val) (hc : (i 1).val = (y 1).val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KX m c i := by
  idx_vars i
  unfold out0_11 k0_pay22 k0_pay23 k0_pay24
  canon_tiles x h
  idx_vars x
  have e : i1 = x1 := Fin.ext (by rw [← h1]; exact hc)
  subst e
  pointwise [k0_pay8]
  exact r_at m c t x0 i1 i0 (by rw [← h0]; exact hr)

/-- The launch's output array of window 11. -/
theorem arr11 (c : Dev nD) : (dats m 0 c).arrAt 11 cfg0.N = KX m c := by
  refine (dats m 0 c).arrAt_eq_of_covers 11 _ (by decide +kernel) fun t hf y => ?_
  blk_simp
  rw [after0_11]
  refine out11 m c t y _ ?_ ?_
  · blk_simp [idx t]
  · blk_simp [idx t]

/-- What grid point `t` leaves in window 12's buffer, at an index of the array. -/
theorem out12 (c : Dev nD) (t : Fin cfg0.N) (y : S512x768.Idx) (i : S8192x768.Idx)
    (hr : (i 0).val = t.val * 512 + (y 0).val) (hc : (i 1).val = (y 1).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 768 0 (by decide) c i := by
  unfold out0_12
  canon_tiles x h
  all_goals
    idx_vars x
    pointwise [k0_pay13, k0_pay12, k0_pay11, k0_pay10]
  · exact sum_at m c t x0 ⟨512 + x1.val, by omega⟩ _ _ _ i (by rw [hr, h0]) (by rw [hc, h1]; simp only [val1]; omega)
  · exact sum_at m c t x0 ⟨256 + x1.val, by omega⟩ _ _ _ i (by rw [hr, h0]) (by rw [hc, h1]; simp only [val1]; omega)
  · exact sum_at m c t x0 ⟨x1.val, by omega⟩ _ _ _ i (by rw [hr, h0]) (by rw [hc, h1]; simp only [val1]; omega)

/-- The launch's output array of window 12. -/
theorem arr12 (c : Dev nD) : (dats m 0 c).arrAt 12 cfg0.N = KY m 768 0 (by decide) c := by
  refine (dats m 0 c).arrAt_eq_of_covers 12 _ (by decide +kernel) fun t hf y => ?_
  blk_simp
  rw [after0_12]
  refine out12 m c t y _ ?_ ?_
  · blk_simp [idx t]
  · blk_simp [idx t]

/-- What grid point `t` leaves in window 13's buffer, at an index of the array. -/
theorem out13 (c : Dev nD) (t : Fin cfg0.N) (y : S512x1536.Idx) (i : S8192x1536.Idx)
    (hr : (i 0).val = t.val * 512 + (y 0).val) (hc : (i 1).val = (y 1).val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 1536 768 (by decide) c i := by
  unfold out0_13 k0_pay26
  canon_tiles x h
  all_goals
    idx_vars x
    pointwise [k0_pay19, k0_pay18, k0_pay17, k0_pay16, k0_pay15, k0_pay14, k0_pay10]
  · exact sum_at m c t x0 ⟨2048 + x1.val, by omega⟩ _ _ _ i (by rw [hr, h0]) (by rw [hc, h1]; simp only [val1]; omega)
  · exact sum_at m c t x0 ⟨1792 + x1.val, by omega⟩ _ _ _ i (by rw [hr, h0]) (by rw [hc, h1]; simp only [val1]; omega)
  · exact sum_at m c t x0 ⟨1536 + x1.val, by omega⟩ _ _ _ i (by rw [hr, h0]) (by rw [hc, h1]; simp only [val1]; omega)
  · exact sum_at m c t x0 ⟨1280 + x1.val, by omega⟩ _ _ _ i (by rw [hr, h0]) (by rw [hc, h1]; simp only [val1]; omega)
  · exact sum_at m c t x0 ⟨1024 + x1.val, by omega⟩ _ _ _ i (by rw [hr, h0]) (by rw [hc, h1]; simp only [val1]; omega)
  · exact sum_at m c t x0 ⟨768 + x1.val, by omega⟩ _ _ _ i (by rw [hr, h0]) (by rw [hc, h1])

/-- The launch's output array of window 13. -/
theorem arr13 (c : Dev nD) : (dats m 0 c).arrAt 13 cfg0.N = KY m 1536 768 (by decide) c := by
  refine (dats m 0 c).arrAt_eq_of_covers 13 _ (by decide +kernel) fun t hf y => ?_
  blk_simp
  rw [after0_13]
  refine out13 m c t y _ ?_ ?_
  · blk_simp [idx t]
  · blk_simp [idx t]

/-- What grid point `t` leaves in window 14's buffer, at an index of the array. -/
theorem out14 (c : Dev nD) (t : Fin cfg0.N) (y : S512x128.Idx) (i : S8192x128.Idx)
    (hr : (i 0).val = t.val * 512 + (y 0).val) (hc : (i 1).val = (y 1).val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 128 2304 (by decide) c i := by
  unfold out0_14 k0_pay26
  canon_tiles x h
  all_goals
    idx_vars x
    pointwise [k0_pay20, k0_pay10]
  · exact sum_at m c t x0 ⟨2304 + x1.val, by omega⟩ _ _ _ i (by rw [hr, h0]) (by rw [hc, h1])

/-- The launch's output array of window 14. -/
theorem arr14 (c : Dev nD) : (dats m 0 c).arrAt 14 cfg0.N = KY m 128 2304 (by decide) c := by
  refine (dats m 0 c).arrAt_eq_of_covers 14 _ (by decide +kernel) fun t hf y => ?_
  blk_simp
  rw [after0_14]
  refine out14 m c t y _ ?_ ?_
  · blk_simp [idx t]
  · blk_simp [idx t]

/-- What grid point `t` leaves in window 15's buffer, at an index of the array. -/
theorem out15 (c : Dev nD) (t : Fin cfg0.N) (y : S512x128.Idx) (i : S8192x128.Idx)
    (hr : (i 0).val = t.val * 512 + (y 0).val) (hc : (i 1).val = (y 1).val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 128 2432 (by decide) c i := by
  unfold out0_15 k0_pay26
  canon_tiles x h
  all_goals
    idx_vars x
    pointwise [k0_pay21, k0_pay10]
  · exact sum_at m c t x0 ⟨2432 + x1.val, by omega⟩ _ _ _ i (by rw [hr, h0]) (by rw [hc, h1])

/-- The launch's output array of window 15. -/
theorem arr15 (c : Dev nD) : (dats m 0 c).arrAt 15 cfg0.N = KY m 128 2432 (by decide) c := by
  refine (dats m 0 c).arrAt_eq_of_covers 15 _ (by decide +kernel) fun t hf y => ?_
  blk_simp
  rw [after0_15]
  refine out15 m c t y _ ?_ ?_
  · blk_simp [idx t]
  · blk_simp [idx t]

/-- What grid point `t` leaves in window 16's buffer, at an index of the array. -/
theorem out16 (c : Dev nD) (t : Fin cfg0.N) (y : S512x1024.Idx) (i : S8192x1024.Idx)
    (hr : (i 0).val = t.val * 512 + (y 0).val) (hc : (i 1).val = (y 1).val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 1024 2560 (by decide) c i := by
  unfold out0_16 k0_pay26
  canon_tiles x h
  all_goals
    idx_vars x
    pointwise [k0_pay4, k0_pay3, k0_pay2, k0_pay1, k0_pay10]
  · exact sum_at m c t x0 ⟨3328 + x1.val, by omega⟩ _ _ _ i (by rw [hr, h0]) (by rw [hc, h1]; simp only [val1]; omega)
  · exact sum_at m c t x0 ⟨3072 + x1.val, by omega⟩ _ _ _ i (by rw [hr, h0]) (by rw [hc, h1]; simp only [val1]; omega)
  · exact sum_at m c t x0 ⟨2816 + x1.val, by omega⟩ _ _ _ i (by rw [hr, h0]) (by rw [hc, h1]; simp only [val1]; omega)
  · exact sum_at m c t x0 ⟨2560 + x1.val, by omega⟩ _ _ _ i (by rw [hr, h0]) (by rw [hc, h1])

/-- The launch's output array of window 16. -/
theorem arr16 (c : Dev nD) : (dats m 0 c).arrAt 16 cfg0.N = KY m 1024 2560 (by decide) c := by
  refine (dats m 0 c).arrAt_eq_of_covers 16 _ (by decide +kernel) fun t hf y => ?_
  blk_simp
  rw [after0_16]
  refine out16 m c t y _ ?_ ?_
  · blk_simp [idx t]
  · blk_simp [idx t]

end Kernel

section Reference

variable (m : (ℓ : Loc Cert.OutInRefIdeal.nD Cert.OutInRefIdeal.τ Cert.OutInRefIdeal.sig) → Buf (Elt Ideal) ℓ)

/-- The arrays `X` and `YO` of the reference's arguments. -/
abbrev RX (c : Dev Cert.OutInRefIdeal.nD) : D2 8192 1024 :=
  X (m ((c.tc : Thread Cert.OutInRefIdeal.nD Cert.OutInRefIdeal.τ).loc Cert.OutInRefIdeal.main_arg0))
    (m ((c.tc : Thread Cert.OutInRefIdeal.nD Cert.OutInRefIdeal.τ).loc Cert.OutInRefIdeal.main_arg1))
    (m ((c.tc : Thread Cert.OutInRefIdeal.nD Cert.OutInRefIdeal.τ).loc Cert.OutInRefIdeal.main_arg2))
    (m ((c.tc : Thread Cert.OutInRefIdeal.nD Cert.OutInRefIdeal.τ).loc Cert.OutInRefIdeal.main_arg3))
    (m ((c.tc : Thread Cert.OutInRefIdeal.nD Cert.OutInRefIdeal.τ).loc Cert.OutInRefIdeal.main_arg4))
    (m ((c.tc : Thread Cert.OutInRefIdeal.nD Cert.OutInRefIdeal.τ).loc Cert.OutInRefIdeal.main_arg5))
    (m ((c.tc : Thread Cert.OutInRefIdeal.nD Cert.OutInRefIdeal.τ).loc Cert.OutInRefIdeal.main_arg6))
abbrev RY (W off : ℕ) (h : off + W ≤ 3584) (c : Dev Cert.OutInRefIdeal.nD) : D2 8192 W :=
  YO W off h (fun r k => RX m c (ix2 r k))
    (m ((c.tc : Thread Cert.OutInRefIdeal.nD Cert.OutInRefIdeal.τ).loc Cert.OutInRefIdeal.main_arg7))
    (m ((c.tc : Thread Cert.OutInRefIdeal.nD Cert.OutInRefIdeal.τ).loc Cert.OutInRefIdeal.main_arg8))
    (m ((c.tc : Thread Cert.OutInRefIdeal.nD Cert.OutInRefIdeal.τ).loc Cert.OutInRefIdeal.main_arg9))

set_option maxHeartbeats 4000000 in
/-- The reference's result 2 is `YO` from column 0 on. -/
theorem ref12 (c : Dev Cert.OutInRefIdeal.nD) : Cert.OutInRefIdeal.Value.res_main_v44 (F := Ideal) m c = RY m 768 0 (by decide) c := by
  funext (i : (⟨2, ![8192, 768]⟩ : Shape).Idx)
  idx_vars i
  unfold Cert.OutInRefIdeal.Value.res_main_v44
  clean_types
  pointwise [YO, X, nrm, rms, cres, res, mix, sil]
  rfl

set_option maxHeartbeats 4000000 in
/-- The reference's result 3 is `YO` from column 768 on. -/
theorem ref13 (c : Dev Cert.OutInRefIdeal.nD) : Cert.OutInRefIdeal.Value.res_main_v45 (F := Ideal) m c = RY m 1536 768 (by decide) c := by
  funext (i : (⟨2, ![8192, 1536]⟩ : Shape).Idx)
  idx_vars i
  unfold Cert.OutInRefIdeal.Value.res_main_v45
  clean_types
  pointwise [YO, X, nrm, rms, cres, res, mix, sil]
  rfl

set_option maxHeartbeats 4000000 in
/-- The reference's result 4 is `YO` from column 2304 on. -/
theorem ref14 (c : Dev Cert.OutInRefIdeal.nD) : Cert.OutInRefIdeal.Value.res_main_v46 (F := Ideal) m c = RY m 128 2304 (by decide) c := by
  funext (i : (⟨2, ![8192, 128]⟩ : Shape).Idx)
  idx_vars i
  unfold Cert.OutInRefIdeal.Value.res_main_v46
  clean_types
  pointwise [YO, X, nrm, rms, cres, res, mix, sil]
  rfl

set_option maxHeartbeats 4000000 in
/-- The reference's result 5 is `YO` from column 2432 on. -/
theorem ref15 (c : Dev Cert.OutInRefIdeal.nD) : Cert.OutInRefIdeal.Value.res_main_v47 (F := Ideal) m c = RY m 128 2432 (by decide) c := by
  funext (i : (⟨2, ![8192, 128]⟩ : Shape).Idx)
  idx_vars i
  unfold Cert.OutInRefIdeal.Value.res_main_v47
  clean_types
  pointwise [YO, X, nrm, rms, cres, res, mix, sil]
  rfl

set_option maxHeartbeats 4000000 in
/-- The reference's result 6 is `YO` from column 2560 on. -/
theorem ref16 (c : Dev Cert.OutInRefIdeal.nD) : Cert.OutInRefIdeal.Value.res_main_v48 (F := Ideal) m c = RY m 1024 2560 (by decide) c := by
  funext (i : (⟨2, ![8192, 1024]⟩ : Shape).Idx)
  idx_vars i
  unfold Cert.OutInRefIdeal.Value.res_main_v48
  clean_types
  pointwise [YO, X, nrm, rms, cres, res, mix, sil]
  rfl

/-- The reference's run: its results are `X` and the five parts of `YO`, its arguments unchanged. -/
theorem runR (ρ : Dev Cert.OutInRefIdeal.nD → PrngReg) :
    θ_run Cert.OutInRefIdeal.defs (onTc (τ := Cert.OutInRefIdeal.τ) (Cert.OutInRefIdeal.main (F := Ideal))) ⟨m, fun _ => 0, ρ⟩ fun r => ∀ c : Dev Cert.OutInRefIdeal.nD,
      r.2.mem ((c.tc : Thread Cert.OutInRefIdeal.nD Cert.OutInRefIdeal.τ).loc Cert.OutInRefIdeal.main_v17) = RX m c
      ∧ r.2.mem ((c.tc : Thread Cert.OutInRefIdeal.nD Cert.OutInRefIdeal.τ).loc Cert.OutInRefIdeal.main_v44) = RY m 768 0 (by decide) c
      ∧ r.2.mem ((c.tc : Thread Cert.OutInRefIdeal.nD Cert.OutInRefIdeal.τ).loc Cert.OutInRefIdeal.main_v45) = RY m 1536 768 (by decide) c
      ∧ r.2.mem ((c.tc : Thread Cert.OutInRefIdeal.nD Cert.OutInRefIdeal.τ).loc Cert.OutInRefIdeal.main_v46) = RY m 128 2304 (by decide) c
      ∧ r.2.mem ((c.tc : Thread Cert.OutInRefIdeal.nD Cert.OutInRefIdeal.τ).loc Cert.OutInRefIdeal.main_v47) = RY m 128 2432 (by decide) c
      ∧ r.2.mem ((c.tc : Thread Cert.OutInRefIdeal.nD Cert.OutInRefIdeal.τ).loc Cert.OutInRefIdeal.main_v48) = RY m 1024 2560 (by decide) c
      ∧ r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1)
      ∧ r.2.mem ((c.tc : Thread Cert.OutInRefIdeal.nD Cert.OutInRefIdeal.τ).loc Cert.OutInRefIdeal.main_arg2) = m ((c.tc : Thread Cert.OutInRefIdeal.nD Cert.OutInRefIdeal.τ).loc Cert.OutInRefIdeal.main_arg2)
      ∧ r.2.mem ((c.tc : Thread Cert.OutInRefIdeal.nD Cert.OutInRefIdeal.τ).loc Cert.OutInRefIdeal.main_arg3) = m ((c.tc : Thread Cert.OutInRefIdeal.nD Cert.OutInRefIdeal.τ).loc Cert.OutInRefIdeal.main_arg3)
      ∧ r.2.mem ((c.tc : Thread Cert.OutInRefIdeal.nD Cert.OutInRefIdeal.τ).loc Cert.OutInRefIdeal.main_arg4) = m ((c.tc : Thread Cert.OutInRefIdeal.nD Cert.OutInRefIdeal.τ).loc Cert.OutInRefIdeal.main_arg4)
      ∧ r.2.mem ((c.tc : Thread Cert.OutInRefIdeal.nD Cert.OutInRefIdeal.τ).loc Cert.OutInRefIdeal.main_arg5) = m ((c.tc : Thread Cert.OutInRefIdeal.nD Cert.OutInRefIdeal.τ).loc Cert.OutInRefIdeal.main_arg5)
      ∧ r.2.mem ((c.tc : Thread Cert.OutInRefIdeal.nD Cert.OutInRefIdeal.τ).loc Cert.OutInRefIdeal.main_arg6) = m ((c.tc : Thread Cert.OutInRefIdeal.nD Cert.OutInRefIdeal.τ).loc Cert.OutInRefIdeal.main_arg6)
      ∧ r.2.mem ((c.tc : Thread Cert.OutInRefIdeal.nD Cert.OutInRefIdeal.τ).loc Cert.OutInRefIdeal.main_arg7) = m ((c.tc : Thread Cert.OutInRefIdeal.nD Cert.OutInRefIdeal.τ).loc Cert.OutInRefIdeal.main_arg7)
      ∧ r.2.mem ((c.tc : Thread Cert.OutInRefIdeal.nD Cert.OutInRefIdeal.τ).loc Cert.OutInRefIdeal.main_arg8) = m ((c.tc : Thread Cert.OutInRefIdeal.nD Cert.OutInRefIdeal.τ).loc Cert.OutInRefIdeal.main_arg8)
      ∧ r.2.mem ((c.tc : Thread Cert.OutInRefIdeal.nD Cert.OutInRefIdeal.τ).loc Cert.OutInRefIdeal.main_arg9) = m ((c.tc : Thread Cert.OutInRefIdeal.nD Cert.OutInRefIdeal.τ).loc Cert.OutInRefIdeal.main_arg9) := by
  refine Idealize.ShloMosaic.θ_run_mono (Cert.OutInRefIdeal.Value.run m ρ) ?_
  intro r h c
  obtain ⟨h11, h12, h13, h14, h15, h16, h⟩ := h c
  refine ⟨h11.trans ?_, h12.trans (ref12 m c), h13.trans (ref13 m c), h14.trans (ref14 m c), h15.trans (ref15 m c),
    h16.trans (ref16 m c), h⟩
  funext (i : (⟨2, ![8192, 1024]⟩ : Shape).Idx)
  idx_vars i
  clean_types
  pointwise [X, cres, res, mix, sil]

end Reference
end Cert.OutInValue
-- ==== Proof.OutInLatValue.lean ====
module

public import proofs.«01_k».proof.Proof.Rows
public import proofs.«01_k».proof.Proof.Gen.OutInLatIdeal.Value
public import proofs.«01_k».proof.Proof.Gen.OutInLatRefIdeal.Run
public import Idealize.ShloMosaic.Lib.Tactic.CleanTypes

/-! The latent tokens' output projection and the next layer's input projection: what the launch writes, and what the
    reference computes, are both the arrays `X` and `YO` of this module. -/

@[expose] public section

set_option maxRecDepth 16384

noncomputable section

namespace Cert.OutInLatValue
open Idealize.ShloMosaic Idealize.ShloMosaic.TcCoe Idealize.SL.Sem
open Cert.OutInLatIdeal Cert.OutInLatIdeal.Gen Cert.Rows

/-- The residual stream as a matrix. -/
def X (x : D3 2 4096 1024) (yh : D4 2 2 4096 128) (yn : D2 8192 512) (ys : D2 8192 256) (g : D2 8192 1024) (mod : D2 3 3072)
    (w : D2 1024 1024) : D2 8192 1024 :=
  fun i => lres x yh yn ys g mod w (i 0) (i 1)

/-- The sample of row `r`. -/
abbrev sample (r : Fin 8192) : Fin 2 := ⟨r.val / 4096, by omega⟩

/-- The stream `y` normalised and modulated at channel `k`, for the next layer; the modulation row of sample `b` is `1 + b`. -/
def nrm (y : Fin 1024 → EReal) (mod2 : D2 3 3072) (ng : D1 1024) (b : Fin 2) (k : Fin 1024) : EReal :=
  rms y (ng (ix1 k)) k * (1 + mod2 (ix2 ⟨1 + b.val, by omega⟩ ⟨1024 + k.val, by omega⟩))
    + mod2 (ix2 ⟨1 + b.val, by omega⟩ ⟨k.val, by omega⟩)

/-- The columns of the next layer's projection from `off` on, `W` of them. -/
def YO (W off : ℕ) (h : off + W ≤ 3584) (y : Fin 8192 → Fin 1024 → EReal) (mod2 : D2 3 3072) (ng : D1 1024)
    (wi : D2 1024 3584) : D2 8192 W :=
  fun i => ∑ k, nrm (y (i 0)) mod2 ng (sample (i 0)) k * wi (ix2 k ⟨off + (i 1).val, by have : (i 1).val < W := (i 1).isLt; omega⟩)

section Kernel

variable (m : (ℓ : Loc nD τ sig) → Buf (Elt Ideal) ℓ)

/-- Where each window's block lies at grid point `t`. -/
theorem idx : ∀ t : Fin grid0.N, win0_0.index t = ![t.val, 0] ∧ win0_1.index t = ![t.val / 8, 0, t.val % 8, 0]
   ∧ win0_2.index t = ![t.val, 0] ∧ win0_3.index t = ![t.val, 0] ∧ win0_4.index t = ![t.val, 0]
   ∧ win0_5.index t = ![1 + t.val / 8, 0, 2] ∧ win0_6.index t = ![0, 0] ∧ win0_7.index t = ![0, 0]
   ∧ win0_8.index t = ![1 + t.val / 8, 0, 0] ∧ win0_9.index t = ![1 + t.val / 8, 0, 1] ∧ win0_10.index t = ![0, 0]
   ∧ win0_11.index t = ![t.val, 0] ∧ win0_12.index t = ![t.val, 0] ∧ win0_13.index t = ![t.val, 0]
   ∧ win0_14.index t = ![t.val, 0] ∧ win0_15.index t = ![t.val, 0] ∧ win0_16.index t = ![t.val, 0] := by decide +kernel

/-- The residual stream `lres` of the launch's arguments. -/
abbrev kres (c : Dev nD) (r : Fin 8192) (k : Fin 1024) : EReal :=
  lres (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r k

/-- The input's block and the gate's block at grid point `t`. -/
abbrev bx (c : Dev nD) (t : Fin cfg0.N) : Vec Ideal S512x1024 .f32 := iblk m c 0 t
abbrev bm (c : Dev nD) (t : Fin cfg0.N) : Vec Ideal S1x1x1024 .f32 := iblk m c 5 t

/-- The projection's block at grid point `t`. -/
abbrev acc (c : Dev nD) (t : Fin cfg0.N) (p : Fin 512) (k : Fin 1024) : EReal :=
  k0_pay3 (View.ld (iblk m c 4 t) r0_0) (View.ld (iblk m c 1 t) r0_1) (View.ld (iblk m c 1 t) r0_2) (View.ld (iblk m c 6 t) r0_3)
    (View.ld (iblk m c 2 t) r0_4) (View.ld (iblk m c 6 t) r0_5) (View.ld (iblk m c 3 t) r0_6) (View.ld (iblk m c 6 t) r0_7) (ix2 p k)

set_option maxHeartbeats 1000000 in
/-- The residual block of grid point `t` is `lres` at the rows `t * 512 + p`. -/
theorem r_at (c : Dev nD) (t : Fin cfg0.N) (p : Fin 512) (k : Fin 1024) (r : Fin 8192)
    (h : r.val = t.val * 512 + p.val) :
    bx m c t (ix2 p k) + bm m c t (ix3 0 0 k) * acc m c t p k = kres m c r k := by
  have hN : t.val < 16 := t.isLt
  unfold kres lres res acc bx bm
  rw [← mix_eq]
  simp only [← sil_eq]
  pointwise [k0_pay3]
  blk_point [iblk, V, idx t]

/-- The array `X` of the launch's arguments. -/
abbrev KX (c : Dev nD) : D2 8192 1024 :=
  X (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The array `YO` of the launch's arguments. -/
abbrev KY (W off : ℕ) (h : off + W ≤ 3584) (c : Dev nD) : D2 8192 W :=
  YO W off h (kres m c) (m ((c : Thread nD τ).loc main_arg7)) (m ((c : Thread nD τ).loc main_arg8))
    (m ((c : Thread nD τ).loc main_arg9))

/-- The next layer's weight block at grid point `t`, and the normalised block. -/
abbrev bi (c : Dev nD) (t : Fin cfg0.N) (i : S1024x3584.Idx) : EReal := iblk m c 10 t i
abbrev bn (c : Dev nD) (t : Fin cfg0.N) (p : Fin 512) (k : Fin 1024) : EReal :=
  k0_pay20 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p k)

/-- The next layer's gain, scale and shift blocks are their rows of the arguments, and its weight's block the weight. -/
theorem g_at (c : Dev nD) (t : Fin cfg0.N) (k : Fin 1024) : iblk m c 7 t (ix2 0 k) = m ((c : Thread nD τ).loc main_arg8) (ix1 k) := by
  blk_point [iblk, V, idx t]
theorem sc_at (c : Dev nD) (t : Fin cfg0.N) (k : Fin 1024) (b : Fin 2) (h : b.val = t.val / 8) :
    iblk m c 9 t (ix3 0 0 k) = m ((c : Thread nD τ).loc main_arg7) (ix2 ⟨1 + b.val, by omega⟩ ⟨1024 + k.val, by omega⟩) := by
  blk_point [iblk, V, idx t]
theorem sh_at (c : Dev nD) (t : Fin cfg0.N) (k : Fin 1024) (b : Fin 2) (h : b.val = t.val / 8) :
    iblk m c 8 t (ix3 0 0 k) = m ((c : Thread nD τ).loc main_arg7) (ix2 ⟨1 + b.val, by omega⟩ ⟨k.val, by omega⟩) := by
  blk_point [iblk, V, idx t]
theorem w_at (c : Dev nD) (t : Fin cfg0.N) (k : Fin 1024) (n n' : Fin 3584) (h : n.val = n'.val) :
    iblk m c 10 t (ix2 k n) = m ((c : Thread nD τ).loc main_arg9) (ix2 k n') := by
  obtain rfl : n = n' := Fin.ext h
  blk_ext [iblk, V, idx t]

/-- The normalised and modulated block of grid point `t` is `nrm` at the rows `t * 512 + p`. -/
theorem n_at (c : Dev nD) (t : Fin cfg0.N) (p : Fin 512) (k : Fin 1024) (r : Fin 8192)
    (h : r.val = t.val * 512 + p.val) :
    bn m c t p k = nrm (kres m c r) (m ((c : Thread nD τ).loc main_arg7)) (m ((c : Thread nD τ).loc main_arg8)) (sample r) k := by
  have hN : t.val < 16 := t.isLt
  have hb : (sample r).val = t.val / 8 := by show r.val / 4096 = t.val / 8; omega
  have hx := fun k => r_at m c t p k r h
  unfold nrm bn rms
  rw [← g_at m c t, ← sc_at m c t k _ hb, ← sh_at m c t k _ hb, ← funext hx]
  unfold k0_pay20 k0_pay19
  pointwise [k0_pay5, k0_pay4]
  rfl

/-- A row of the normalised block against a column of the weight's block is an entry of `YO`. -/
theorem sum_at (c : Dev nD) (t : Fin cfg0.N) (p : Fin 512) (n : Fin 3584) (W off : ℕ) (hW) (i : (⟨2, ![8192, W]⟩ : Shape).Idx)
    (h0 : (i 0).val = t.val * 512 + p.val) (h1 : n.val = off + (i 1).val) :
    ∑ q, bn m c t p q * bi m c t (ix2 q n) = KY m W off hW c i :=
  Finset.sum_congr rfl fun q _ => congrArg₂ (· * ·) (n_at m c t p q (i 0) h0) (w_at m c t q n _ h1)

/-- The second coordinate of a pair. -/
theorem val1 {a b : ℕ} (p : Fin a) (q : Fin b) : (ix2 p q 1).val = q.val := rfl

/-- What grid point `t` leaves in window 11's buffer, at an index of the array. -/
theorem out11 (c : Dev nD) (t : Fin cfg0.N) (y : S512x1024.Idx) (i : S8192x1024.Idx)
    (hr : (i 0).val = t.val * 512 + (y 0).val) (hc : (i 1).val = (y 1).val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KX m c i := by
  idx_vars i
  unfold out0_11 k0_pay19
  canon_tiles x h
  idx_vars x
  have e : i1 = x1 := Fin.ext (by rw [← h1]; exact hc)
  subst e
  pointwise [k0_pay4]
  exact r_at m c t x0 i1 i0 (by rw [← h0]; exact hr)

/-- The launch's output array of window 11. -/
theorem arr11 (c : Dev nD) : (dats m 0 c).arrAt 11 cfg0.N = KX m c := by
  refine (dats m 0 c).arrAt_eq_of_covers 11 _ (by decide +kernel) fun t hf y => ?_
  blk_simp
  rw [after0_11]
  refine out11 m c t y _ ?_ ?_
  · blk_simp [idx t]
  · blk_simp [idx t]

/-- What grid point `t` leaves in window 12's buffer, at an index of the array. -/
theorem out12 (c : Dev nD) (t : Fin cfg0.N) (y : S512x768.Idx) (i : S8192x768.Idx)
    (hr : (i 0).val = t.val * 512 + (y 0).val) (hc : (i 1).val = (y 1).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 768 0 (by decide) c i := by
  unfold out0_12
  canon_tiles x h
  all_goals
    idx_vars x
    pointwise [k0_pay8, k0_pay7, k0_pay6]
  · exact sum_at m c t x0 ⟨512 + x1.val, by omega⟩ _ _ _ i (by rw [hr, h0]) (by rw [hc, h1]; simp only [val1]; omega)
  · exact sum_at m c t x0 ⟨256 + x1.val, by omega⟩ _ _ _ i (by rw [hr, h0]) (by rw [hc, h1]; simp only [val1]; omega)
  · exact sum_at m c t x0 ⟨x1.val, by omega⟩ _ _ _ i (by rw [hr, h0]) (by rw [hc, h1]; simp only [val1]; omega)

/-- The launch's output array of window 12. -/
theorem arr12 (c : Dev nD) : (dats m 0 c).arrAt 12 cfg0.N = KY m 768 0 (by decide) c := by
  refine (dats m 0 c).arrAt_eq_of_covers 12 _ (by decide +kernel) fun t hf y => ?_
  blk_simp
  rw [after0_12]
  refine out12 m c t y _ ?_ ?_
  · blk_simp [idx t]
  · blk_simp [idx t]

/-- What grid point `t` leaves in window 13's buffer, at an index of the array. -/
theorem out13 (c : Dev nD) (t : Fin cfg0.N) (y : S512x1536.Idx) (i : S8192x1536.Idx)
    (hr : (i 0).val = t.val * 512 + (y 0).val) (hc : (i 1).val = (y 1).val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 1536 768 (by decide) c i := by
  unfold out0_13
  canon_tiles x h
  all_goals
    idx_vars x
    pointwise [k0_pay14, k0_pay13, k0_pay12, k0_pay11, k0_pay10, k0_pay9]
  · exact sum_at m c t x0 ⟨2048 + x1.val, by omega⟩ _ _ _ i (by rw [hr, h0]) (by rw [hc, h1]; simp only [val1]; omega)
  · exact sum_at m c t x0 ⟨1792 + x1.val, by omega⟩ _ _ _ i (by rw [hr, h0]) (by rw [hc, h1]; simp only [val1]; omega)
  · exact sum_at m c t x0 ⟨1536 + x1.val, by omega⟩ _ _ _ i (by rw [hr, h0]) (by rw [hc, h1]; simp only [val1]; omega)
  · exact sum_at m c t x0 ⟨1280 + x1.val, by omega⟩ _ _ _ i (by rw [hr, h0]) (by rw [hc, h1]; simp only [val1]; omega)
  · exact sum_at m c t x0 ⟨1024 + x1.val, by omega⟩ _ _ _ i (by rw [hr, h0]) (by rw [hc, h1]; simp only [val1]; omega)
  · exact sum_at m c t x0 ⟨768 + x1.val, by omega⟩ _ _ _ i (by rw [hr, h0]) (by rw [hc, h1])

/-- The launch's output array of window 13. -/
theorem arr13 (c : Dev nD) : (dats m 0 c).arrAt 13 cfg0.N = KY m 1536 768 (by decide) c := by
  refine (dats m 0 c).arrAt_eq_of_covers 13 _ (by decide +kernel) fun t hf y => ?_
  blk_simp
  rw [after0_13]
  refine out13 m c t y _ ?_ ?_
  · blk_simp [idx t]
  · blk_simp [idx t]

/-- What grid point `t` leaves in window 14's buffer, at an index of the array. -/
theorem out14 (c : Dev nD) (t : Fin cfg0.N) (y : S512x128.Idx) (i : S8192x128.Idx)
    (hr : (i 0).val = t.val * 512 + (y 0).val) (hc : (i 1).val = (y 1).val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 128 2304 (by decide) c i := by
  unfold out0_14
  canon_tiles x h
  all_goals
    idx_vars x
    pointwise [k0_pay15]
  · exact sum_at m c t x0 ⟨2304 + x1.val, by omega⟩ _ _ _ i (by rw [hr, h0]) (by rw [hc, h1])

/-- The launch's output array of window 14. -/
theorem arr14 (c : Dev nD) : (dats m 0 c).arrAt 14 cfg0.N = KY m 128 2304 (by decide) c := by
  refine (dats m 0 c).arrAt_eq_of_covers 14 _ (by decide +kernel) fun t hf y => ?_
  blk_simp
  rw [after0_14]
  refine out14 m c t y _ ?_ ?_
  · blk_simp [idx t]
  · blk_simp [idx t]

/-- What grid point `t` leaves in window 15's buffer, at an index of the array. -/
theorem out15 (c : Dev nD) (t : Fin cfg0.N) (y : S512x128.Idx) (i : S8192x128.Idx)
    (hr : (i 0).val = t.val * 512 + (y 0).val) (hc : (i 1).val = (y 1).val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 128 2432 (by decide) c i := by
  unfold out0_15
  canon_tiles x h
  all_goals
    idx_vars x
    pointwise [k0_pay16]
  · exact sum_at m c t x0 ⟨2432 + x1.val, by omega⟩ _ _ _ i (by rw [hr, h0]) (by rw [hc, h1])

/-- The launch's output array of window 15. -/
theorem arr15 (c : Dev nD) : (dats m 0 c).arrAt 15 cfg0.N = KY m 128 2432 (by decide) c := by
  refine (dats m 0 c).arrAt_eq_of_covers 15 _ (by decide +kernel) fun t hf y => ?_
  blk_simp
  rw [after0_15]
  refine out15 m c t y _ ?_ ?_
  · blk_simp [idx t]
  · blk_simp [idx t]

/-- What grid point `t` leaves in window 16's buffer, at an index of the array. -/
theorem out16 (c : Dev nD) (t : Fin cfg0.N) (y : S512x1024.Idx) (i : S8192x1024.Idx)
    (hr : (i 0).val = t.val * 512 + (y 0).val) (hc : (i 1).val = (y 1).val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y = KY m 1024 2560 (by decide) c i := by
  unfold out0_16
  canon_tiles x h
  all_goals
    idx_vars x
    pointwise [k0_pay2, k0_pay1, k0_pay18, k0_pay17]
  · exact sum_at m c t x0 ⟨3328 + x1.val, by omega⟩ _ _ _ i (by rw [hr, h0]) (by rw [hc, h1]; simp only [val1]; omega)
  · exact sum_at m c t x0 ⟨3072 + x1.val, by omega⟩ _ _ _ i (by rw [hr, h0]) (by rw [hc, h1]; simp only [val1]; omega)
  · exact sum_at m c t x0 ⟨2816 + x1.val, by omega⟩ _ _ _ i (by rw [hr, h0]) (by rw [hc, h1]; simp only [val1]; omega)
  · exact sum_at m c t x0 ⟨2560 + x1.val, by omega⟩ _ _ _ i (by rw [hr, h0]) (by rw [hc, h1])

/-- The launch's output array of window 16. -/
theorem arr16 (c : Dev nD) : (dats m 0 c).arrAt 16 cfg0.N = KY m 1024 2560 (by decide) c := by
  refine (dats m 0 c).arrAt_eq_of_covers 16 _ (by decide +kernel) fun t hf y => ?_
  blk_simp
  rw [after0_16]
  refine out16 m c t y _ ?_ ?_
  · blk_simp [idx t]
  · blk_simp [idx t]

end Kernel

section Reference

variable (m : (ℓ : Loc Cert.OutInLatRefIdeal.nD Cert.OutInLatRefIdeal.τ Cert.OutInLatRefIdeal.sig) → Buf (Elt Ideal) ℓ)

/-- The arrays `X` and `YO` of the reference's arguments. -/
abbrev RX (c : Dev Cert.OutInLatRefIdeal.nD) : D2 8192 1024 :=
  X (m ((c.tc : Thread Cert.OutInLatRefIdeal.nD Cert.OutInLatRefIdeal.τ).loc Cert.OutInLatRefIdeal.main_arg0))
    (m ((c.tc : Thread Cert.OutInLatRefIdeal.nD Cert.OutInLatRefIdeal.τ).loc Cert.OutInLatRefIdeal.main_arg1))
    (m ((c.tc : Thread Cert.OutInLatRefIdeal.nD Cert.OutInLatRefIdeal.τ).loc Cert.OutInLatRefIdeal.main_arg2))
    (m ((c.tc : Thread Cert.OutInLatRefIdeal.nD Cert.OutInLatRefIdeal.τ).loc Cert.OutInLatRefIdeal.main_arg3))
    (m ((c.tc : Thread Cert.OutInLatRefIdeal.nD Cert.OutInLatRefIdeal.τ).loc Cert.OutInLatRefIdeal.main_arg4))
    (m ((c.tc : Thread Cert.OutInLatRefIdeal.nD Cert.OutInLatRefIdeal.τ).loc Cert.OutInLatRefIdeal.main_arg5))
    (m ((c.tc : Thread Cert.OutInLatRefIdeal.nD Cert.OutInLatRefIdeal.τ).loc Cert.OutInLatRefIdeal.main_arg6))
abbrev RY (W off : ℕ) (h : off + W ≤ 3584) (c : Dev Cert.OutInLatRefIdeal.nD) : D2 8192 W :=
  YO W off h (fun r k => RX m c (ix2 r k))
    (m ((c.tc : Thread Cert.OutInLatRefIdeal.nD Cert.OutInLatRefIdeal.τ).loc Cert.OutInLatRefIdeal.main_arg7))
    (m ((c.tc : Thread Cert.OutInLatRefIdeal.nD Cert.OutInLatRefIdeal.τ).loc Cert.OutInLatRefIdeal.main_arg8))
    (m ((c.tc : Thread Cert.OutInLatRefIdeal.nD Cert.OutInLatRefIdeal.τ).loc Cert.OutInLatRefIdeal.main_arg9))

set_option maxHeartbeats 4000000 in
/-- The reference's result 2 is `YO` from column 0 on. -/
theorem ref12 (c : Dev Cert.OutInLatRefIdeal.nD) : Cert.OutInLatRefIdeal.Value.res_main_v44 (F := Ideal) m c = RY m 768 0 (by decide) c := by
  funext (i : (⟨2, ![8192, 768]⟩ : Shape).Idx)
  idx_vars i
  unfold Cert.OutInLatRefIdeal.Value.res_main_v44
  clean_types
  pointwise [YO, X, nrm, rms, lres, res, mix, sil]
  rfl

set_option maxHeartbeats 4000000 in
/-- The reference's result 3 is `YO` from column 768 on. -/
theorem ref13 (c : Dev Cert.OutInLatRefIdeal.nD) : Cert.OutInLatRefIdeal.Value.res_main_v45 (F := Ideal) m c = RY m 1536 768 (by decide) c := by
  funext (i : (⟨2, ![8192, 1536]⟩ : Shape).Idx)
  idx_vars i
  unfold Cert.OutInLatRefIdeal.Value.res_main_v45
  clean_types
  pointwise [YO, X, nrm, rms, lres, res, mix, sil]
  rfl

set_option maxHeartbeats 4000000 in
/-- The reference's result 4 is `YO` from column 2304 on. -/
theorem ref14 (c : Dev Cert.OutInLatRefIdeal.nD) : Cert.OutInLatRefIdeal.Value.res_main_v46 (F := Ideal) m c = RY m 128 2304 (by decide) c := by
  funext (i : (⟨2, ![8192, 128]⟩ : Shape).Idx)
  idx_vars i
  unfold Cert.OutInLatRefIdeal.Value.res_main_v46
  clean_types
  pointwise [YO, X, nrm, rms, lres, res, mix, sil]
  rfl

set_option maxHeartbeats 4000000 in
/-- The reference's result 5 is `YO` from column 2432 on. -/
theorem ref15 (c : Dev Cert.OutInLatRefIdeal.nD) : Cert.OutInLatRefIdeal.Value.res_main_v47 (F := Ideal) m c = RY m 128 2432 (by decide) c := by
  funext (i : (⟨2, ![8192, 128]⟩ : Shape).Idx)
  idx_vars i
  unfold Cert.OutInLatRefIdeal.Value.res_main_v47
  clean_types
  pointwise [YO, X, nrm, rms, lres, res, mix, sil]
  rfl

set_option maxHeartbeats 4000000 in
/-- The reference's result 6 is `YO` from column 2560 on. -/
theorem ref16 (c : Dev Cert.OutInLatRefIdeal.nD) : Cert.OutInLatRefIdeal.Value.res_main_v48 (F := Ideal) m c = RY m 1024 2560 (by decide) c := by
  funext (i : (⟨2, ![8192, 1024]⟩ : Shape).Idx)
  idx_vars i
  unfold Cert.OutInLatRefIdeal.Value.res_main_v48
  clean_types
  pointwise [YO, X, nrm, rms, lres, res, mix, sil]
  rfl

/-- The reference's run: its results are `X` and the five parts of `YO`, its arguments unchanged. -/
theorem runR (ρ : Dev Cert.OutInLatRefIdeal.nD → PrngReg) :
    θ_run Cert.OutInLatRefIdeal.defs (onTc (τ := Cert.OutInLatRefIdeal.τ) (Cert.OutInLatRefIdeal.main (F := Ideal))) ⟨m, fun _ => 0, ρ⟩ fun r => ∀ c : Dev Cert.OutInLatRefIdeal.nD,
      r.2.mem ((c.tc : Thread Cert.OutInLatRefIdeal.nD Cert.OutInLatRefIdeal.τ).loc Cert.OutInLatRefIdeal.main_v17) = RX m c
      ∧ r.2.mem ((c.tc : Thread Cert.OutInLatRefIdeal.nD Cert.OutInLatRefIdeal.τ).loc Cert.OutInLatRefIdeal.main_v44) = RY m 768 0 (by decide) c
      ∧ r.2.mem ((c.tc : Thread Cert.OutInLatRefIdeal.nD Cert.OutInLatRefIdeal.τ).loc Cert.OutInLatRefIdeal.main_v45) = RY m 1536 768 (by decide) c
      ∧ r.2.mem ((c.tc : Thread Cert.OutInLatRefIdeal.nD Cert.OutInLatRefIdeal.τ).loc Cert.OutInLatRefIdeal.main_v46) = RY m 128 2304 (by decide) c
      ∧ r.2.mem ((c.tc : Thread Cert.OutInLatRefIdeal.nD Cert.OutInLatRefIdeal.τ).loc Cert.OutInLatRefIdeal.main_v47) = RY m 128 2432 (by decide) c
      ∧ r.2.mem ((c.tc : Thread Cert.OutInLatRefIdeal.nD Cert.OutInLatRefIdeal.τ).loc Cert.OutInLatRefIdeal.main_v48) = RY m 1024 2560 (by decide) c
      ∧ r.2.mem ((c.tc : Thread Cert.OutInLatRefIdeal.nD Cert.OutInLatRefIdeal.τ).loc Cert.OutInLatRefIdeal.main_arg0) = m ((c.tc : Thread Cert.OutInLatRefIdeal.nD Cert.OutInLatRefIdeal.τ).loc Cert.OutInLatRefIdeal.main_arg0)
      ∧ r.2.mem ((c.tc : Thread Cert.OutInLatRefIdeal.nD Cert.OutInLatRefIdeal.τ).loc Cert.OutInLatRefIdeal.main_arg1) = m ((c.tc : Thread Cert.OutInLatRefIdeal.nD Cert.OutInLatRefIdeal.τ).loc Cert.OutInLatRefIdeal.main_arg1)
      ∧ r.2.mem ((c.tc : Thread Cert.OutInLatRefIdeal.nD Cert.OutInLatRefIdeal.τ).loc Cert.OutInLatRefIdeal.main_arg2) = m ((c.tc : Thread Cert.OutInLatRefIdeal.nD Cert.OutInLatRefIdeal.τ).loc Cert.OutInLatRefIdeal.main_arg2)
      ∧ r.2.mem ((c.tc : Thread Cert.OutInLatRefIdeal.nD Cert.OutInLatRefIdeal.τ).loc Cert.OutInLatRefIdeal.main_arg3) = m ((c.tc : Thread Cert.OutInLatRefIdeal.nD Cert.OutInLatRefIdeal.τ).loc Cert.OutInLatRefIdeal.main_arg3)
      ∧ r.2.mem ((c.tc : Thread Cert.OutInLatRefIdeal.nD Cert.OutInLatRefIdeal.τ).loc Cert.OutInLatRefIdeal.main_arg4) = m ((c.tc : Thread Cert.OutInLatRefIdeal.nD Cert.OutInLatRefIdeal.τ).loc Cert.OutInLatRefIdeal.main_arg4)
      ∧ r.2.mem ((c.tc : Thread Cert.OutInLatRefIdeal.nD Cert.OutInLatRefIdeal.τ).loc Cert.OutInLatRefIdeal.main_arg5) = m ((c.tc : Thread Cert.OutInLatRefIdeal.nD Cert.OutInLatRefIdeal.τ).loc Cert.OutInLatRefIdeal.main_arg5)
      ∧ r.2.mem ((c.tc : Thread Cert.OutInLatRefIdeal.nD Cert.OutInLatRefIdeal.τ).loc Cert.OutInLatRefIdeal.main_arg6) = m ((c.tc : Thread Cert.OutInLatRefIdeal.nD Cert.OutInLatRefIdeal.τ).loc Cert.OutInLatRefIdeal.main_arg6)
      ∧ r.2.mem ((c.tc : Thread Cert.OutInLatRefIdeal.nD Cert.OutInLatRefIdeal.τ).loc Cert.OutInLatRefIdeal.main_arg7) = m ((c.tc : Thread Cert.OutInLatRefIdeal.nD Cert.OutInLatRefIdeal.τ).loc Cert.OutInLatRefIdeal.main_arg7)
      ∧ r.2.mem ((c.tc : Thread Cert.OutInLatRefIdeal.nD Cert.OutInLatRefIdeal.τ).loc Cert.OutInLatRefIdeal.main_arg8) = m ((c.tc : Thread Cert.OutInLatRefIdeal.nD Cert.OutInLatRefIdeal.τ).loc Cert.OutInLatRefIdeal.main_arg8)
      ∧ r.2.mem ((c.tc : Thread Cert.OutInLatRefIdeal.nD Cert.OutInLatRefIdeal.τ).loc Cert.OutInLatRefIdeal.main_arg9) = m ((c.tc : Thread Cert.OutInLatRefIdeal.nD Cert.OutInLatRefIdeal.τ).loc Cert.OutInLatRefIdeal.main_arg9) := by
  refine Idealize.ShloMosaic.θ_run_mono (Cert.OutInLatRefIdeal.Value.run m ρ) ?_
  intro r h c
  obtain ⟨h11, h12, h13, h14, h15, h16, h⟩ := h c
  refine ⟨h11.trans ?_, h12.trans (ref12 m c), h13.trans (ref13 m c), h14.trans (ref14 m c), h15.trans (ref15 m c),
    h16.trans (ref16 m c), h⟩
  funext (i : (⟨2, ![8192, 1024]⟩ : Shape).Idx)
  idx_vars i
  clean_types
  pointwise [X, lres, res, mix, sil]

end Reference
end Cert.OutInLatValue
-- ==== Proof.OutCtxValue.lean ====
module

public import proofs.«01_k».proof.Proof.Rows
public import proofs.«01_k».proof.Proof.Gen.OutCtxIdeal.Value
public import proofs.«01_k».proof.Proof.Gen.OutCtxRefIdeal.Run
public import Idealize.ShloMosaic.Lib.Tactic.CleanTypes

/-! The context tokens' output projection and final norm: what the launch writes, and what the reference computes, are
    both the array `Y` of this module. -/

@[expose] public section

set_option maxRecDepth 16384

noncomputable section

namespace Cert.OutCtxValue
open Idealize.ShloMosaic Idealize.ShloMosaic.TcCoe Idealize.SL.Sem
open Cert.OutCtxIdeal Cert.OutCtxIdeal.Gen Cert.Rows

/-- The normalised stream, the samples' tokens laid end to end. -/
def Y (x : D3 32 256 1024) (yh : D4 32 2 256 128) (yn : D2 8192 512) (ys : D2 8192 256) (g : D2 8192 1024) (mod : D2 3 3072)
    (w : D2 1024 1024) (fg : D1 1024) : D2 8192 1024 :=
  fun i => rms (cres x yh yn ys g mod w (i 0)) (fg (ix1 (i 1))) (i 1)

section Kernel

variable (m : (ℓ : Loc nD τ sig) → Buf (Elt Ideal) ℓ)

/-- Where each window's block lies at grid point `t`. -/
theorem idx : ∀ t : Fin grid0.N, win0_0.index t = ![t.val, 0] ∧ win0_1.index t = ![t.val, 0, 0, 0]
   ∧ win0_2.index t = ![t.val, 0] ∧ win0_3.index t = ![t.val, 0] ∧ win0_4.index t = ![t.val, 0]
   ∧ win0_5.index t = ![0, 0, 2] ∧ win0_6.index t = ![0, 0] ∧ win0_7.index t = ![0, 0]
   ∧ win0_8.index t = ![t.val, 0] := by decide +kernel

/-- The residual stream `cres` of the launch's arguments. -/
abbrev kres (c : Dev nD) (r : Fin 8192) (k : Fin 1024) : EReal :=
  cres (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r k

/-- The input's block and the gate's block at grid point `t`. -/
abbrev bx (c : Dev nD) (t : Fin cfg0.N) : Vec Ideal S512x1024 .f32 := iblk m c 0 t
abbrev bm (c : Dev nD) (t : Fin cfg0.N) : Vec Ideal S1x1x1024 .f32 := iblk m c 5 t

/-- The third mixer's block and the weight at grid point `t`. -/
abbrev bs (c : Dev nD) (t : Fin cfg0.N) (i : S512x256.Idx) : EReal := iblk m c 3 t i
abbrev bw (c : Dev nD) (t : Fin cfg0.N) (i : S1024x1024.Idx) : EReal := iblk m c 6 t i

/-- The projection's block at grid point `t`: its three parts, one per mixer. -/
abbrev acc (c : Dev nD) (t : Fin cfg0.N) (p : Fin 512) (k : Fin 1024) : EReal :=
  k0_pay3 (View.ld (iblk m c 4 t) r0_0) (View.ld (iblk m c 1 t) r0_1) (View.ld (iblk m c 1 t) r0_2)
      (View.ld (iblk m c 1 t) r0_3) (View.ld (iblk m c 1 t) r0_4) (View.ld (iblk m c 6 t) r0_5) (ix2 p k) +
    k0_pay4 (View.ld (iblk m c 4 t) r0_0) (View.ld (iblk m c 2 t) r0_6) (View.ld (iblk m c 6 t) r0_7) (ix2 p k) +
    ∑ x : Fin 256, bs m c t (ix2 p x) * k0_pay2 (View.ld (iblk m c 4 t) r0_0) (ix2 p ⟨768 + x.val, by omega⟩) *
      bw m c t (ix2 ⟨768 + x.val, by omega⟩ k)

set_option maxHeartbeats 1000000 in
/-- The residual block of grid point `t` is `cres` at the rows `t * 512 + p`. -/
theorem r_at (c : Dev nD) (t : Fin cfg0.N) (p : Fin 512) (k : Fin 1024) (r : Fin 8192)
    (h : r.val = t.val * 512 + p.val) :
    bx m c t (ix2 p k) + bm m c t (ix3 0 0 k) * acc m c t p k = kres m c r k := by
  have hN : t.val < 16 := t.isLt
  unfold kres cres res acc bx bm bs bw
  rw [← mix_eq]
  simp only [← sil_eq]
  pointwise [k0_pay2, k0_pay3, k0_pay4]
  blk_point [iblk, V, idx t]

/-- The array `Y` of the launch's arguments. -/
abbrev KY (c : Dev nD) : D2 8192 1024 :=
  Y (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The final gain's block is the whole gain. -/
theorem g_at (c : Dev nD) (t : Fin cfg0.N) (k k' : Fin 1024) (h : k.val = k'.val) :
    iblk m c 7 t (ix2 0 k) = m ((c : Thread nD τ).loc main_arg7) (ix1 k') := by
  obtain rfl : k = k' := Fin.ext h
  blk_point [iblk, V, idx t]

/-- What grid point `t` leaves in the output's buffer, at an index of the array. -/
theorem out8 (c : Dev nD) (t : Fin cfg0.N) (y : S512x1024.Idx) (i : S8192x1024.Idx)
    (hr : (i 0).val = t.val * 512 + (y 0).val) (hc : (i 1).val = (y 1).val) :
    out0_8 (iblk m c 0 t) (iblk m c 1 t) (iblk m c 2 t) (iblk m c 3 t) (iblk m c 4 t) (iblk m c 5 t) (iblk m c 6 t) (iblk m c 7 t) y
      = KY m c i := by
  idx_vars i
  unfold out0_8
  canon_tiles x h
  idx_vars x
  have e : i1 = x1 := Fin.ext (by rw [← h1]; exact hc)
  subst e
  pointwise [k0_pay1]
  have hx := fun k => r_at m c t x0 k i0 (by rw [← h0]; exact hr)
  refine (show _ = rms (fun k => bx m c t (ix2 x0 k) + bm m c t (ix3 0 0 k) * acc m c t x0 k) (iblk m c 7 t (ix2 0 i1)) i1
    from rfl).trans ?_
  rw [g_at m c t i1 i1 rfl, funext hx]
  rfl

/-- The launch's output array. -/
theorem arr8 (c : Dev nD) : (dats m 0 c).arrAt 8 cfg0.N = KY m c := by
  refine (dats m 0 c).arrAt_eq_of_covers 8 _ (by decide +kernel) fun t hf y => ?_
  blk_simp
  rw [after0_8]
  refine out8 m c t y _ ?_ ?_
  · blk_simp [idx t]
  · blk_simp [idx t]

end Kernel

section Reference

variable (m : (ℓ : Loc Cert.OutCtxRefIdeal.nD Cert.OutCtxRefIdeal.τ Cert.OutCtxRefIdeal.sig) → Buf (Elt Ideal) ℓ)

/-- The array `Y` of the reference's arguments. -/
abbrev RY (c : Dev Cert.OutCtxRefIdeal.nD) : D2 8192 1024 :=
  Y (m ((c.tc : Thread Cert.OutCtxRefIdeal.nD Cert.OutCtxRefIdeal.τ).loc Cert.OutCtxRefIdeal.main_arg0))
    (m ((c.tc : Thread Cert.OutCtxRefIdeal.nD Cert.OutCtxRefIdeal.τ).loc Cert.OutCtxRefIdeal.main_arg1))
    (m ((c.tc : Thread Cert.OutCtxRefIdeal.nD Cert.OutCtxRefIdeal.τ).loc Cert.OutCtxRefIdeal.main_arg2))
    (m ((c.tc : Thread Cert.OutCtxRefIdeal.nD Cert.OutCtxRefIdeal.τ).loc Cert.OutCtxRefIdeal.main_arg3))
    (m ((c.tc : Thread Cert.OutCtxRefIdeal.nD Cert.OutCtxRefIdeal.τ).loc Cert.OutCtxRefIdeal.main_arg4))
    (m ((c.tc : Thread Cert.OutCtxRefIdeal.nD Cert.OutCtxRefIdeal.τ).loc Cert.OutCtxRefIdeal.main_arg5))
    (m ((c.tc : Thread Cert.OutCtxRefIdeal.nD Cert.OutCtxRefIdeal.τ).loc Cert.OutCtxRefIdeal.main_arg6))
    (m ((c.tc : Thread Cert.OutCtxRefIdeal.nD Cert.OutCtxRefIdeal.τ).loc Cert.OutCtxRefIdeal.main_arg7))

set_option maxHeartbeats 4000000 in
/-- The reference's result is `Y`. -/
theorem ref_eq (c : Dev Cert.OutCtxRefIdeal.nD) : Cert.OutCtxRefIdeal.Value.res_main_v30 (F := Ideal) m c = RY m c := by
  funext (i : (⟨2, ![8192, 1024]⟩ : Shape).Idx)
  idx_vars i
  unfold Cert.OutCtxRefIdeal.Value.res_main_v30
  clean_types
  pointwise [Y, rms, cres, res, mix, sil]
  rfl

end Reference
end Cert.OutCtxValue
-- ==== Proof.OutLatValue.lean ====
module

public import proofs.«01_k».proof.Proof.Rows
public import proofs.«01_k».proof.Proof.Gen.OutLatIdeal.Value
public import proofs.«01_k».proof.Proof.Gen.OutLatRefIdeal.Run
public import Idealize.ShloMosaic.Lib.Tactic.CleanTypes

/-! The latent tokens' output projection and final norm: what the launch writes, and what the reference computes, are
    both the array `Y` of this module. -/

@[expose] public section

set_option maxRecDepth 16384

noncomputable section

namespace Cert.OutLatValue
open Idealize.ShloMosaic Idealize.ShloMosaic.TcCoe Idealize.SL.Sem
open Cert.OutLatIdeal Cert.OutLatIdeal.Gen Cert.Rows

/-- The normalised stream, the two samples' tokens laid end to end. -/
def Y (x : D3 2 4096 1024) (yh : D4 2 2 4096 128) (yn : D2 8192 512) (ys : D2 8192 256) (g : D2 8192 1024) (mod : D2 3 3072)
    (w : D2 1024 1024) (fg : D1 1024) : D2 8192 1024 :=
  fun i => rms (lres x yh yn ys g mod w (i 0)) (fg (ix1 (i 1))) (i 1)

section Kernel

variable (m : (ℓ : Loc nD τ sig) → Buf (Elt Ideal) ℓ)

/-- Where each window's block lies at grid point `t`. -/
theorem idx : ∀ t : Fin grid0.N, win0_0.index t = ![t.val, 0] ∧ win0_1.index t = ![t.val / 8, 0, t.val % 8, 0]
   ∧ win0_2.index t = ![t.val, 0] ∧ win0_3.index t = ![t.val, 0] ∧ win0_4.index t = ![t.val, 0]
   ∧ win0_5.index t = ![1 + t.val / 8, 0, 2] ∧ win0_6.index t = ![0, 0] ∧ win0_7.index t = ![0, 0]
   ∧ win0_8.index t = ![t.val, 0] := by decide +kernel

/-- The residual stream `lres` of the launch's arguments. -/
abbrev kres (c : Dev nD) (r : Fin 8192) (k : Fin 1024) : EReal :=
  lres (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r k

/-- The input's block and the gate's block at grid point `t`. -/
abbrev bx (c : Dev nD) (t : Fin cfg0.N) : Vec Ideal S512x1024 .f32 := iblk m c 0 t
abbrev bm (c : Dev nD) (t : Fin cfg0.N) : Vec Ideal S1x1x1024 .f32 := iblk m c 5 t

/-- The projection's block at grid point `t`. -/
abbrev acc (c : Dev nD) (t : Fin cfg0.N) : Vec Ideal S512x1024 .f32 :=
  k0_pay2 (View.ld (iblk m c 4 t) r0_0) (View.ld (iblk m c 1 t) r0_1) (View.ld (iblk m c 1 t) r0_2) (View.ld (iblk m c 6 t) r0_3)
    (View.ld (iblk m c 2 t) r0_4) (View.ld (iblk m c 6 t) r0_5) (View.ld (iblk m c 3 t) r0_6) (View.ld (iblk m c 6 t) r0_7)

set_option maxHeartbeats 1000000 in
/-- The residual block of grid point `t` is `lres` at the rows `t * 512 + p`. -/
theorem r_at (c : Dev nD) (t : Fin cfg0.N) (p : Fin 512) (k : Fin 1024) (r : Fin 8192)
    (h : r.val = t.val * 512 + p.val) :
    bx m c t (ix2 p k) + bm m c t (ix3 0 0 k) * acc m c t (ix2 p k) = kres m c r k := by
  have hN : t.val < 16 := t.isLt
  unfold kres lres res acc bx bm
  rw [← mix_eq]
  simp only [← sil_eq]
  pointwise [k0_pay2]
  blk_point [iblk, V, idx t]

/-- The array `Y` of the launch's arguments. -/
abbrev KY (c : Dev nD) : D2 8192 1024 :=
  Y (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The final gain's block is the whole gain. -/
theorem g_at (c : Dev nD) (t : Fin cfg0.N) (k k' : Fin 1024) (h : k.val = k'.val) :
    iblk m c 7 t (ix2 0 k) = m ((c : Thread nD τ).loc main_arg7) (ix1 k') := by
  obtain rfl : k = k' := Fin.ext h
  blk_point [iblk, V, idx t]

/-- What grid point `t` leaves in the output's buffer, at an index of the array. -/
theorem out8 (c : Dev nD) (t : Fin cfg0.N) (y : S512x1024.Idx) (i : S8192x1024.Idx)
    (hr : (i 0).val = t.val * 512 + (y 0).val) (hc : (i 1).val = (y 1).val) :
    out0_8 (iblk m c 0 t) (iblk m c 1 t) (iblk m c 2 t) (iblk m c 3 t) (iblk m c 4 t) (iblk m c 5 t) (iblk m c 6 t) (iblk m c 7 t) y
      = KY m c i := by
  idx_vars i
  unfold out0_8
  canon_tiles x h
  idx_vars x
  have e : i1 = x1 := Fin.ext (by rw [← h1]; exact hc)
  subst e
  pointwise [k0_pay1]
  have hx := fun k => r_at m c t x0 k i0 (by rw [← h0]; exact hr)
  refine (show _ = rms (fun k => bx m c t (ix2 x0 k) + bm m c t (ix3 0 0 k) * acc m c t (ix2 x0 k)) (iblk m c 7 t (ix2 0 i1)) i1
    from rfl).trans ?_
  rw [g_at m c t i1 i1 rfl, funext hx]
  rfl

/-- The launch's output array. -/
theorem arr8 (c : Dev nD) : (dats m 0 c).arrAt 8 cfg0.N = KY m c := by
  refine (dats m 0 c).arrAt_eq_of_covers 8 _ (by decide +kernel) fun t hf y => ?_
  blk_simp
  rw [after0_8]
  refine out8 m c t y _ ?_ ?_
  · blk_simp [idx t]
  · blk_simp [idx t]

end Kernel

section Reference

variable (m : (ℓ : Loc Cert.OutLatRefIdeal.nD Cert.OutLatRefIdeal.τ Cert.OutLatRefIdeal.sig) → Buf (Elt Ideal) ℓ)

/-- The array `Y` of the reference's arguments. -/
abbrev RY (c : Dev Cert.OutLatRefIdeal.nD) : D2 8192 1024 :=
  Y (m ((c.tc : Thread Cert.OutLatRefIdeal.nD Cert.OutLatRefIdeal.τ).loc Cert.OutLatRefIdeal.main_arg0))
    (m ((c.tc : Thread Cert.OutLatRefIdeal.nD Cert.OutLatRefIdeal.τ).loc Cert.OutLatRefIdeal.main_arg1))
    (m ((c.tc : Thread Cert.OutLatRefIdeal.nD Cert.OutLatRefIdeal.τ).loc Cert.OutLatRefIdeal.main_arg2))
    (m ((c.tc : Thread Cert.OutLatRefIdeal.nD Cert.OutLatRefIdeal.τ).loc Cert.OutLatRefIdeal.main_arg3))
    (m ((c.tc : Thread Cert.OutLatRefIdeal.nD Cert.OutLatRefIdeal.τ).loc Cert.OutLatRefIdeal.main_arg4))
    (m ((c.tc : Thread Cert.OutLatRefIdeal.nD Cert.OutLatRefIdeal.τ).loc Cert.OutLatRefIdeal.main_arg5))
    (m ((c.tc : Thread Cert.OutLatRefIdeal.nD Cert.OutLatRefIdeal.τ).loc Cert.OutLatRefIdeal.main_arg6))
    (m ((c.tc : Thread Cert.OutLatRefIdeal.nD Cert.OutLatRefIdeal.τ).loc Cert.OutLatRefIdeal.main_arg7))

set_option maxHeartbeats 4000000 in
/-- The reference's result is `Y`. -/
theorem ref_eq (c : Dev Cert.OutLatRefIdeal.nD) : Cert.OutLatRefIdeal.Value.res_main_v30 (F := Ideal) m c = RY m c := by
  funext (i : (⟨2, ![8192, 1024]⟩ : Shape).Idx)
  idx_vars i
  unfold Cert.OutLatRefIdeal.Value.res_main_v30
  clean_types
  pointwise [Y, rms, lres, res, mix, sil]
  rfl

end Reference
end Cert.OutLatValue
-- ==== Proof.PrepValue.lean ====
module

public import proofs.«01_k».proof.Proof.Gen.PrepIdeal.Value
public import proofs.«01_k».proof.Proof.Gen.PrepRefIdeal.Run
public import Idealize.ShloMosaic.Lib.Pipeline.ValueKit
public import Idealize.ShloMosaic.Lib.Pointwise
public import Idealize.ShloMosaic.Lib.Tactic.CleanTypes

/-! The short convolution of the latent tokens: what the launch writes, and what the reference computes, are both the array
    `YO` of this module, each position's three neighbouring rows weighted channel by channel, plus the bias. -/

@[expose] public section

set_option maxRecDepth 16384

noncomputable section

namespace Cert.PrepValue
open Idealize.ShloMosaic Idealize.ShloMosaic.TcCoe Idealize.SL.Sem
open Cert.PrepIdeal Cert.PrepIdeal.Gen

/-- A vector, a matrix and four axes of extended reals. -/
abbrev D1 (a : ℕ) := (⟨1, ![a]⟩ : Shape).Idx → EReal
abbrev D2 (a b : ℕ) := (⟨2, ![a, b]⟩ : Shape).Idx → EReal
abbrev D4 (a b c d : ℕ) := (⟨4, ![a, b, c, d]⟩ : Shape).Idx → EReal

/-- Row `j` of sequence `b` with a row of zeros put before it and one after. -/
def tap (x : D2 8192 768) (b : Fin 2) (j : ℕ) (n : Fin 768) : EReal :=
  if h : 1 ≤ j ∧ j ≤ 4096 then x (ix2 ⟨b.val * 4096 + (j - 1), by omega⟩ n) else 0

/-- The convolution of sequence `b` at position `l` and channel `n`. -/
def conv (x : D2 8192 768) (w : D2 3 768) (s : D1 768) (b : Fin 2) (l : ℕ) (n : Fin 768) : EReal :=
  s (ix1 n) + tap x b l n * w (ix2 (0 : Fin 3) n) + tap x b (l + 1) n * w (ix2 (1 : Fin 3) n)
    + tap x b (l + 2) n * w (ix2 (2 : Fin 3) n)

/-- The 256 channels of `conv` from `off` on, the two sequences' halves as four slabs. -/
def YO (off : ℕ) (h : off + 256 ≤ 768) (x : D2 8192 768) (w : D2 3 768) (s : D1 768) : D4 1 4 4096 128 :=
  fun i => conv x w s ⟨(i 1).val / 2, by have : (i 1).val < 4 := (i 1).isLt; omega⟩ (i 2).val
    ⟨off + (i 1).val % 2 * 128 + (i 3).val, by have : (i 3).val < 128 := (i 3).isLt; omega⟩

section Kernel

variable (m : (ℓ : Loc nD τ sig) → Buf (Elt Ideal) ℓ)

/-- Where each window's block lies at grid point `t`. -/
theorem idx : ∀ t : Fin grid0.N, win0_0.index t = ![0, t.val, 0] ∧ win0_1.index t = ![0, t.val * 64 - 1, 0]
   ∧ win0_2.index t = ![0, min ((t.val + 1) * 64) 511, 0]
   ∧ win0_3.index t = ![1, t.val, 0] ∧ win0_4.index t = ![1, t.val * 64 - 1, 0]
   ∧ win0_5.index t = ![1, min ((t.val + 1) * 64) 511, 0] ∧ win0_6.index t = ![0, 0] ∧ win0_7.index t = ![0, 0]
   ∧ win0_8.index t = ![0, 0, t.val, 0] ∧ win0_9.index t = ![0, 0, t.val, 0] ∧ win0_10.index t = ![0, 0, t.val, 0]
   ∧ (grid0.coords t 1).val = t.val := by decide +kernel

/-- The weight's and the bias's blocks are the whole arrays. -/
theorem w_at (c : Dev nD) (t : Fin cfg0.N) (k : Fin 3) (n : Fin 768) :
    iblk m c 6 t (ix2 k n) = m ((c : Thread nD τ).loc main_arg1) (ix2 k n) := by
  blk_ext [iblk, V, idx t]

theorem b_at (c : Dev nD) (t : Fin cfg0.N) (n : Fin 768) :
    iblk m c 7 t (ix2 (0 : Fin 1) n) = m ((c : Thread nD τ).loc main_arg2) (ix1 n) := by
  blk_point [iblk, V, idx t]

/-- Three blocks of sequence `b` at grid point `t`: 512 rows, the eight before them and the eight after them. -/
def Near (x : D2 8192 768) (b : Fin 2) (t : ℕ) (cur : Vec Ideal S1x512x768 .f32) (prev next : Vec Ideal S1x8x768 .f32) : Prop :=
  (∀ (p : Fin 512) (n : Fin 768) (r : Fin 8192), r.val = b.val * 4096 + (t * 512 + p.val) → cur (ix3 (0 : Fin 1) p n) = x (ix2 r n))
  ∧ (0 < t → ∀ (n : Fin 768) (r : Fin 8192), r.val + 1 = b.val * 4096 + t * 512 → prev (ix3 (0 : Fin 1) (7 : Fin 8) n) = x (ix2 r n))
  ∧ (t < 7 → ∀ (n : Fin 768) (r : Fin 8192), r.val = b.val * 4096 + (t * 512 + 512) → next (ix3 (0 : Fin 1) (0 : Fin 8) n) = x (ix2 r n))

set_option maxHeartbeats 1000000 in
theorem near0 (c : Dev nD) (t : Fin cfg0.N) :
    Near (m ((c : Thread nD τ).loc main_arg0)) 0 t.val (iblk m c 0 t) (iblk m c 1 t) (iblk m c 2 t) := by
  have hN : t.val < 8 := t.isLt
  refine ⟨fun p n r h => ?_, fun ht n r h => ?_, fun ht n r h => ?_⟩
  all_goals
    simp only [show (0 : Fin 2).val = 0 from rfl, Nat.zero_mul, Nat.zero_add] at h
    blk_point [iblk, V, idx t]

set_option maxHeartbeats 1000000 in
theorem near1 (c : Dev nD) (t : Fin cfg0.N) :
    Near (m ((c : Thread nD τ).loc main_arg0)) 1 t.val (iblk m c 3 t) (iblk m c 4 t) (iblk m c 5 t) := by
  have hN : t.val < 8 := t.isLt
  refine ⟨fun p n r h => ?_, fun ht n r h => ?_, fun ht n r h => ?_⟩
  all_goals
    simp only [show (1 : Fin 2).val = 1 from rfl, Nat.one_mul] at h
    blk_point [iblk, V, idx t]

/-- A choice by the first or the last row of a block, and by the first or the last block. -/
theorem sel_first (p : Fin 512) (a b : EReal) :
    Scalar.select (IntOp.cmpi CmpIPredicate.eq (BitVec.ofNat 32 p.val) 0#32) a b = if p.val = 0 then a else b := by
  have e : ∀ p : Fin 512, IntOp.cmpi CmpIPredicate.eq (BitVec.ofNat 32 p.val) 0#32 = if p.val = 0 then 1#1 else 0#1 := by
    decide +kernel
  rw [e]; split <;> rfl

theorem sel_last (p : Fin 512) (a b : EReal) :
    Scalar.select (IntOp.cmpi CmpIPredicate.eq (BitVec.ofNat 32 p.val) 511#32) a b = if p.val = 511 then a else b := by
  have e : ∀ p : Fin 512, IntOp.cmpi CmpIPredicate.eq (BitVec.ofNat 32 p.val) 511#32 = if p.val = 511 then 1#1 else 0#1 := by
    decide +kernel
  rw [e]; split <;> rfl

theorem sel_after (t : ℕ) (ht : t < 8) (a b : EReal) :
    Scalar.select (Scalar.cmpi CmpIPredicate.sgt (BitVec.ofNat 32 t) 0#32) a b = if 0 < t then a else b := by
  have e : ∀ t : Fin 8, Scalar.cmpi CmpIPredicate.sgt (BitVec.ofNat 32 t.val) 0#32 = if 0 < t.val then 1#1 else 0#1 := by
    decide +kernel
  rw [e ⟨t, ht⟩]
  show Scalar.select (if 0 < t then 1#1 else 0#1) a b = _
  split <;> rfl

theorem sel_before (t : ℕ) (ht : t < 8) (a b : EReal) :
    Scalar.select (Scalar.cmpi CmpIPredicate.slt (BitVec.ofNat 32 t) 7#32) a b = if t < 7 then a else b := by
  have e : ∀ t : Fin 8, Scalar.cmpi CmpIPredicate.slt (BitVec.ofNat 32 t.val) 7#32 = if t.val < 7 then 1#1 else 0#1 := by
    decide +kernel
  rw [e ⟨t, ht⟩]
  show Scalar.select (if t < 7 then 1#1 else 0#1) a b = _
  split <;> rfl

section Taps

variable {x : D2 8192 768} {b : Fin 2} {t : ℕ} {cur : Vec Ideal S1x512x768 .f32} {prev next : Vec Ideal S1x8x768 .f32}

/-- The row before, the row itself and the row after. -/
theorem tap_up (h : Near x b t cur prev next) (ht : t < 8) (p : Fin 512) (n : Fin 768) (h') :
    (if p.val = 0 then (if 0 < t then prev (ix3 (0 : Fin 1) (7 : Fin 8) n) else 0)
      else cur (ix3 (0 : Fin 1) ⟨(p.val + 512 - 1) % 512, h'⟩ n)) = tap x b (t * 512 + p.val) n := by
  unfold tap
  by_cases h0 : p.val = 0
  · rw [if_pos h0]
    by_cases h1 : 0 < t
    · rw [if_pos h1, dif_pos (by omega)]
      exact h.2.1 h1 n _ (by show b.val * 4096 + (t * 512 + p.val - 1) + 1 = _; omega)
    · rw [if_neg h1, dif_neg (by omega)]
  · rw [if_neg h0, dif_pos (by omega)]
    exact h.1 _ n _ (by show b.val * 4096 + (t * 512 + p.val - 1) = b.val * 4096 + (t * 512 + (p.val + 512 - 1) % 512); omega)

theorem tap_mid (h : Near x b t cur prev next) (ht : t < 8) (p : Fin 512) (n : Fin 768) :
    cur (ix3 (0 : Fin 1) p n) = tap x b (t * 512 + p.val + 1) n := by
  unfold tap
  rw [dif_pos (by omega)]
  exact h.1 _ n _ (by show b.val * 4096 + (t * 512 + p.val + 1 - 1) = _; omega)

theorem tap_down (h : Near x b t cur prev next) (ht : t < 8) (p : Fin 512) (n : Fin 768) (h') :
    (if p.val = 511 then (if t < 7 then next (ix3 (0 : Fin 1) (0 : Fin 8) n) else 0)
      else cur (ix3 (0 : Fin 1) ⟨(p.val + 512 - 511) % 512, h'⟩ n)) = tap x b (t * 512 + p.val + 2) n := by
  unfold tap
  by_cases h0 : p.val = 511
  · rw [if_pos h0]
    by_cases h1 : t < 7
    · rw [if_pos h1, dif_pos (by omega)]
      exact h.2.2 h1 n _ (by show b.val * 4096 + (t * 512 + p.val + 2 - 1) = _; omega)
    · rw [if_neg h1, dif_neg (by omega)]
  · rw [if_neg h0, dif_pos (by omega)]
    exact h.1 _ n _ (by show b.val * 4096 + (t * 512 + p.val + 2 - 1) = b.val * 4096 + (t * 512 + (p.val + 512 - 511) % 512); omega)

end Taps

/-- The convolution of the launch's arguments. -/
abbrev KC (c : Dev nD) (b : Fin 2) (l : ℕ) (n : Fin 768) : EReal :=
  conv (m ((c : Thread nD τ).loc main_arg0)) (m ((c : Thread nD τ).loc main_arg1)) (m ((c : Thread nD τ).loc main_arg2)) b l n

set_option maxHeartbeats 1000000 in
/-- What grid point `t` computes for the first sequence. -/
theorem first (c : Dev nD) (t : Fin cfg0.N) (p : Fin 512) (n : Fin 768) :
    k0_pay4 (View.ld (iblk m c 6 t) r0_0) (k0_pay1 (View.ld (iblk m c 0 t) r0_1))
      (k0_pay2 (grid0.coords t) (View.ld (iblk m c 0 t) r0_1) (View.ld (iblk m c 2 t) r0_3))
      (k0_pay3 (grid0.coords t) (View.ld (iblk m c 6 t) r0_0) (View.ld (iblk m c 0 t) r0_1) (View.ld (iblk m c 1 t) r0_2)
        (View.ld (iblk m c 7 t) r0_4)) (ix2 p n) = KC m c 0 (t.val * 512 + p.val) n := by
  have hN : t.val < 8 := t.isLt
  have hg : (grid0.coords t 1).val = t.val := (idx t).2.2.2.2.2.2.2.2.2.2.2
  have h := near0 m c t
  unfold KC conv
  pointwise [k0_pay4, k0_pay3, k0_pay2, k0_pay1]
  rw [sel_first, sel_last, hg, sel_after _ hN, sel_before _ hN, tap_up h hN, tap_mid h hN, tap_down h hN,
    w_at, w_at, w_at, b_at]

set_option maxHeartbeats 1000000 in
/-- What grid point `t` computes for the second sequence. -/
theorem second (c : Dev nD) (t : Fin cfg0.N) (p : Fin 512) (n : Fin 768) (v : IVec S512x1 32)
    (hv : v = iota .tc S512x1 32 [0] iota_S512x1_d0_w32) :
    k0_pay15 (View.ld (iblk m c 6 t) r0_0)
      (k0_pay13 (BitVec.ofNat 32 (grid0.coords t 1).val) v (View.ld (iblk m c 3 t) r0_1) (View.ld (iblk m c 5 t) r0_3))
      (k0_pay14 (BitVec.ofNat 32 (grid0.coords t 1).val) v (View.ld (iblk m c 6 t) r0_0) (View.ld (iblk m c 3 t) r0_1)
        (View.ld (iblk m c 4 t) r0_2) (View.ld (iblk m c 7 t) r0_4)) (ix2 p n) = KC m c 1 (t.val * 512 + p.val) n := by
  have hN : t.val < 8 := t.isLt
  have hg : (grid0.coords t 1).val = t.val := (idx t).2.2.2.2.2.2.2.2.2.2.2
  have h := near1 m c t
  subst hv
  unfold KC conv
  pointwise [k0_pay15, k0_pay14, k0_pay13, k0_pay12]
  rw [sel_first, sel_last, hg, sel_after _ hN, sel_before _ hN, tap_up h hN, tap_mid h hN, tap_down h hN,
    w_at, w_at, w_at, b_at]

/-- The array `YO` of the launch's arguments. -/
abbrev KY (off : ℕ) (h : off + 256 ≤ 768) (c : Dev nD) : D4 1 4 4096 128 :=
  YO off h (m ((c : Thread nD τ).loc main_arg0)) (m ((c : Thread nD τ).loc main_arg1)) (m ((c : Thread nD τ).loc main_arg2))

/-- An entry of `YO`, its sequence, position and channel known by their numbers. -/
theorem KY_at (off : ℕ) (h) (c : Dev nD) (i : S1x4x4096x128.Idx) (b : Fin 2) (l : ℕ) (n : Fin 768) (hb : b.val = (i 1).val / 2)
    (hl : l = (i 2).val) (hn : n.val = off + (i 1).val % 2 * 128 + (i 3).val) : KC m c b l n = KY m off h c i := by
  unfold KY YO
  subst hl
  rw [show b = ⟨(i 1).val / 2, _⟩ from Fin.ext hb, show n = ⟨off + (i 1).val % 2 * 128 + (i 3).val, _⟩ from Fin.ext hn]

/-- What grid point `t` leaves in window 8's buffer, at an index of the array. -/
theorem out8 (c : Dev nD) (t : Fin cfg0.N) (y : S1x4x512x128.Idx) (i : S1x4x4096x128.Idx)
    (e1 : (i 1).val = (y 1).val) (e2 : (i 2).val = t.val * 512 + (y 2).val) (e3 : (i 3).val = (y 3).val) :
    out0_8 (grid0.coords t) (iblk m c 0 t) (iblk m c 1 t) (iblk m c 2 t) (iblk m c 3 t) (iblk m c 4 t) (iblk m c 5 t)
      (iblk m c 6 t) (iblk m c 7 t) y = KY m 0 (by decide) c i := by
  unfold out0_8 k0_pay27 k0_pay26 k0_pay25 k0_pay24 k0_pay23
  canon_tiles x h
  all_goals
    idx_vars x
    pointwise [k0_pay5, k0_pay6, k0_pay16, k0_pay17]
  · exact (second m c t x2 ⟨128 + x3.val, by omega⟩ _ rfl).trans (KY_at m _ _ c i _ _ _ (by rw [e1, h1]; show 1 = _; omega) (by rw [e2, h2])
      (by rw [e1, h1, e3, h3]; show 128 + x3.val = _; omega))
  · exact (second m c t x2 ⟨x3.val, by omega⟩ _ rfl).trans (KY_at m _ _ c i _ _ _ (by rw [e1, h1]; show 1 = _; omega) (by rw [e2, h2])
      (by rw [e1, h1, e3, h3]; show x3.val = _; omega))
  · exact (first m c t x2 ⟨128 + x3.val, by omega⟩).trans (KY_at m _ _ c i _ _ _ (by rw [e1, h1]; show 0 = _; omega) (by rw [e2, h2])
      (by rw [e1, h1, e3, h3]; show 128 + x3.val = _; omega))
  · exact (first m c t x2 ⟨x3.val, by omega⟩).trans (KY_at m _ _ c i _ _ _ (by rw [e1, h1]; show 0 = _; omega) (by rw [e2, h2])
      (by rw [e1, h1, e3, h3]; show x3.val = _; omega))

/-- The launch's output array of window 8. -/
theorem arr8 (c : Dev nD) : (dats m 0 c).arrAt 8 cfg0.N = KY m 0 (by decide) c := by
  refine (dats m 0 c).arrAt_eq_of_covers 8 _ (by decide +kernel) fun t hf y => ?_
  blk_simp
  rw [after0_8]
  refine out8 m c t y _ ?_ ?_ ?_
  · blk_simp [idx t]
  · blk_simp [idx t]
  · blk_simp [idx t]

/-- What grid point `t` leaves in window 9's buffer, at an index of the array. -/
theorem out9 (c : Dev nD) (t : Fin cfg0.N) (y : S1x4x512x128.Idx) (i : S1x4x4096x128.Idx)
    (e1 : (i 1).val = (y 1).val) (e2 : (i 2).val = t.val * 512 + (y 2).val) (e3 : (i 3).val = (y 3).val) :
    out0_9 (grid0.coords t) (iblk m c 0 t) (iblk m c 1 t) (iblk m c 2 t) (iblk m c 3 t) (iblk m c 4 t) (iblk m c 5 t)
      (iblk m c 6 t) (iblk m c 7 t) y = KY m 256 (by decide) c i := by
  unfold out0_9 k0_pay27 k0_pay26 k0_pay25 k0_pay24 k0_pay23
  canon_tiles x h
  all_goals
    idx_vars x
    pointwise [k0_pay7, k0_pay8, k0_pay18, k0_pay19]
  · exact (second m c t x2 ⟨384 + x3.val, by omega⟩ _ rfl).trans (KY_at m _ _ c i _ _ _ (by rw [e1, h1]; show 1 = _; omega) (by rw [e2, h2])
      (by rw [e1, h1, e3, h3]; show 384 + x3.val = _; omega))
  · exact (second m c t x2 ⟨256 + x3.val, by omega⟩ _ rfl).trans (KY_at m _ _ c i _ _ _ (by rw [e1, h1]; show 1 = _; omega) (by rw [e2, h2])
      (by rw [e1, h1, e3, h3]; show 256 + x3.val = _; omega))
  · exact (first m c t x2 ⟨384 + x3.val, by omega⟩).trans (KY_at m _ _ c i _ _ _ (by rw [e1, h1]; show 0 = _; omega) (by rw [e2, h2])
      (by rw [e1, h1, e3, h3]; show 384 + x3.val = _; omega))
  · exact (first m c t x2 ⟨256 + x3.val, by omega⟩).trans (KY_at m _ _ c i _ _ _ (by rw [e1, h1]; show 0 = _; omega) (by rw [e2, h2])
      (by rw [e1, h1, e3, h3]; show 256 + x3.val = _; omega))

/-- The launch's output array of window 9. -/
theorem arr9 (c : Dev nD) : (dats m 0 c).arrAt 9 cfg0.N = KY m 256 (by decide) c := by
  refine (dats m 0 c).arrAt_eq_of_covers 9 _ (by decide +kernel) fun t hf y => ?_
  blk_simp
  rw [after0_9]
  refine out9 m c t y _ ?_ ?_ ?_
  · blk_simp [idx t]
  · blk_simp [idx t]
  · blk_simp [idx t]

/-- What grid point `t` leaves in window 10's buffer, at an index of the array. -/
theorem out10 (c : Dev nD) (t : Fin cfg0.N) (y : S1x4x512x128.Idx) (i : S1x4x4096x128.Idx)
    (e1 : (i 1).val = (y 1).val) (e2 : (i 2).val = t.val * 512 + (y 2).val) (e3 : (i 3).val = (y 3).val) :
    out0_10 (grid0.coords t) (iblk m c 0 t) (iblk m c 1 t) (iblk m c 2 t) (iblk m c 3 t) (iblk m c 4 t) (iblk m c 5 t)
      (iblk m c 6 t) (iblk m c 7 t) y = KY m 512 (by decide) c i := by
  unfold out0_10 k0_pay27 k0_pay26 k0_pay25 k0_pay24 k0_pay23
  canon_tiles x h
  all_goals
    idx_vars x
    pointwise [k0_pay9, k0_pay10, k0_pay11, k0_pay20, k0_pay21]
  · exact (second m c t x2 ⟨640 + x3.val, by omega⟩ _ rfl).trans (KY_at m _ _ c i _ _ _ (by rw [e1, h1]; show 1 = _; omega) (by rw [e2, h2])
      (by rw [e1, h1, e3, h3]; show 640 + x3.val = _; omega))
  · exact (second m c t x2 ⟨512 + x3.val, by omega⟩ _ rfl).trans (KY_at m _ _ c i _ _ _ (by rw [e1, h1]; show 1 = _; omega) (by rw [e2, h2])
      (by rw [e1, h1, e3, h3]; show 512 + x3.val = _; omega))
  · exact (first m c t x2 ⟨640 + x3.val, by omega⟩).trans (KY_at m _ _ c i _ _ _ (by rw [e1, h1]; show 0 = _; omega) (by rw [e2, h2])
      (by rw [e1, h1, e3, h3]; show 640 + x3.val = _; omega))
  · exact (first m c t x2 ⟨512 + x3.val, by omega⟩).trans (KY_at m _ _ c i _ _ _ (by rw [e1, h1]; show 0 = _; omega) (by rw [e2, h2])
      (by rw [e1, h1, e3, h3]; show 512 + x3.val = _; omega))

/-- The launch's output array of window 10. -/
theorem arr10 (c : Dev nD) : (dats m 0 c).arrAt 10 cfg0.N = KY m 512 (by decide) c := by
  refine (dats m 0 c).arrAt_eq_of_covers 10 _ (by decide +kernel) fun t hf y => ?_
  blk_simp
  rw [after0_10]
  refine out10 m c t y _ ?_ ?_ ?_
  · blk_simp [idx t]
  · blk_simp [idx t]
  · blk_simp [idx t]

end Kernel
/-- The reference's padded array holds zero outside and the row inside. -/
theorem pad_tap (x : D2 8192 768) (b : Fin 2) (j : ℕ) (n : Fin 768) {A : Prop} [Decidable A] (hA : A ↔ 1 ≤ j ∧ j ≤ 4096)
    (f : A → Fin 8192) (hf : ∀ h, (f h).val = b.val * 4096 + (j - 1)) :
    (if h : A then x (ix2 (f h) n) else FloatOps.sitofp (F := Ideal) FTy.f32 0#32) = tap x b j n := by
  unfold tap
  by_cases h : A
  · rw [dif_pos h, dif_pos (hA.1 h)]
    exact congrArg x (congrArg (ix2 · n) (Fin.ext (hf h)))
  · rw [dif_neg h, dif_neg fun h' => h (hA.2 h')]
    show ((((0#32 : BitVec 32).toInt : ℤ) : ℝ) : EReal) = 0
    simp

/-- The reference's padded rows, a channel vector laid out over every position, and its convolution. -/
def zp (x : D2 8192 768) : FVec Ideal PrepRefIdeal.S2x4098x768 .f32 :=
  pad PrepRefIdeal.S2x4098x768 ![0, 1, 0] ![0, 1, 0] ![0, 0, 0]
    (shapeCast PrepRefIdeal.S2x4096x768 (x : FVec Ideal PrepRefIdeal.S8192x768 .f32) PrepRefIdeal.Gen.shapeCasts_S8192x768_S2x4096x768)
    (sitofp FTy.f32 (constantI PrepRefIdeal.S_ 32 0#32)) PrepRefIdeal.Gen.pads_S2x4096x768_S2x4098x768_000_110_000 PrepRefIdeal.Gen.h_S_

def wide (v : FVec Ideal PrepRefIdeal.S768 .f32) : FVec Ideal PrepRefIdeal.S2x4096x768 .f32 :=
  broadcastInDim PrepRefIdeal.S2x4096x768 ![0, 1, 2] PrepRefIdeal.Gen.bcast_S1x1x768_S2x4096x768_0_1_2
    (broadcastInDim PrepRefIdeal.S1x1x768 ![2] PrepRefIdeal.Gen.bcast_S768_S1x1x768_2 v)

def zc (x : D2 8192 768) (w : FVec Ideal PrepRefIdeal.S3x768 .f32) (s : D1 768) : FVec Ideal PrepRefIdeal.S2x4096x768 .f32 :=
  addf (wide s)
    (addf (addf (addf
      (broadcastInDim PrepRefIdeal.S2x4096x768 ![] PrepRefIdeal.Gen.bcast_S_S2x4096x768 (constant PrepRefIdeal.S_ FTy.f32 0x00000000#32))
      (mulf (extractStridedSlice PrepRefIdeal.S2x4096x768 ![0, 0, 0] (zp x) PrepRefIdeal.Gen.slices_S2x4098x768_S2x4096x768_0_0_0)
        (wide (shapeCast PrepRefIdeal.S768 (extractStridedSlice PrepRefIdeal.S1x768 ![0, 0] w PrepRefIdeal.Gen.slices_S3x768_S1x768_0_0)
          PrepRefIdeal.Gen.shapeCasts_S1x768_S768))))
      (mulf (extractStridedSlice PrepRefIdeal.S2x4096x768 ![0, 1, 0] (zp x) PrepRefIdeal.Gen.slices_S2x4098x768_S2x4096x768_0_1_0)
        (wide (shapeCast PrepRefIdeal.S768 (extractStridedSlice PrepRefIdeal.S1x768 ![1, 0] w PrepRefIdeal.Gen.slices_S3x768_S1x768_1_0)
          PrepRefIdeal.Gen.shapeCasts_S1x768_S768))))
      (mulf (extractStridedSlice PrepRefIdeal.S2x4096x768 ![0, 2, 0] (zp x) PrepRefIdeal.Gen.slices_S2x4098x768_S2x4096x768_0_2_0)
        (wide (shapeCast PrepRefIdeal.S768 (extractStridedSlice PrepRefIdeal.S1x768 ![2, 0] w PrepRefIdeal.Gen.slices_S3x768_S1x768_2_0)
          PrepRefIdeal.Gen.shapeCasts_S1x768_S768))))

theorem zc_at (x : D2 8192 768) (w : D2 3 768) (s : D1 768) (b : Fin 2) (l : Fin 4096) (n : Fin 768) :
    zc x w s (ix3 b l n) = conv x w s b l.val n := by
  pointwise [zc, wide, zp, conv]
  rw [← add_assoc, ← add_assoc]
  refine congrArg₂ (· + ·) (congrArg₂ (· + ·) (congrArg (_ + ·) (congrArg (· * _) ?_)) (congrArg (· * _) ?_)) (congrArg (· * _) ?_)
  · exact pad_tap x b l.val n (by omega) _ (fun h => rfl)
  · unfold tap
    rw [dif_pos (by omega)]
    rfl
  · exact pad_tap x b (l.val + 2) n (by omega) _ (fun h => by show _ = _; simp only []; omega)

theorem slab0 (x : D2 8192 768) (w : D2 3 768) (s : D1 768) :
    shapeCast PrepRefIdeal.S1x4x4096x128 (transpose PrepRefIdeal.S2x2x4096x128 [0, 2, 1, 3] (shapeCast PrepRefIdeal.S2x4096x2x128
      (extractStridedSlice PrepRefIdeal.S2x4096x256 ![0, 0, 0] (zc x w s) PrepRefIdeal.Gen.slices_S2x4096x768_S2x4096x256_0_0_0)
      PrepRefIdeal.Gen.shapeCasts_S2x4096x256_S2x4096x2x128) PrepRefIdeal.Gen.transposes_S2x4096x2x128_S2x2x4096x128_0_2_1_3)
      PrepRefIdeal.Gen.shapeCasts_S2x2x4096x128_S1x4x4096x128 = YO 0 (by decide) x w s := by
  funext (i : S1x4x4096x128.Idx)
  idx_vars i
  generalize hz : zc x w s = z
  pointwise [YO]
  rw [← hz]
  refine (zc_at x w s _ _ _).trans ?_
  exact congrArg (conv x w s _ _) (Fin.ext (by simp))

theorem slab256 (x : D2 8192 768) (w : D2 3 768) (s : D1 768) :
    shapeCast PrepRefIdeal.S1x4x4096x128 (transpose PrepRefIdeal.S2x2x4096x128 [0, 2, 1, 3] (shapeCast PrepRefIdeal.S2x4096x2x128
      (extractStridedSlice PrepRefIdeal.S2x4096x256 ![0, 0, 256] (zc x w s) PrepRefIdeal.Gen.slices_S2x4096x768_S2x4096x256_0_0_256)
      PrepRefIdeal.Gen.shapeCasts_S2x4096x256_S2x4096x2x128) PrepRefIdeal.Gen.transposes_S2x4096x2x128_S2x2x4096x128_0_2_1_3)
      PrepRefIdeal.Gen.shapeCasts_S2x2x4096x128_S1x4x4096x128 = YO 256 (by decide) x w s := by
  funext (i : S1x4x4096x128.Idx)
  idx_vars i
  generalize hz : zc x w s = z
  pointwise [YO]
  rw [← hz]
  refine (zc_at x w s _ _ _).trans ?_
  exact congrArg (conv x w s _ _) (Fin.ext (Nat.add_assoc _ _ _).symm)

theorem slab512 (x : D2 8192 768) (w : D2 3 768) (s : D1 768) :
    shapeCast PrepRefIdeal.S1x4x4096x128 (transpose PrepRefIdeal.S2x2x4096x128 [0, 2, 1, 3] (shapeCast PrepRefIdeal.S2x4096x2x128
      (extractStridedSlice PrepRefIdeal.S2x4096x256 ![0, 0, 512] (zc x w s) PrepRefIdeal.Gen.slices_S2x4096x768_S2x4096x256_0_0_512)
      PrepRefIdeal.Gen.shapeCasts_S2x4096x256_S2x4096x2x128) PrepRefIdeal.Gen.transposes_S2x4096x2x128_S2x2x4096x128_0_2_1_3)
      PrepRefIdeal.Gen.shapeCasts_S2x2x4096x128_S1x4x4096x128 = YO 512 (by decide) x w s := by
  funext (i : S1x4x4096x128.Idx)
  idx_vars i
  generalize hz : zc x w s = z
  pointwise [YO]
  rw [← hz]
  refine (zc_at x w s _ _ _).trans ?_
  exact congrArg (conv x w s _ _) (Fin.ext (Nat.add_assoc _ _ _).symm)

section Reference

variable (m : (ℓ : Loc Cert.PrepRefIdeal.nD Cert.PrepRefIdeal.τ Cert.PrepRefIdeal.sig) → Buf (Elt Ideal) ℓ)

/-- The array `YO` of the reference's arguments. -/
abbrev RY (off : ℕ) (h : off + 256 ≤ 768) (c : Dev Cert.PrepRefIdeal.nD) : D4 1 4 4096 128 :=
  YO off h (m ((c.tc : Thread Cert.PrepRefIdeal.nD Cert.PrepRefIdeal.τ).loc Cert.PrepRefIdeal.main_arg0))
    (m ((c.tc : Thread Cert.PrepRefIdeal.nD Cert.PrepRefIdeal.τ).loc Cert.PrepRefIdeal.main_arg1))
    (m ((c.tc : Thread Cert.PrepRefIdeal.nD Cert.PrepRefIdeal.τ).loc Cert.PrepRefIdeal.main_arg2))

set_option maxHeartbeats 400000 in
/-- The reference ends with its three results at the three ranges of channels. -/
theorem runR (ρ : Dev Cert.PrepRefIdeal.nD → PrngReg) :
    θ_run Cert.PrepRefIdeal.defs (onTc (τ := Cert.PrepRefIdeal.τ) (Cert.PrepRefIdeal.main (F := Ideal)))
      ⟨m, fun _ => 0, ρ⟩ fun r => ∀ c : Dev Cert.PrepRefIdeal.nD,
      r.2.mem ((c.tc : Thread Cert.PrepRefIdeal.nD Cert.PrepRefIdeal.τ).loc Cert.PrepRefIdeal.main_v32) = RY m 0 (by decide) c
      ∧ r.2.mem ((c.tc : Thread Cert.PrepRefIdeal.nD Cert.PrepRefIdeal.τ).loc Cert.PrepRefIdeal.main_v35) = RY m 256 (by decide) c
      ∧ r.2.mem ((c.tc : Thread Cert.PrepRefIdeal.nD Cert.PrepRefIdeal.τ).loc Cert.PrepRefIdeal.main_v38) = RY m 512 (by decide) c
      ∧ r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2) := by
  refine Idealize.ShloMosaic.θ_run_mono (Cert.PrepRefIdeal.Value.run m ρ) ?_
  intro r h c
  obtain ⟨h1, h2, h3, h⟩ := h c
  refine ⟨h1.trans (slab0 (m (c.tc.loc PrepRefIdeal.main_arg0)) (m (c.tc.loc PrepRefIdeal.main_arg1)) (m (c.tc.loc PrepRefIdeal.main_arg2))),
    h2.trans (slab256 (m (c.tc.loc PrepRefIdeal.main_arg0)) (m (c.tc.loc PrepRefIdeal.main_arg1)) (m (c.tc.loc PrepRefIdeal.main_arg2))),
    h3.trans (slab512 (m (c.tc.loc PrepRefIdeal.main_arg0)) (m (c.tc.loc PrepRefIdeal.main_arg1)) (m (c.tc.loc PrepRefIdeal.main_arg2))), h⟩

end Reference

end Cert.PrepValue
-- ==== Proof.lean ====
module

public import proofs.«01_k».proof.Defs
public import proofs.«01_k».proof.Proof.Gen.CtxFirst.Frame
public import proofs.«01_k».proof.Proof.Gen.CtxFirstIdeal.Value
public import proofs.«01_k».proof.Proof.Gen.CtxFirstRefIdeal.Run
public import proofs.«01_k».proof.Proof.Gen.CtxNext.Frame
public import proofs.«01_k».proof.Proof.Gen.CtxNextIdeal.Value
public import proofs.«01_k».proof.Proof.Gen.CtxNextRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.InCtx.Frame
public import proofs.«01_k».proof.Proof.Gen.InCtxIdeal.Value
public import proofs.«01_k».proof.Proof.Gen.InCtxRefIdeal.Run
public import proofs.«01_k».proof.Proof.Gen.OutIn.Frame
public import proofs.«01_k».proof.Proof.Gen.OutInIdeal.Value
public import proofs.«01_k».proof.Proof.Gen.OutInRefIdeal.Run
public import proofs.«01_k».proof.Proof.Gen.OutInLat.Frame
public import proofs.«01_k».proof.Proof.Gen.OutInLatIdeal.Value
public import proofs.«01_k».proof.Proof.Gen.OutInLatRefIdeal.Run
public import proofs.«01_k».proof.Proof.Gen.OutCtx.Frame
public import proofs.«01_k».proof.Proof.Gen.OutCtxIdeal.Value
public import proofs.«01_k».proof.Proof.Gen.OutCtxRefIdeal.Run
public import proofs.«01_k».proof.Proof.Gen.OutLat.Frame
public import proofs.«01_k».proof.Proof.Gen.OutLatIdeal.Value
public import proofs.«01_k».proof.Proof.Gen.OutLatRefIdeal.Run
public import proofs.«01_k».proof.Proof.Gen.Mod.Frame
public import proofs.«01_k».proof.Proof.Gen.ModIdeal.Value
public import proofs.«01_k».proof.Proof.Gen.ModRefIdeal.Run
public import proofs.«01_k».proof.Proof.Gen.Prep.Frame
public import proofs.«01_k».proof.Proof.Gen.PrepIdeal.Value
public import proofs.«01_k».proof.Proof.Gen.PrepRefIdeal.Run
public import proofs.«01_k».proof.Proof.CtxPre
public import proofs.«01_k».proof.Proof.ModPre
public import proofs.«01_k».proof.Proof.CtxFirstValue
public import proofs.«01_k».proof.Proof.CtxNextValue
public import proofs.«01_k».proof.Proof.InProjValue
public import proofs.«01_k».proof.Proof.InCtxValue
public import proofs.«01_k».proof.Proof.OutInValue
public import proofs.«01_k».proof.Proof.OutInLatValue
public import proofs.«01_k».proof.Proof.OutCtxValue
public import proofs.«01_k».proof.Proof.OutLatValue
public import proofs.«01_k».proof.Proof.ModValue
public import proofs.«01_k».proof.Proof.PrepValue

/-! The claims: every program's frame, and that each kernel computes what its reference does over the extended reals. -/

@[expose] public section

set_option maxRecDepth 16384

noncomputable section

namespace Cert.Proof

open Idealize.ShloMosaic Idealize.ShloMosaic.TcCoe Idealize.SL.Sem

/-- The reference of the context attention of layer 0 terminates, leaves its arguments unchanged, and has no semaphores. -/
theorem frame_CtxFirstRef : Cert.quiescent_CtxFirstRefIdeal (hCtxFirstRefIdeal := Cert.CtxFirstRefIdeal.Gen.facts) := fun m g _ =>
  θ_run_mono (Cert.CtxFirstRefIdeal.Value.run m g) fun r h =>
    ⟨fun c => (h c).2.2.2, sem_eq_zero_of_no_sems (by decide) r.2⟩

/-- The launch and the reference of the context attention of layer 0 end with the same three arrays, wherever the reference's precondition holds. -/
theorem alg_CtxFirst : Cert.algebraic_CtxFirstIdeal_CtxFirstRefIdeal_pre_finite_first (hCtxFirstIdeal := Cert.CtxFirstIdeal.Gen.facts)
    (hCtxFirstRefIdeal := Cert.CtxFirstRefIdeal.Gen.facts) (hPre_finite_first := CtxPre.factsFirst) := by
  intro m g m' g' hpre hag
  have hx : ∀ c, Soft.Fine (CtxFirstValue.qkv m c) := fun c => CtxPre.fineFirst _ (hpre c)
  have e0 : ∀ c, CtxFirstValue.rqkv m' c = CtxFirstValue.qkv m c := hag
  refine ⟨fun c => Soft.att (CtxFirstValue.qkv m c),
    fun c => Soft.cache 0 512 (by decide) (CtxFirstValue.qkv m c)
      (fun _ => 0),
    fun c => Soft.cache 0 1024 (by decide) (CtxFirstValue.qkv m c)
      (fun _ => 0),
    θ_run_mono (Cert.CtxFirstIdeal.Value.run_blocks m g) fun r h c => ?_,
    θ_run_mono (CtxFirstValue.runR m' g') fun r h c => ?_⟩
  · obtain ⟨h3, h4, h5, h⟩ := h c
    exact ⟨h3.trans (CtxFirstValue.arr3 m c (hx c)), h4.trans (CtxFirstValue.arr4 m c), h5.trans (CtxFirstValue.arr5 m c), h⟩
  · have h := h c
    rw [e0 c] at h
    exact h

/-- The reference of the context attention of layer 1 terminates, leaves its arguments unchanged, and has no semaphores. -/
theorem frame_CtxNextRef : Cert.quiescent_CtxNextRefIdeal (hCtxNextRefIdeal := Cert.CtxNextRefIdeal.Gen.facts) := fun m g _ =>
  θ_run_mono (Cert.CtxNextRefIdeal.Value.run m g) fun r h =>
    ⟨fun c => (h c).2.2.2, sem_eq_zero_of_no_sems (by decide) r.2⟩

/-- The launch and the reference of the context attention of layer 1 end with the same three arrays, wherever the reference's precondition holds. -/
theorem alg_CtxNext : Cert.algebraic_CtxNextIdeal_CtxNextRefIdeal_pre_finite_next (hCtxNextIdeal := Cert.CtxNextIdeal.Gen.facts)
    (hCtxNextRefIdeal := Cert.CtxNextRefIdeal.Gen.facts) (hPre_finite_next := CtxPre.factsNext) := by
  intro m g m' g' hpre hag
  have hx : ∀ c, Soft.Fine (CtxNextValue.qkv m c) := fun c => CtxPre.fineNext _ _ _ (hpre c)
  have e0 : ∀ c, CtxNextValue.rqkv m' c = CtxNextValue.qkv m c := fun c => (hag c).1
  have e1 : ∀ c, CtxNextValue.rprevk m' c = m ((c.tc : Thread Cert.CtxNextIdeal.nD Cert.CtxNextIdeal.τ).loc Cert.CtxNextIdeal.main_arg1) :=
    fun c => (hag c).2.1
  have e2 : ∀ c, CtxNextValue.rprevv m' c = m ((c.tc : Thread Cert.CtxNextIdeal.nD Cert.CtxNextIdeal.τ).loc Cert.CtxNextIdeal.main_arg2) :=
    fun c => (hag c).2.2
  refine ⟨fun c => Soft.att (CtxNextValue.qkv m c),
    fun c => Soft.cache 1 512 (by decide) (CtxNextValue.qkv m c)
      (m ((c.tc : Thread Cert.CtxNextIdeal.nD Cert.CtxNextIdeal.τ).loc Cert.CtxNextIdeal.main_arg1)),
    fun c => Soft.cache 1 1024 (by decide) (CtxNextValue.qkv m c)
      (m ((c.tc : Thread Cert.CtxNextIdeal.nD Cert.CtxNextIdeal.τ).loc Cert.CtxNextIdeal.main_arg2)),
    θ_run_mono (Cert.CtxNextIdeal.Value.run_blocks m g) fun r h c => ?_,
    θ_run_mono (CtxNextValue.runR m' g') fun r h c => ?_⟩
  · obtain ⟨h3, h4, h5, h⟩ := h c
    exact ⟨h3.trans (CtxNextValue.arr3 m c (hx c)), h4.trans (CtxNextValue.arr4 m c), h5.trans (CtxNextValue.arr5 m c), h⟩
  · have h := h c
    rw [e0 c, e1 c, e2 c] at h
    exact h

/-- The reference of the latent tokens' input projection terminates, leaves its arguments unchanged, and has no semaphores. -/
theorem frame_InProjRef : Cert.quiescent_InProjRefIdeal (hInProjRefIdeal := Cert.InProjRefIdeal.Gen.facts) := fun m g _ =>
  θ_run_mono (Cert.InProjRefIdeal.Value.run m g) fun r h =>
    ⟨fun c => (h c).2.2.2.2.2, sem_eq_zero_of_no_sems (by decide) r.2⟩

/-- The launch and the reference of the latent tokens' input projection end with the same five arrays. -/
theorem alg_InProj : Cert.algebraic_InProjIdeal_InProjRefIdeal (hInProjIdeal := Cert.InProjIdeal.Gen.facts)
    (hInProjRefIdeal := Cert.InProjRefIdeal.Gen.facts) := by
  intro m g m' g' _ hag
  have e : ∀ c W off h, InProjValue.RY m' W off h c = InProjValue.KY m W off h c := by
    intro c W off h
    show InProjValue.YO W off h _ _ _ _ = InProjValue.YO W off h _ _ _ _
    rw [(hag c).1, (hag c).2.1, (hag c).2.2.1, (hag c).2.2.2]
  refine ⟨fun c => InProjValue.KY m 768 0 (by decide) c, fun c => InProjValue.KY m 1536 768 (by decide) c,
    fun c => InProjValue.KY m 128 2304 (by decide) c, fun c => InProjValue.KY m 128 2432 (by decide) c,
    fun c => InProjValue.KY m 1024 2560 (by decide) c,
    θ_run_mono (Cert.InProjIdeal.Value.run_blocks m g) fun r h c => ?_,
    θ_run_mono (InProjValue.runR m' g') fun r h c => ?_⟩
  · obtain ⟨h5, h6, h7, h8, h9, h⟩ := h c
    exact ⟨h5.trans (InProjValue.arr5 m c), h6.trans (InProjValue.arr6 m c), h7.trans (InProjValue.arr7 m c),
      h8.trans (InProjValue.arr8 m c), h9.trans (InProjValue.arr9 m c), h⟩
  · obtain ⟨h5, h6, h7, h8, h9, h⟩ := h c
    exact ⟨h5.trans (e c ..), h6.trans (e c ..), h7.trans (e c ..), h8.trans (e c ..), h9.trans (e c ..), h⟩

/-- The reference of the context tokens' input projection terminates, leaves its arguments unchanged, and has no semaphores. -/
theorem frame_InCtxRef : Cert.quiescent_InCtxRefIdeal (hInCtxRefIdeal := Cert.InCtxRefIdeal.Gen.facts) := fun m g _ =>
  θ_run_mono (Cert.InCtxRefIdeal.Value.run m g) fun r h =>
    ⟨fun c => (h c).2.2.2.2.2, sem_eq_zero_of_no_sems (by decide) r.2⟩

/-- The launch and the reference of the context tokens' input projection end with the same five arrays. -/
theorem alg_InCtx : Cert.algebraic_InCtxIdeal_InCtxRefIdeal (hInCtxIdeal := Cert.InCtxIdeal.Gen.facts)
    (hInCtxRefIdeal := Cert.InCtxRefIdeal.Gen.facts) := by
  intro m g m' g' _ hag
  have e : ∀ c W off h, InCtxValue.RY m' W off h c = InCtxValue.KY m W off h c := by
    intro c W off h
    show InCtxValue.YO W off h _ _ _ _ = InCtxValue.YO W off h _ _ _ _
    rw [(hag c).1, (hag c).2.1, (hag c).2.2.1, (hag c).2.2.2]
  refine ⟨fun c => InCtxValue.KY m 768 0 (by decide) c, fun c => InCtxValue.KY m 1536 768 (by decide) c,
    fun c => InCtxValue.KY m 128 2304 (by decide) c, fun c => InCtxValue.KY m 128 2432 (by decide) c,
    fun c => InCtxValue.KY m 1024 2560 (by decide) c,
    θ_run_mono (Cert.InCtxIdeal.Value.run_blocks m g) fun r h c => ?_,
    θ_run_mono (InCtxValue.runR m' g') fun r h c => ?_⟩
  · obtain ⟨h5, h6, h7, h8, h9, h⟩ := h c
    exact ⟨h5.trans (InCtxValue.arr5 m c), h6.trans (InCtxValue.arr6 m c), h7.trans (InCtxValue.arr7 m c),
      h8.trans (InCtxValue.arr8 m c), h9.trans (InCtxValue.arr9 m c), h⟩
  · obtain ⟨h5, h6, h7, h8, h9, h⟩ := h c
    exact ⟨h5.trans (e c ..), h6.trans (e c ..), h7.trans (e c ..), h8.trans (e c ..), h9.trans (e c ..), h⟩

/-- The reference of the context tokens' output projection and next input projection terminates, leaves its arguments unchanged, and has no semaphores. -/
theorem frame_OutInRef : Cert.quiescent_OutInRefIdeal (hOutInRefIdeal := Cert.OutInRefIdeal.Gen.facts) := fun m g _ =>
  θ_run_mono (Cert.OutInRefIdeal.Value.run m g) fun r h =>
    ⟨fun c => (h c).2.2.2.2.2.2, sem_eq_zero_of_no_sems (by decide) r.2⟩

/-- The launch and the reference of the context tokens' output projection, with the next layer's input projection,
    end with the same six arrays. -/
theorem alg_OutIn : Cert.algebraic_OutInIdeal_OutInRefIdeal (hOutInIdeal := Cert.OutInIdeal.Gen.facts)
    (hOutInRefIdeal := Cert.OutInRefIdeal.Gen.facts) := by
  intro m g m' g' _ hag
  have eX : ∀ c, OutInValue.RX m' c = OutInValue.KX m c := by
    intro c
    show OutInValue.X _ _ _ _ _ _ _ = OutInValue.X _ _ _ _ _ _ _
    rw [(hag c).1, (hag c).2.1, (hag c).2.2.1, (hag c).2.2.2.1, (hag c).2.2.2.2.1, (hag c).2.2.2.2.2.1,
      (hag c).2.2.2.2.2.2.1]
  have e : ∀ c W off h, OutInValue.RY m' W off h c = OutInValue.KY m W off h c := by
    intro c W off h
    unfold OutInValue.RY
    rw [eX c]
    show OutInValue.YO W off h (OutInValue.kres m c) _ _ _ = OutInValue.YO W off h (OutInValue.kres m c) _ _ _
    rw [(hag c).2.2.2.2.2.2.2.1, (hag c).2.2.2.2.2.2.2.2.1, (hag c).2.2.2.2.2.2.2.2.2]
  refine ⟨fun c => OutInValue.KX m c, fun c => OutInValue.KY m 768 0 (by decide) c,
    fun c => OutInValue.KY m 1536 768 (by decide) c, fun c => OutInValue.KY m 128 2304 (by decide) c,
    fun c => OutInValue.KY m 128 2432 (by decide) c, fun c => OutInValue.KY m 1024 2560 (by decide) c,
    θ_run_mono (Cert.OutInIdeal.Value.run_blocks m g) fun r h c => ?_,
    θ_run_mono (OutInValue.runR m' g') fun r h c => ?_⟩
  · obtain ⟨h11, h12, h13, h14, h15, h16, h⟩ := h c
    exact ⟨h11.trans (OutInValue.arr11 m c), h12.trans (OutInValue.arr12 m c), h13.trans (OutInValue.arr13 m c),
      h14.trans (OutInValue.arr14 m c), h15.trans (OutInValue.arr15 m c), h16.trans (OutInValue.arr16 m c), h⟩
  · obtain ⟨h11, h12, h13, h14, h15, h16, h⟩ := h c
    exact ⟨h11.trans (eX c), h12.trans (e c ..), h13.trans (e c ..), h14.trans (e c ..), h15.trans (e c ..),
      h16.trans (e c ..), h⟩

/-- The reference of the latent tokens' output projection and next input projection terminates, leaves its arguments unchanged, and has no semaphores. -/
theorem frame_OutInLatRef : Cert.quiescent_OutInLatRefIdeal (hOutInLatRefIdeal := Cert.OutInLatRefIdeal.Gen.facts) := fun m g _ =>
  θ_run_mono (Cert.OutInLatRefIdeal.Value.run m g) fun r h =>
    ⟨fun c => (h c).2.2.2.2.2.2, sem_eq_zero_of_no_sems (by decide) r.2⟩

/-- The launch and the reference of the latent tokens' output projection, with the next layer's input projection,
    end with the same six arrays. -/
theorem alg_OutInLat : Cert.algebraic_OutInLatIdeal_OutInLatRefIdeal (hOutInLatIdeal := Cert.OutInLatIdeal.Gen.facts)
    (hOutInLatRefIdeal := Cert.OutInLatRefIdeal.Gen.facts) := by
  intro m g m' g' _ hag
  have eX : ∀ c, OutInLatValue.RX m' c = OutInLatValue.KX m c := by
    intro c
    show OutInLatValue.X _ _ _ _ _ _ _ = OutInLatValue.X _ _ _ _ _ _ _
    rw [(hag c).1, (hag c).2.1, (hag c).2.2.1, (hag c).2.2.2.1, (hag c).2.2.2.2.1, (hag c).2.2.2.2.2.1,
      (hag c).2.2.2.2.2.2.1]
  have e : ∀ c W off h, OutInLatValue.RY m' W off h c = OutInLatValue.KY m W off h c := by
    intro c W off h
    unfold OutInLatValue.RY
    rw [eX c]
    show OutInLatValue.YO W off h (OutInLatValue.kres m c) _ _ _ = OutInLatValue.YO W off h (OutInLatValue.kres m c) _ _ _
    rw [(hag c).2.2.2.2.2.2.2.1, (hag c).2.2.2.2.2.2.2.2.1, (hag c).2.2.2.2.2.2.2.2.2]
  refine ⟨fun c => OutInLatValue.KX m c, fun c => OutInLatValue.KY m 768 0 (by decide) c,
    fun c => OutInLatValue.KY m 1536 768 (by decide) c, fun c => OutInLatValue.KY m 128 2304 (by decide) c,
    fun c => OutInLatValue.KY m 128 2432 (by decide) c, fun c => OutInLatValue.KY m 1024 2560 (by decide) c,
    θ_run_mono (Cert.OutInLatIdeal.Value.run_blocks m g) fun r h c => ?_,
    θ_run_mono (OutInLatValue.runR m' g') fun r h c => ?_⟩
  · obtain ⟨h11, h12, h13, h14, h15, h16, h⟩ := h c
    exact ⟨h11.trans (OutInLatValue.arr11 m c), h12.trans (OutInLatValue.arr12 m c), h13.trans (OutInLatValue.arr13 m c),
      h14.trans (OutInLatValue.arr14 m c), h15.trans (OutInLatValue.arr15 m c), h16.trans (OutInLatValue.arr16 m c), h⟩
  · obtain ⟨h11, h12, h13, h14, h15, h16, h⟩ := h c
    exact ⟨h11.trans (eX c), h12.trans (e c ..), h13.trans (e c ..), h14.trans (e c ..), h15.trans (e c ..),
      h16.trans (e c ..), h⟩

/-- The reference of the context tokens' output projection and final norm terminates, leaves its arguments unchanged, and has no semaphores. -/
theorem frame_OutCtxRef : Cert.quiescent_OutCtxRefIdeal (hOutCtxRefIdeal := Cert.OutCtxRefIdeal.Gen.facts) := fun m g _ =>
  θ_run_mono (Cert.OutCtxRefIdeal.Value.run m g) fun r h =>
    ⟨fun c => (h c).2, sem_eq_zero_of_no_sems (by decide) r.2⟩

/-- The launch and the reference of the context tokens' output projection and final norm end with the same array. -/
theorem alg_OutCtx : Cert.algebraic_OutCtxIdeal_OutCtxRefIdeal (hOutCtxIdeal := Cert.OutCtxIdeal.Gen.facts)
    (hOutCtxRefIdeal := Cert.OutCtxRefIdeal.Gen.facts) := by
  intro m g m' g' _ hag
  have e : ∀ c, OutCtxValue.RY m' c = OutCtxValue.KY m c := by
    intro c
    show OutCtxValue.Y _ _ _ _ _ _ _ _ = OutCtxValue.Y _ _ _ _ _ _ _ _
    rw [(hag c).1, (hag c).2.1, (hag c).2.2.1, (hag c).2.2.2.1, (hag c).2.2.2.2.1, (hag c).2.2.2.2.2.1,
      (hag c).2.2.2.2.2.2.1, (hag c).2.2.2.2.2.2.2]
  refine ⟨fun c => OutCtxValue.KY m c, θ_run_mono (Cert.OutCtxIdeal.Value.run_blocks m g) fun r h c => ?_,
    θ_run_mono (Cert.OutCtxRefIdeal.Value.run m' g') fun r h c => ?_⟩
  · exact ⟨(h c).1.trans (OutCtxValue.arr8 m c), (h c).2⟩
  · exact ⟨(h c).1.trans ((OutCtxValue.ref_eq m' c).trans (e c)), (h c).2⟩

/-- The reference of the latent tokens' output projection and final norm terminates, leaves its arguments unchanged, and has no semaphores. -/
theorem frame_OutLatRef : Cert.quiescent_OutLatRefIdeal (hOutLatRefIdeal := Cert.OutLatRefIdeal.Gen.facts) := fun m g _ =>
  θ_run_mono (Cert.OutLatRefIdeal.Value.run m g) fun r h =>
    ⟨fun c => (h c).2, sem_eq_zero_of_no_sems (by decide) r.2⟩

/-- The launch and the reference of the latent tokens' output projection and final norm end with the same array. -/
theorem alg_OutLat : Cert.algebraic_OutLatIdeal_OutLatRefIdeal (hOutLatIdeal := Cert.OutLatIdeal.Gen.facts)
    (hOutLatRefIdeal := Cert.OutLatRefIdeal.Gen.facts) := by
  intro m g m' g' _ hag
  have e : ∀ c, OutLatValue.RY m' c = OutLatValue.KY m c := by
    intro c
    show OutLatValue.Y _ _ _ _ _ _ _ _ = OutLatValue.Y _ _ _ _ _ _ _ _
    rw [(hag c).1, (hag c).2.1, (hag c).2.2.1, (hag c).2.2.2.1, (hag c).2.2.2.2.1, (hag c).2.2.2.2.2.1,
      (hag c).2.2.2.2.2.2.1, (hag c).2.2.2.2.2.2.2]
  refine ⟨fun c => OutLatValue.KY m c, θ_run_mono (Cert.OutLatIdeal.Value.run_blocks m g) fun r h c => ?_,
    θ_run_mono (Cert.OutLatRefIdeal.Value.run m' g') fun r h c => ?_⟩
  · exact ⟨(h c).1.trans (OutLatValue.arr8 m c), (h c).2⟩
  · exact ⟨(h c).1.trans ((OutLatValue.ref_eq m' c).trans (e c)), (h c).2⟩

/-- The reference of the modulation terminates, leaves its arguments unchanged, and has no semaphores. -/
theorem frame_ModRef : Cert.quiescent_ModRefIdeal (hModRefIdeal := Cert.ModRefIdeal.Gen.facts) := fun m g _ =>
  θ_run_mono (Cert.ModRefIdeal.Value.run m g) fun r h =>
    ⟨fun c => (h c).2, sem_eq_zero_of_no_sems (by decide) r.2⟩

/-- The launch and the reference of the modulation end with the same array, wherever the reference's precondition holds. -/
theorem alg_Mod : Cert.algebraic_ModIdeal_ModRefIdeal_pre_finite_mod (hModIdeal := Cert.ModIdeal.Gen.facts)
    (hModRefIdeal := Cert.ModRefIdeal.Gen.facts) (hPre_finite_mod := ModPre.facts) := by
  intro m g m' g' hpre hag
  have e : ∀ c, ModValue.RM m' c = ModValue.KM m c := by
    intro c
    show ModValue.M _ _ _ _ = ModValue.M _ _ _ _
    rw [(hag c).1, (hag c).2.1, (hag c).2.2.1, (hag c).2.2.2]
  refine ⟨fun c => ModValue.KM m c, θ_run_mono (Cert.ModIdeal.Value.run_blocks m g) fun r h c => ?_,
    θ_run_mono (ModValue.runR m' g') fun r h c => ?_⟩
  · exact ⟨(h c).1.trans (ModValue.arr3 m c (ModPre.fine _ _ _ _ (hpre c))), (h c).2⟩
  · exact ⟨(h c).1.trans (e c), (h c).2⟩

/-- The reference of the latent tokens' short convolution terminates, leaves its arguments unchanged, and has no semaphores. -/
theorem frame_PrepRef : Cert.quiescent_PrepRefIdeal (hPrepRefIdeal := Cert.PrepRefIdeal.Gen.facts) := fun m g _ =>
  θ_run_mono (Cert.PrepRefIdeal.Value.run m g) fun r h =>
    ⟨fun c => (h c).2.2.2, sem_eq_zero_of_no_sems (by decide) r.2⟩

/-- The launch and the reference of the latent tokens' short convolution end with the same three arrays. -/
theorem alg_Prep : Cert.algebraic_PrepIdeal_PrepRefIdeal (hPrepIdeal := Cert.PrepIdeal.Gen.facts)
    (hPrepRefIdeal := Cert.PrepRefIdeal.Gen.facts) := by
  intro m g m' g' _ hag
  have e : ∀ c off h, PrepValue.RY m' off h c = PrepValue.KY m off h c := by
    intro c off h
    show PrepValue.YO off h _ _ _ = PrepValue.YO off h _ _ _
    rw [(hag c).1, (hag c).2.1, (hag c).2.2]
  refine ⟨fun c => PrepValue.KY m 0 (by decide) c, fun c => PrepValue.KY m 256 (by decide) c,
    fun c => PrepValue.KY m 512 (by decide) c,
    θ_run_mono (Cert.PrepIdeal.Value.run_blocks m g) fun r h c => ?_,
    θ_run_mono (PrepValue.runR m' g') fun r h c => ?_⟩
  · obtain ⟨h8, h9, h10, h⟩ := h c
    exact ⟨h8.trans (PrepValue.arr8 m c), h9.trans (PrepValue.arr9 m c), h10.trans (PrepValue.arr10 m c), h⟩
  · obtain ⟨h8, h9, h10, h⟩ := h c
    exact ⟨h8.trans (e c ..), h9.trans (e c ..), h10.trans (e c ..), h⟩

/-- The claim of this directory. -/
theorem claim : Cert.Claim := ⟨Cert.CtxFirst.Gen.facts, Cert.CtxFirstIdeal.Gen.facts, Cert.CtxFirstRefIdeal.Gen.facts, Cert.CtxNext.Gen.facts, Cert.CtxNextIdeal.Gen.facts, Cert.CtxNextRefIdeal.Gen.facts, Cert.InProj.Gen.facts, Cert.InProjIdeal.Gen.facts, Cert.InProjRefIdeal.Gen.facts, Cert.InCtx.Gen.facts, Cert.InCtxIdeal.Gen.facts, Cert.InCtxRefIdeal.Gen.facts, Cert.OutIn.Gen.facts, Cert.OutInIdeal.Gen.facts, Cert.OutInRefIdeal.Gen.facts, Cert.OutInLat.Gen.facts, Cert.OutInLatIdeal.Gen.facts, Cert.OutInLatRefIdeal.Gen.facts, Cert.OutCtx.Gen.facts, Cert.OutCtxIdeal.Gen.facts, Cert.OutCtxRefIdeal.Gen.facts, Cert.OutLat.Gen.facts, Cert.OutLatIdeal.Gen.facts, Cert.OutLatRefIdeal.Gen.facts, Cert.Mod.Gen.facts, Cert.ModIdeal.Gen.facts, Cert.ModRefIdeal.Gen.facts, Cert.Prep.Gen.facts, Cert.PrepIdeal.Gen.facts, Cert.PrepRefIdeal.Gen.facts, CtxPre.factsFirst, CtxPre.factsNext, ModPre.facts,
  fun m ρ _ => Cert.CtxFirst.Gen.frame m ρ, fun m ρ _ => Cert.CtxFirstIdeal.Gen.frame m ρ, fun m ρ _ => Cert.CtxFirstIdeal.Gen.frame m ρ,
  frame_CtxFirstRef, fun m g _ => frame_CtxFirstRef m g trivial,
  fun m ρ _ => Cert.CtxNext.Gen.frame m ρ, fun m ρ _ => Cert.CtxNextIdeal.Gen.frame m ρ, fun m ρ _ => Cert.CtxNextIdeal.Gen.frame m ρ,
  frame_CtxNextRef, fun m g _ => frame_CtxNextRef m g trivial,
  fun m ρ _ => Cert.InProj.Gen.frame m ρ, fun m ρ _ => Cert.InProjIdeal.Gen.frame m ρ, frame_InProjRef,
  fun m ρ _ => Cert.InCtx.Gen.frame m ρ, fun m ρ _ => Cert.InCtxIdeal.Gen.frame m ρ, frame_InCtxRef,
  fun m ρ _ => Cert.OutIn.Gen.frame m ρ, fun m ρ _ => Cert.OutInIdeal.Gen.frame m ρ, frame_OutInRef,
  fun m ρ _ => Cert.OutInLat.Gen.frame m ρ, fun m ρ _ => Cert.OutInLatIdeal.Gen.frame m ρ, frame_OutInLatRef,
  fun m ρ _ => Cert.OutCtx.Gen.frame m ρ, fun m ρ _ => Cert.OutCtxIdeal.Gen.frame m ρ, frame_OutCtxRef,
  fun m ρ _ => Cert.OutLat.Gen.frame m ρ, fun m ρ _ => Cert.OutLatIdeal.Gen.frame m ρ, frame_OutLatRef,
  fun m ρ _ => Cert.Mod.Gen.frame m ρ, fun m ρ _ => Cert.ModIdeal.Gen.frame m ρ, fun m ρ _ => Cert.ModIdeal.Gen.frame m ρ,
  frame_ModRef, fun m g _ => frame_ModRef m g trivial,
  fun m ρ _ => Cert.Prep.Gen.frame m ρ, fun m ρ _ => Cert.PrepIdeal.Gen.frame m ρ, frame_PrepRef,
  trivial, alg_CtxFirst,
  trivial, alg_CtxNext,
  trivial, alg_InProj,
  trivial, alg_InCtx,
  trivial, alg_OutIn,
  trivial, alg_OutInLat,
  trivial, alg_OutCtx,
  trivial, alg_OutLat,
  trivial, alg_Mod,
  trivial, alg_Prep⟩

end Cert.Proof

end
